-- ==== Defs.lean ====
def Pre_Kernel [hPre_superpoints : Cert.Pre_superpoints.Facts] (m : (ℓ : Loc Cert.Kernel.nD Cert.Kernel.τ Cert.Kernel.sig) → Buf (Elt Bits) ℓ) : Prop :=
  ∀ c : Dev Cert.Kernel.nD,
    (Cert.Pre_superpoints.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_superpoints : Cert.Pre_superpoints.Facts] (m : (ℓ : Loc Cert.KernelIdeal.nD Cert.KernelIdeal.τ Cert.KernelIdeal.sig) → Buf (Elt Ideal) ℓ) : Prop :=
  ∀ c : Dev Cert.KernelIdeal.nD,
    (Cert.Pre_superpoints.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_superpoints : Cert.Pre_superpoints.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_superpoints : Cert.Pre_superpoints.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "neg" .f32 0xFF61B1E6#32 ⊥
  ∧ IdealRules.named_const.Statement Cert.KernelIdeal.κ "neg_test" .f32 0xF149F2CA#32 ⊥

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_superpoints : Cert.Pre_superpoints.Facts) (hPre_finite_points : Cert.Pre_finite_points.Facts),
    quiescent_Kernel (hKernel := hKernel) (hPre_superpoints := hPre_superpoints)
    ∧ quiescent_KernelIdeal (hKernelIdeal := hKernelIdeal) (hPre_superpoints := hPre_superpoints)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S4x2048x13 : Shape := ⟨3, ![4, 2048, 13]⟩
abbrev S4x2048 : Shape := ⟨2, ![4, 2048]⟩
abbrev S4x407x6 : Shape := ⟨3, ![4, 407, 6]⟩
abbrev S4x407x814 : Shape := ⟨3, ![4, 407, 814]⟩
abbrev S12x64 : Shape := ⟨2, ![12, 64]⟩
abbrev S64x128 : Shape := ⟨2, ![64, 128]⟩
abbrev S128x256 : Shape := ⟨2, ![128, 256]⟩
abbrev S512x512 : Shape := ⟨2, ![512, 512]⟩
abbrev S1536x512 : Shape := ⟨2, ![1536, 512]⟩
abbrev S774x512 : Shape := ⟨2, ![774, 512]⟩
abbrev S512x1024 : Shape := ⟨2, ![512, 1024]⟩
abbrev S_ : Shape := ⟨0, ![]⟩
abbrev S4x2048x12 : Shape := ⟨3, ![4, 2048, 12]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  slices_S4x2048x13_S4x2048x12_0_0_0 : S4x2048x13.Slices ![0, 0, 0] S4x2048x12
  bcast_S_S4x2048x12 : S_.BroadcastsInDim S4x2048x12 (![] : Fin 0 → Fin S4x2048x12.rank)
  reducesTo_S4x2048x12_S_d0_1_2 : S4x2048x12.ReducesTo [0, 1, 2] S_
  bcast_S_S12x64 : S_.BroadcastsInDim S12x64 (![] : Fin 0 → Fin S12x64.rank)
  reducesTo_S12x64_S_d0_1 : S12x64.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg5 : FVec F S64x128 .f32) (main_arg6 : FVec F S128x256 .f32) (main_v16 : IVec S_ 1) : IVec S_ 1 :=
  let main_v17 : FVec F S64x128 .f32 := Host.absf main_arg5
  let main_cst_5 : FVec F S_ .f32 := constant S_ .f32 0x7F800000#32
  let main_v18 : FVec F S64x128 .f32 := broadcastInDim S64x128 ![] bcast_S_S64x128 main_cst_5
  let main_v19 : IVec S64x128 1 := cmpf .olt main_v17 main_v18
  let main_c_6 : IVec S_ 1 := constantI S_ 1 1#1
  let main_v20 : IVec S_ 1 := (fun x v => Host.reduce IntOp.andi x v reducesTo_S64x128_S_d0_1 h_S_) main_v19 main_c_6
  let main_v21 : IVec S_ 1 := andi main_v16 main_v20
  let main_v22 : FVec F S128x256 .f32 := Host.absf main_arg6
  let main_cst_7 : FVec F S_ .f32 := constant S_ .f32 0x7F800000#32
  let main_v23 : FVec F S128x256 .f32 := broadcastInDim S128x256 ![] bcast_S_S128x256 main_cst_7
  let main_v24 : IVec S128x256 1 := cmpf .olt main_v22 main_v23
  let main_c_8 : IVec S_ 1 := constantI S_ 1 1#1
  let main_v25 : IVec S_ 1 := (fun x v => Host.reduce IntOp.andi x v reducesTo_S128x256_S_d0_1 h_S_) main_v24 main_c_8
  let main_v26 : IVec S_ 1 := andi main_v21 main_v25
  main_v26

def fn {F : FTy → Type} [FloatOps F] (main_arg0 : FVec F S4x2048x13 .f32) (main_arg1 : IVec S4x2048 32) (main_arg2 : FVec F S4x407x6 .f32) (main_arg3 : FVec F S4x407x814 .f32) (main_arg4 : FVec F S12x64 .f32) (main_arg5 : FVec F S64x128 .f32) (main_arg6 : FVec F S128x256 .f32) (main_arg7 : FVec F S512x512 .f32) (main_arg8 : FVec F S512x512 .f32) (main_arg9 : FVec F S1536x512 .f32) (main_arg10 : FVec F S1536x512 .f32) (main_arg11 : FVec F S1536x512 .f32) (main_arg12 : FVec F S774x512 .f32) (main_arg13 : FVec F S512x1024 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 407#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  let main_v6 : FVec F S4x2048x12 .f32 := (extractStridedSlice S4x2048x12 ![0, 0, 0] · slices_S4x2048x13_S4x2048x12_0_0_0) main_arg0
  let main_v7 : FVec F S4x2048x12 .f32 := Host.absf main_v6
  let main_cst : FVec F S_ .f32 := constant S_ .f32 0x7F800000#32
  let main_v8 : FVec F S4x2048x12 .f32 := broadcastInDim S4x2048x12 ![] bcast_S_S4x2048x12 main_cst
  let main_v9 : IVec S4x2048x12 1 := cmpf .olt main_v7 main_v8
  let main_c_2 : IVec S_ 1 := constantI S_ 1 1#1
  let main_v10 : IVec S_ 1 := (fun x v => Host.reduce IntOp.andi x v reducesTo_S4x2048x12_S_d0_1_2 h_S_) main_v9 main_c_2
  let main_v11 : IVec S_ 1 := andi main_v5 main_v10
  let main_v12 : FVec F S12x64 .f32 := Host.absf main_arg4
  let main_cst_3 : FVec F S_ .f32 := constant S_ .f32 0x7F800000#32
  let main_v13 : FVec F S12x64 .f32 := broadcastInDim S12x64 ![] bcast_S_S12x64 main_cst_3
  let main_v14 : IVec S12x64 1 := cmpf .olt main_v12 main_v13
  let main_c_4 : IVec S_ 1 := constantI S_ 1 1#1
  let main_v15 : IVec S_ 1 := (fun x v => Host.reduce IntOp.andi x v reducesTo_S12x64_S_d0_1 h_S_) main_v14 main_c_4
  let main_v16 : IVec S_ 1 := andi main_v11 main_v15
  fn_part1 (F := F) main_arg5 main_arg6 main_v16
-- ==== Pre_superpoints.lean ====
abbrev S4x2048x13 : Shape := ⟨3, ![4, 2048, 13]⟩
abbrev S4x2048 : Shape := ⟨2, ![4, 2048]⟩
abbrev S4x407x6 : Shape := ⟨3, ![4, 407, 6]⟩
abbrev S4x407x814 : Shape := ⟨3, ![4, 407, 814]⟩
abbrev S12x64 : Shape := ⟨2, ![12, 64]⟩
abbrev S64x128 : Shape := ⟨2, ![64, 128]⟩
abbrev S128x256 : Shape := ⟨2, ![128, 256]⟩
abbrev S512x512 : Shape := ⟨2, ![512, 512]⟩
abbrev S1536x512 : Shape := ⟨2, ![1536, 512]⟩
abbrev S774x512 : Shape := ⟨2, ![774, 512]⟩
abbrev S512x1024 : Shape := ⟨2, ![512, 1024]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S4x2048x13 .f32) (main_arg1 : IVec S4x2048 32) (main_arg2 : FVec F S4x407x6 .f32) (main_arg3 : FVec F S4x407x814 .f32) (main_arg4 : FVec F S12x64 .f32) (main_arg5 : FVec F S64x128 .f32) (main_arg6 : FVec F S128x256 .f32) (main_arg7 : FVec F S512x512 .f32) (main_arg8 : FVec F S512x512 .f32) (main_arg9 : FVec F S1536x512 .f32) (main_arg10 : FVec F S1536x512 .f32) (main_arg11 : FVec F S1536x512 .f32) (main_arg12 : FVec F S774x512 .f32) (main_arg13 : FVec F S512x1024 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 407#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  main_v5
-- ==== Kernel.lean ====
abbrev S4x2048x13 : Shape := ⟨3, ![4, 2048, 13]⟩
abbrev S4x2048 : Shape := ⟨2, ![4, 2048]⟩
abbrev S4x407x6 : Shape := ⟨3, ![4, 407, 6]⟩
abbrev S4x407x814 : Shape := ⟨3, ![4, 407, 814]⟩
abbrev S12x64 : Shape := ⟨2, ![12, 64]⟩
abbrev S64x128 : Shape := ⟨2, ![64, 128]⟩
abbrev S128x256 : Shape := ⟨2, ![128, 256]⟩
abbrev S512x512 : Shape := ⟨2, ![512, 512]⟩
abbrev S1536x512 : Shape := ⟨2, ![1536, 512]⟩
abbrev S774x512 : Shape := ⟨2, ![774, 512]⟩
abbrev S512x1024 : Shape := ⟨2, ![512, 1024]⟩
abbrev S4x2048x12 : Shape := ⟨3, ![4, 2048, 12]⟩
abbrev S8192x12 : Shape := ⟨2, ![8192, 12]⟩
abbrev S8192 : Shape := ⟨1, ![8192]⟩
abbrev S4x407x407 : Shape := ⟨3, ![4, 407, 407]⟩
abbrev S_ : Shape := ⟨0, ![]⟩
abbrev S4x512x512 : Shape := ⟨3, ![4, 512, 512]⟩
abbrev S1536x1024 : Shape := ⟨2, ![1536, 1024]⟩
abbrev S262x512 : Shape := ⟨2, ![262, 512]⟩
abbrev S8192x256 : Shape := ⟨2, ![8192, 256]⟩
abbrev S512x12 : Shape := ⟨2, ![512, 12]⟩
abbrev S512x64 : Shape := ⟨2, ![512, 64]⟩
abbrev S512x128 : Shape := ⟨2, ![512, 128]⟩
abbrev S512x256 : Shape := ⟨2, ![512, 256]⟩
abbrev S4x2048x8x32 : Shape := ⟨4, ![4, 2048, 8, 32]⟩
abbrev S4x8x2048x32 : Shape := ⟨4, ![4, 8, 2048, 32]⟩
abbrev S32x512x128 : Shape := ⟨3, ![32, 512, 128]⟩
abbrev S32x128x128 : Shape := ⟨3, ![32, 128, 128]⟩
abbrev S2048 : Shape := ⟨1, ![2048]⟩
abbrev S128x128 : Shape := ⟨2, ![128, 128]⟩
abbrev S512x32 : Shape := ⟨2, ![512, 32]⟩
abbrev S16 : Shape := ⟨1, ![16]⟩
abbrev S1x16 : Shape := ⟨2, ![1, 16]⟩
abbrev S1x128x128 : Shape := ⟨3, ![1, 128, 128]⟩
abbrev S1 : Shape := ⟨1, ![1]⟩
abbrev S4x8x512x32 : Shape := ⟨4, ![4, 8, 512, 32]⟩
abbrev S4x512x8x32 : Shape := ⟨4, ![4, 512, 8, 32]⟩
abbrev S2048x256 : Shape := ⟨2, ![2048, 256]⟩
abbrev S4x1792x407 : Shape := ⟨3, ![4, 1792, 407]⟩
abbrev S1x407x6 : Shape := ⟨3, ![1, 407, 6]⟩
abbrev S1x512x512 : Shape := ⟨3, ![1, 512, 512]⟩
abbrev S1x1792x407 : Shape := ⟨3, ![1, 1792, 407]⟩
abbrev S407x256 : Shape := ⟨2, ![407, 256]⟩
abbrev S407x6 : Shape := ⟨2, ![407, 6]⟩
abbrev S512x1536 : Shape := ⟨2, ![512, 1536]⟩
abbrev S1024 : Shape := ⟨1, ![1024]⟩
abbrev S1024x1 : Shape := ⟨2, ![1024, 1]⟩
abbrev S1024x407 : Shape := ⟨2, ![1024, 407]⟩
abbrev S1x1024x407 : Shape := ⟨3, ![1, 1024, 407]⟩
abbrev S512x407 : Shape := ⟨2, ![512, 407]⟩
abbrev S1x512x407 : Shape := ⟨3, ![1, 512, 407]⟩
abbrev S256x512 : Shape := ⟨2, ![256, 512]⟩
abbrev S256x407 : Shape := ⟨2, ![256, 407]⟩
abbrev S1x256x407 : Shape := ⟨3, ![1, 256, 407]⟩

abbrev nBuf : Table → Nat
  | .hbm => 49
  | .local .tc .vmem => 22
  | .local .scVector .vmem => 4
  | _ => 0

abbrev bufTy : (tb : Table) → Fin (nBuf tb) → BufTy
  | .hbm, ⟨0, _⟩ => ⟨S4x2048x13, .f32⟩
  | .hbm, ⟨1, _⟩ => ⟨S4x2048, .i32⟩
  | .hbm, ⟨2, _⟩ => ⟨S4x407x6, .f32⟩
  | .hbm, ⟨3, _⟩ => ⟨S4x407x814, .f32⟩
  | .hbm, ⟨4, _⟩ => ⟨S12x64, .f32⟩
  | .hbm, ⟨5, _⟩ => ⟨S64x128, .f32⟩
  | .hbm, ⟨6, _⟩ => ⟨S128x256, .f32⟩
  | .hbm, ⟨7, _⟩ => ⟨S512x512, .f32⟩
  | .hbm, ⟨8, _⟩ => ⟨S512x512, .f32⟩
  | .hbm, ⟨9, _⟩ => ⟨S1536x512, .f32⟩
  | .hbm, ⟨10, _⟩ => ⟨S1536x512, .f32⟩
  | .hbm, ⟨11, _⟩ => ⟨S1536x512, .f32⟩
  | .hbm, ⟨12, _⟩ => ⟨S774x512, .f32⟩
  | .hbm, ⟨13, _⟩ => ⟨S512x1024, .f32⟩
  | .hbm, ⟨14, _⟩ => ⟨S4x2048x12, .f32⟩
  | .hbm, ⟨15, _⟩ => ⟨S8192x12, .f32⟩
  | .hbm, ⟨16, _⟩ => ⟨S8192, .i32⟩
  | .hbm, ⟨17, _⟩ => ⟨S4x407x407, .f32⟩
  | .hbm, ⟨18, _⟩ => ⟨S_, .i32⟩
  | .hbm, ⟨19, _⟩ => ⟨S_, .f32⟩
  | .hbm, ⟨20, _⟩ => ⟨S4x512x512, .f32⟩
  | .hbm, ⟨21, _⟩ => ⟨S4x407x407, .f32⟩
  | .hbm, ⟨22, _⟩ => ⟨S_, .i32⟩
  | .hbm, ⟨23, _⟩ => ⟨S_, .f32⟩
  | .hbm, ⟨24, _⟩ => ⟨S4x512x512, .f32⟩
  | .hbm, ⟨25, _⟩ => ⟨S512x1024, .f32⟩
  | .hbm, ⟨26, _⟩ => ⟨S512x1024, .bf16⟩
  | .hbm, ⟨27, _⟩ => ⟨S1536x1024, .f32⟩
  | .hbm, ⟨28, _⟩ => ⟨S1536x1024, .bf16⟩
  | .hbm, ⟨29, _⟩ => ⟨S1536x512, .bf16⟩
  | .hbm, ⟨30, _⟩ => ⟨S512x512, .f32⟩
  | .hbm, ⟨31, _⟩ => ⟨S512x512, .bf16⟩
  | .hbm, ⟨32, _⟩ => ⟨S262x512, .f32⟩
  | .hbm, ⟨33, _⟩ => ⟨S_, .i32⟩
  | .hbm, ⟨34, _⟩ => ⟨S_, .f32⟩
  | .hbm, ⟨35, _⟩ => ⟨S512x512, .f32⟩
  | .hbm, ⟨36, _⟩ => ⟨S512x512, .bf16⟩
  | .hbm, ⟨37, _⟩ => ⟨S512x1024, .bf16⟩
  | .hbm, ⟨38, _⟩ => ⟨S8192x256, .f32⟩
  | .hbm, ⟨39, _⟩ => ⟨S4x2048x8x32, .f32⟩
  | .hbm, ⟨40, _⟩ => ⟨S4x8x2048x32, .f32⟩
  | .hbm, ⟨41, _⟩ => ⟨S32x512x128, .f32⟩
  | .hbm, ⟨42, _⟩ => ⟨S32x128x128, .f32⟩
  | .hbm, ⟨43, _⟩ => ⟨S4x8x512x32, .f32⟩
  | .hbm, ⟨44, _⟩ => ⟨S4x512x8x32, .f32⟩
  | .hbm, ⟨45, _⟩ => ⟨S2048x256, .f32⟩
  | .hbm, ⟨46, _⟩ => ⟨S4x512x512, .bf16⟩
  | .hbm, ⟨47, _⟩ => ⟨S4x512x512, .bf16⟩
  | .hbm, ⟨48, _⟩ => ⟨S4x1792x407, .f32⟩
  | .local .tc .vmem, ⟨0, _⟩ => ⟨S8192x12, .f32⟩
  | .local .tc .vmem, ⟨1, _⟩ => ⟨S12x64, .f32⟩
  | .local .tc .vmem, ⟨2, _⟩ => ⟨S64x128, .f32⟩
  | .local .tc .vmem, ⟨3, _⟩ => ⟨S128x256, .f32⟩
  | .local .tc .vmem, ⟨4, _⟩ => ⟨S8192x256, .f32⟩
  | .local .tc .vmem, ⟨5, _⟩ => ⟨S2048x256, .f32⟩
  | .local .tc .vmem, ⟨6, _⟩ => ⟨S1x407x6, .f32⟩
  | .local .tc .vmem, ⟨7, _⟩ => ⟨S1x407x6, .f32⟩
  | .local .tc .vmem, ⟨8, _⟩ => ⟨S1x512x512, .bf16⟩
  | .local .tc .vmem, ⟨9, _⟩ => ⟨S1x512x512, .bf16⟩
  | .local .tc .vmem, ⟨10, _⟩ => ⟨S1x512x512, .bf16⟩
  | .local .tc .vmem, ⟨11, _⟩ => ⟨S1x512x512, .bf16⟩
  | .local .tc .vmem, ⟨12, _⟩ => ⟨S512x1024, .bf16⟩
  | .local .tc .vmem, ⟨13, _⟩ => ⟨S1536x1024, .bf16⟩
  | .local .tc .vmem, ⟨14, _⟩ => ⟨S1536x512, .bf16⟩
  | .local .tc .vmem, ⟨15, _⟩ => ⟨S512x512, .bf16⟩
  | .local .tc .vmem, ⟨16, _⟩ => ⟨S512x512, .bf16⟩
  | .local .tc .vmem, ⟨17, _⟩ => ⟨S512x1024, .bf16⟩
  | .local .tc .vmem, ⟨18, _⟩ => ⟨S1x1792x407, .f32⟩
  | .local .tc .vmem, ⟨19, _⟩ => ⟨S1x1792x407, .f32⟩
  | .local .tc .vmem, ⟨20, _⟩ => ⟨S512x512, .f32⟩
  | .local .tc .vmem, ⟨21, _⟩ => ⟨S512x512, .f32⟩
  | .local .scVector .vmem, ⟨0, _⟩ => ⟨S2048, .i32⟩
  | .local .scVector .vmem, ⟨1, _⟩ => ⟨S128x128, .f32⟩
  | .local .scVector .vmem, ⟨2, _⟩ => ⟨S512x32, .f32⟩
  | .local .scVector .vmem, ⟨3, _⟩ => ⟨S128x128, .f32⟩
  | _, _ => ⟨S4x2048x13, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_call1_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_call2_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v21_scv : Ref sig .scVector := ⟨.hbm, 41, rfl⟩
abbrev main_v2_scv : Ref sig .scVector := ⟨.hbm, 16, rfl⟩
abbrev main_v22_scv : Ref sig .scVector := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_stg9_0 : Ref sig .tc := ⟨.vmem, 17, rfl⟩
abbrev cc2_stg10_0 : Ref sig .tc := ⟨.vmem, 18, rfl⟩
abbrev cc2_stg10_1 : Ref sig .tc := ⟨.vmem, 19, rfl⟩
abbrev cc2_scratch0 : Ref sig .tc := ⟨.vmem, 20, rfl⟩
abbrev cc2_scratch1 : Ref sig .tc := ⟨.vmem, 21, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem10_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S8192x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_5 : BitVec 32 := 0#32
  let c512_i32 : BitVec 32 := 512#32
  let v20 : BitVec 32 := Scalar.addi c0_i32_5 c512_i32
  let c1_i32_6 : BitVec 32 := 1#32
  ⟨c0_i32_5, v20, c1_i32_6⟩
def k1_off1 (k1_t1 : Fin k1_t1_loop.trips) : Fin 2 → Nat :=
  let c0_i32_5 : BitVec 32 := 0#32
  let c1_i32_6 : BitVec 32 := 1#32
  let arg9 : BitVec 32 := Scf.iv c0_i32_5 c1_i32_6 k1_t1
  let v33 : Index := Scalar.indexCast arg9
  let c0 : Index := 0#32
  ![v33.toNat, 0]
def k1_off2 (k1_t1 : Fin k1_t1_loop.trips) : Fin 2 → Nat :=
  let c0_i32_5 : BitVec 32 := 0#32
  let c1_i32_6 : BitVec 32 := 1#32
  let arg9 : BitVec 32 := Scf.iv c0_i32_5 c1_i32_6 k1_t1
  let v37 : Index := Scalar.indexCast arg9
  let c16 : Index := 16#32
  ![v37.toNat, 16]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c2048_i32 : BitVec 32 := 2048#32
  let v22 : BitVec 32 := Scalar.muli v18 c2048_i32
  ![v22.toNat]
def k1_off4 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_31_r1 : BitVec 32 := 0#32
  let c0_i32_32_r1 : BitVec 32 := 0#32
  ![v1.toNat, 0, 0]
@[reducible] def k1_t2_loop : Scf.Loop 32 :=
  let c0_i32_9 : BitVec 32 := 0#32
  let c32_i32 : BitVec 32 := 32#32
  let v23 : BitVec 32 := Scalar.addi c0_i32_9 c32_i32
  let c1_i32_10 : BitVec 32 := 1#32
  ⟨c0_i32_9, v23, c1_i32_10⟩
def k1_off5 (k1_t2 : Fin k1_t2_loop.trips) : Fin 1 → Nat :=
  let c0_i32_31 : BitVec 32 := 0#32
  let c0_i32_9 : BitVec 32 := 0#32
  let c1_i32_10 : BitVec 32 := 1#32
  let arg9 : BitVec 32 := Scf.iv c0_i32_9 c1_i32_10 k1_t2
  let c16_i32 : BitVec 32 := 16#32
  let v33 : BitVec 32 := Scalar.muli arg9 c16_i32
  let v34 : BitVec 32 := Scalar.addi c0_i32_31 v33
  let v35 : Index := Scalar.indexCast v34
  ![v35.toNat]
def k1_off6 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32 : BitVec 32 := 4#32
  let v40 : BitVec 32 := Scalar.muli arg9 c4_i32
  let c0_i32_32 : BitVec 32 := 0#32
  let v41 : BitVec 32 := Scalar.addi v40 c0_i32_32
  let v42 : Index := Scalar.indexCast v41
  let c0 : Index := 0#32
  ![v42.toNat, 0]
def k1_off7 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32 : BitVec 32 := 4#32
  let v40 : BitVec 32 := Scalar.muli arg9 c4_i32
  let c0_i32_32 : BitVec 32 := 0#32
  let v41 : BitVec 32 := Scalar.addi v40 c0_i32_32
  let v45 : Index := Scalar.indexCast v41
  let c16 : Index := 16#32
  ![v45.toNat, 16]
def k1_off8 (v39 : BitVec 32) : Fin 2 → Nat :=
  let v48 : Index := Scalar.indexCast v39
  let c0_33 : Index := 0#32
  ![v48.toNat, 0]

def k1_off9 (v39 : BitVec 32) : Fin 2 → Nat :=
  let v51 : Index := Scalar.indexCast v39
  let c16_34 : Index := 16#32
  ![v51.toNat, 16]

def k1_chk1 (v39 : BitVec 32) : Prop :=
  (∀ a, (k1_off8 v39) a + S1x16.size a ≤ S512x32.size a) ∧
  (∀ a, (k1_off9 v39) a + S1x16.size a ≤ S512x32.size a)
theorem k1_off8_inb : ∀ (v39 : BitVec 32) (k1_hw1 : k1_chk1 v39), ∀ a, (k1_off8 v39) a + S1x16.size a ≤ S512x32.size a := fun v39 k1_hw1 => k1_hw1.1
theorem k1_off9_inb : ∀ (v39 : BitVec 32) (k1_hw1 : k1_chk1 v39), ∀ a, (k1_off9 v39) a + S1x16.size a ≤ S512x32.size a := fun v39 k1_hw1 => k1_hw1.2

def k1_off10 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_37 : BitVec 32 := 4#32
  let v66 : BitVec 32 := Scalar.muli arg9 c4_i32_37
  let c0_i32_38 : BitVec 32 := 0#32
  let v67 : BitVec 32 := Scalar.addi v66 c0_i32_38
  let v68 : Index := Scalar.indexCast v67
  let c32 : Index := 32#32
  ![v68.toNat, 32]
def k1_off11 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_37 : BitVec 32 := 4#32
  let v66 : BitVec 32 := Scalar.muli arg9 c4_i32_37
  let c0_i32_38 : BitVec 32 := 0#32
  let v67 : BitVec 32 := Scalar.addi v66 c0_i32_38
  let v71 : Index := Scalar.indexCast v67
  let c48 : Index := 48#32
  ![v71.toNat, 48]
def k1_off12 (v65 : BitVec 32) : Fin 2 → Nat :=
  let v74 : Index := Scalar.indexCast v65
  let c0_39 : Index := 0#32
  ![v74.toNat, 0]

def k1_off13 (v65 : BitVec 32) : Fin 2 → Nat :=
  let v77 : Index := Scalar.indexCast v65
  let c16_40 : Index := 16#32
  ![v77.toNat, 16]

def k1_chk2 (v65 : BitVec 32) : Prop :=
  (∀ a, (k1_off12 v65) a + S1x16.size a ≤ S512x32.size a) ∧
  (∀ a, (k1_off13 v65) a + S1x16.size a ≤ S512x32.size a)
theorem k1_off12_inb : ∀ (v65 : BitVec 32) (k1_hw2 : k1_chk2 v65), ∀ a, (k1_off12 v65) a + S1x16.size a ≤ S512x32.size a := fun v65 k1_hw2 => k1_hw2.1
theorem k1_off13_inb : ∀ (v65 : BitVec 32) (k1_hw2 : k1_chk2 v65), ∀ a, (k1_off13 v65) a + S1x16.size a ≤ S512x32.size a := fun v65 k1_hw2 => k1_hw2.2

def k1_off14 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_43 : BitVec 32 := 4#32
  let v92 : BitVec 32 := Scalar.muli arg9 c4_i32_43
  let c0_i32_44 : BitVec 32 := 0#32
  let v93 : BitVec 32 := Scalar.addi v92 c0_i32_44
  let v94 : Index := Scalar.indexCast v93
  let c64 : Index := 64#32
  ![v94.toNat, 64]
def k1_off15 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_43 : BitVec 32 := 4#32
  let v92 : BitVec 32 := Scalar.muli arg9 c4_i32_43
  let c0_i32_44 : BitVec 32 := 0#32
  let v93 : BitVec 32 := Scalar.addi v92 c0_i32_44
  let v97 : Index := Scalar.indexCast v93
  let c80 : Index := 80#32
  ![v97.toNat, 80]
def k1_off16 (v91 : BitVec 32) : Fin 2 → Nat :=
  let v100 : Index := Scalar.indexCast v91
  let c0_45 : Index := 0#32
  ![v100.toNat, 0]

def k1_off17 (v91 : BitVec 32) : Fin 2 → Nat :=
  let v103 : Index := Scalar.indexCast v91
  let c16_46 : Index := 16#32
  ![v103.toNat, 16]

def k1_chk3 (v91 : BitVec 32) : Prop :=
  (∀ a, (k1_off16 v91) a + S1x16.size a ≤ S512x32.size a) ∧
  (∀ a, (k1_off17 v91) a + S1x16.size a ≤ S512x32.size a)
theorem k1_off16_inb : ∀ (v91 : BitVec 32) (k1_hw3 : k1_chk3 v91), ∀ a, (k1_off16 v91) a + S1x16.size a ≤ S512x32.size a := fun v91 k1_hw3 => k1_hw3.1
theorem k1_off17_inb : ∀ (v91 : BitVec 32) (k1_hw3 : k1_chk3 v91), ∀ a, (k1_off17 v91) a + S1x16.size a ≤ S512x32.size a := fun v91 k1_hw3 => k1_hw3.2

def k1_off18 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_49 : BitVec 32 := 4#32
  let v118 : BitVec 32 := Scalar.muli arg9 c4_i32_49
  let c0_i32_50 : BitVec 32 := 0#32
  let v119 : BitVec 32 := Scalar.addi v118 c0_i32_50
  let v120 : Index := Scalar.indexCast v119
  let c96 : Index := 96#32
  ![v120.toNat, 96]
def k1_off19 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_49 : BitVec 32 := 4#32
  let v118 : BitVec 32 := Scalar.muli arg9 c4_i32_49
  let c0_i32_50 : BitVec 32 := 0#32
  let v119 : BitVec 32 := Scalar.addi v118 c0_i32_50
  let v123 : Index := Scalar.indexCast v119
  let c112 : Index := 112#32
  ![v123.toNat, 112]
def k1_off20 (v117 : BitVec 32) : Fin 2 → Nat :=
  let v126 : Index := Scalar.indexCast v117
  let c0_51 : Index := 0#32
  ![v126.toNat, 0]

def k1_off21 (v117 : BitVec 32) : Fin 2 → Nat :=
  let v129 : Index := Scalar.indexCast v117
  let c16_52 : Index := 16#32
  ![v129.toNat, 16]

def k1_chk4 (v117 : BitVec 32) : Prop :=
  (∀ a, (k1_off20 v117) a + S1x16.size a ≤ S512x32.size a) ∧
  (∀ a, (k1_off21 v117) a + S1x16.size a ≤ S512x32.size a)
theorem k1_off20_inb : ∀ (v117 : BitVec 32) (k1_hw4 : k1_chk4 v117), ∀ a, (k1_off20 v117) a + S1x16.size a ≤ S512x32.size a := fun v117 k1_hw4 => k1_hw4.1
theorem k1_off21_inb : ∀ (v117 : BitVec 32) (k1_hw4 : k1_chk4 v117), ∀ a, (k1_off21 v117) a + S1x16.size a ≤ S512x32.size a := fun v117 k1_hw4 => k1_hw4.2

def k1_off22 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_55 : BitVec 32 := 4#32
  let v144 : BitVec 32 := Scalar.muli arg9 c4_i32_55
  let c1_i32_56 : BitVec 32 := 1#32
  let v145 : BitVec 32 := Scalar.addi v144 c1_i32_56
  let v146 : Index := Scalar.indexCast v145
  let c0_57 : Index := 0#32
  ![v146.toNat, 0]
def k1_off23 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_55 : BitVec 32 := 4#32
  let v144 : BitVec 32 := Scalar.muli arg9 c4_i32_55
  let c1_i32_56 : BitVec 32 := 1#32
  let v145 : BitVec 32 := Scalar.addi v144 c1_i32_56
  let v149 : Index := Scalar.indexCast v145
  let c16_58 : Index := 16#32
  ![v149.toNat, 16]
def k1_off24 (v143 : BitVec 32) : Fin 2 → Nat :=
  let v152 : Index := Scalar.indexCast v143
  let c0_59 : Index := 0#32
  ![v152.toNat, 0]

def k1_off25 (v143 : BitVec 32) : Fin 2 → Nat :=
  let v155 : Index := Scalar.indexCast v143
  let c16_60 : Index := 16#32
  ![v155.toNat, 16]

def k1_chk5 (v143 : BitVec 32) : Prop :=
  (∀ a, (k1_off24 v143) a + S1x16.size a ≤ S512x32.size a) ∧
  (∀ a, (k1_off25 v143) a + S1x16.size a ≤ S512x32.size a)
theorem k1_off24_inb : ∀ (v143 : BitVec 32) (k1_hw5 : k1_chk5 v143), ∀ a, (k1_off24 v143) a + S1x16.size a ≤ S512x32.size a := fun v143 k1_hw5 => k1_hw5.1
theorem k1_off25_inb : ∀ (v143 : BitVec 32) (k1_hw5 : k1_chk5 v143), ∀ a, (k1_off25 v143) a + S1x16.size a ≤ S512x32.size a := fun v143 k1_hw5 => k1_hw5.2

def k1_off26 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_63 : BitVec 32 := 4#32
  let v170 : BitVec 32 := Scalar.muli arg9 c4_i32_63
  let c1_i32_64 : BitVec 32 := 1#32
  let v171 : BitVec 32 := Scalar.addi v170 c1_i32_64
  let v172 : Index := Scalar.indexCast v171
  let c32_65 : Index := 32#32
  ![v172.toNat, 32]
def k1_off27 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_63 : BitVec 32 := 4#32
  let v170 : BitVec 32 := Scalar.muli arg9 c4_i32_63
  let c1_i32_64 : BitVec 32 := 1#32
  let v171 : BitVec 32 := Scalar.addi v170 c1_i32_64
  let v175 : Index := Scalar.indexCast v171
  let c48_66 : Index := 48#32
  ![v175.toNat, 48]
def k1_off28 (v169 : BitVec 32) : Fin 2 → Nat :=
  let v178 : Index := Scalar.indexCast v169
  let c0_67 : Index := 0#32
  ![v178.toNat, 0]

def k1_off29 (v169 : BitVec 32) : Fin 2 → Nat :=
  let v181 : Index := Scalar.indexCast v169
  let c16_68 : Index := 16#32
  ![v181.toNat, 16]

def k1_chk6 (v169 : BitVec 32) : Prop :=
  (∀ a, (k1_off28 v169) a + S1x16.size a ≤ S512x32.size a) ∧
  (∀ a, (k1_off29 v169) a + S1x16.size a ≤ S512x32.size a)
theorem k1_off28_inb : ∀ (v169 : BitVec 32) (k1_hw6 : k1_chk6 v169), ∀ a, (k1_off28 v169) a + S1x16.size a ≤ S512x32.size a := fun v169 k1_hw6 => k1_hw6.1
theorem k1_off29_inb : ∀ (v169 : BitVec 32) (k1_hw6 : k1_chk6 v169), ∀ a, (k1_off29 v169) a + S1x16.size a ≤ S512x32.size a := fun v169 k1_hw6 => k1_hw6.2

def k1_off30 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_71 : BitVec 32 := 4#32
  let v196 : BitVec 32 := Scalar.muli arg9 c4_i32_71
  let c1_i32_72 : BitVec 32 := 1#32
  let v197 : BitVec 32 := Scalar.addi v196 c1_i32_72
  let v198 : Index := Scalar.indexCast v197
  let c64_73 : Index := 64#32
  ![v198.toNat, 64]
def k1_off31 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_71 : BitVec 32 := 4#32
  let v196 : BitVec 32 := Scalar.muli arg9 c4_i32_71
  let c1_i32_72 : BitVec 32 := 1#32
  let v197 : BitVec 32 := Scalar.addi v196 c1_i32_72
  let v201 : Index := Scalar.indexCast v197
  let c80_74 : Index := 80#32
  ![v201.toNat, 80]
def k1_off32 (v195 : BitVec 32) : Fin 2 → Nat :=
  let v204 : Index := Scalar.indexCast v195
  let c0_75 : Index := 0#32
  ![v204.toNat, 0]

def k1_off33 (v195 : BitVec 32) : Fin 2 → Nat :=
  let v207 : Index := Scalar.indexCast v195
  let c16_76 : Index := 16#32
  ![v207.toNat, 16]

def k1_chk7 (v195 : BitVec 32) : Prop :=
  (∀ a, (k1_off32 v195) a + S1x16.size a ≤ S512x32.size a) ∧
  (∀ a, (k1_off33 v195) a + S1x16.size a ≤ S512x32.size a)
theorem k1_off32_inb : ∀ (v195 : BitVec 32) (k1_hw7 : k1_chk7 v195), ∀ a, (k1_off32 v195) a + S1x16.size a ≤ S512x32.size a := fun v195 k1_hw7 => k1_hw7.1
theorem k1_off33_inb : ∀ (v195 : BitVec 32) (k1_hw7 : k1_chk7 v195), ∀ a, (k1_off33 v195) a + S1x16.size a ≤ S512x32.size a := fun v195 k1_hw7 => k1_hw7.2

def k1_off34 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_79 : BitVec 32 := 4#32
  let v222 : BitVec 32 := Scalar.muli arg9 c4_i32_79
  let c1_i32_80 : BitVec 32 := 1#32
  let v223 : BitVec 32 := Scalar.addi v222 c1_i32_80
  let v224 : Index := Scalar.indexCast v223
  let c96_81 : Index := 96#32
  ![v224.toNat, 96]
def k1_off35 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_79 : BitVec 32 := 4#32
  let v222 : BitVec 32 := Scalar.muli arg9 c4_i32_79
  let c1_i32_80 : BitVec 32 := 1#32
  let v223 : BitVec 32 := Scalar.addi v222 c1_i32_80
  let v227 : Index := Scalar.indexCast v223
  let c112_82 : Index := 112#32
  ![v227.toNat, 112]
def k1_off36 (v221 : BitVec 32) : Fin 2 → Nat :=
  let v230 : Index := Scalar.indexCast v221
  let c0_83 : Index := 0#32
  ![v230.toNat, 0]

def k1_off37 (v221 : BitVec 32) : Fin 2 → Nat :=
  let v233 : Index := Scalar.indexCast v221
  let c16_84 : Index := 16#32
  ![v233.toNat, 16]

def k1_chk8 (v221 : BitVec 32) : Prop :=
  (∀ a, (k1_off36 v221) a + S1x16.size a ≤ S512x32.size a) ∧
  (∀ a, (k1_off37 v221) a + S1x16.size a ≤ S512x32.size a)
theorem k1_off36_inb : ∀ (v221 : BitVec 32) (k1_hw8 : k1_chk8 v221), ∀ a, (k1_off36 v221) a + S1x16.size a ≤ S512x32.size a := fun v221 k1_hw8 => k1_hw8.1
theorem k1_off37_inb : ∀ (v221 : BitVec 32) (k1_hw8 : k1_chk8 v221), ∀ a, (k1_off37 v221) a + S1x16.size a ≤ S512x32.size a := fun v221 k1_hw8 => k1_hw8.2

def k1_off38 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_87 : BitVec 32 := 4#32
  let v248 : BitVec 32 := Scalar.muli arg9 c4_i32_87
  let c2_i32_88 : BitVec 32 := 2#32
  let v249 : BitVec 32 := Scalar.addi v248 c2_i32_88
  let v250 : Index := Scalar.indexCast v249
  let c0_89 : Index := 0#32
  ![v250.toNat, 0]
def k1_off39 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_87 : BitVec 32 := 4#32
  let v248 : BitVec 32 := Scalar.muli arg9 c4_i32_87
  let c2_i32_88 : BitVec 32 := 2#32
  let v249 : BitVec 32 := Scalar.addi v248 c2_i32_88
  let v253 : Index := Scalar.indexCast v249
  let c16_90 : Index := 16#32
  ![v253.toNat, 16]
def k1_off40 (v247 : BitVec 32) : Fin 2 → Nat :=
  let v256 : Index := Scalar.indexCast v247
  let c0_91 : Index := 0#32
  ![v256.toNat, 0]

def k1_off41 (v247 : BitVec 32) : Fin 2 → Nat :=
  let v259 : Index := Scalar.indexCast v247
  let c16_92 : Index := 16#32
  ![v259.toNat, 16]

def k1_chk9 (v247 : BitVec 32) : Prop :=
  (∀ a, (k1_off40 v247) a + S1x16.size a ≤ S512x32.size a) ∧
  (∀ a, (k1_off41 v247) a + S1x16.size a ≤ S512x32.size a)
theorem k1_off40_inb : ∀ (v247 : BitVec 32) (k1_hw9 : k1_chk9 v247), ∀ a, (k1_off40 v247) a + S1x16.size a ≤ S512x32.size a := fun v247 k1_hw9 => k1_hw9.1
theorem k1_off41_inb : ∀ (v247 : BitVec 32) (k1_hw9 : k1_chk9 v247), ∀ a, (k1_off41 v247) a + S1x16.size a ≤ S512x32.size a := fun v247 k1_hw9 => k1_hw9.2

def k1_off42 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_95 : BitVec 32 := 4#32
  let v274 : BitVec 32 := Scalar.muli arg9 c4_i32_95
  let c2_i32_96 : BitVec 32 := 2#32
  let v275 : BitVec 32 := Scalar.addi v274 c2_i32_96
  let v276 : Index := Scalar.indexCast v275
  let c32_97 : Index := 32#32
  ![v276.toNat, 32]
def k1_off43 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_95 : BitVec 32 := 4#32
  let v274 : BitVec 32 := Scalar.muli arg9 c4_i32_95
  let c2_i32_96 : BitVec 32 := 2#32
  let v275 : BitVec 32 := Scalar.addi v274 c2_i32_96
  let v279 : Index := Scalar.indexCast v275
  let c48_98 : Index := 48#32
  ![v279.toNat, 48]
def k1_off44 (v273 : BitVec 32) : Fin 2 → Nat :=
  let v282 : Index := Scalar.indexCast v273
  let c0_99 : Index := 0#32
  ![v282.toNat, 0]

def k1_off45 (v273 : BitVec 32) : Fin 2 → Nat :=
  let v285 : Index := Scalar.indexCast v273
  let c16_100 : Index := 16#32
  ![v285.toNat, 16]

def k1_chk10 (v273 : BitVec 32) : Prop :=
  (∀ a, (k1_off44 v273) a + S1x16.size a ≤ S512x32.size a) ∧
  (∀ a, (k1_off45 v273) a + S1x16.size a ≤ S512x32.size a)
theorem k1_off44_inb : ∀ (v273 : BitVec 32) (k1_hw10 : k1_chk10 v273), ∀ a, (k1_off44 v273) a + S1x16.size a ≤ S512x32.size a := fun v273 k1_hw10 => k1_hw10.1
theorem k1_off45_inb : ∀ (v273 : BitVec 32) (k1_hw10 : k1_chk10 v273), ∀ a, (k1_off45 v273) a + S1x16.size a ≤ S512x32.size a := fun v273 k1_hw10 => k1_hw10.2

def k1_off46 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_103 : BitVec 32 := 4#32
  let v300 : BitVec 32 := Scalar.muli arg9 c4_i32_103
  let c2_i32_104 : BitVec 32 := 2#32
  let v301 : BitVec 32 := Scalar.addi v300 c2_i32_104
  let v302 : Index := Scalar.indexCast v301
  let c64_105 : Index := 64#32
  ![v302.toNat, 64]
def k1_off47 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_103 : BitVec 32 := 4#32
  let v300 : BitVec 32 := Scalar.muli arg9 c4_i32_103
  let c2_i32_104 : BitVec 32 := 2#32
  let v301 : BitVec 32 := Scalar.addi v300 c2_i32_104
  let v305 : Index := Scalar.indexCast v301
  let c80_106 : Index := 80#32
  ![v305.toNat, 80]
def k1_off48 (v299 : BitVec 32) : Fin 2 → Nat :=
  let v308 : Index := Scalar.indexCast v299
  let c0_107 : Index := 0#32
  ![v308.toNat, 0]

def k1_off49 (v299 : BitVec 32) : Fin 2 → Nat :=
  let v311 : Index := Scalar.indexCast v299
  let c16_108 : Index := 16#32
  ![v311.toNat, 16]

def k1_chk11 (v299 : BitVec 32) : Prop :=
  (∀ a, (k1_off48 v299) a + S1x16.size a ≤ S512x32.size a) ∧
  (∀ a, (k1_off49 v299) a + S1x16.size a ≤ S512x32.size a)
theorem k1_off48_inb : ∀ (v299 : BitVec 32) (k1_hw11 : k1_chk11 v299), ∀ a, (k1_off48 v299) a + S1x16.size a ≤ S512x32.size a := fun v299 k1_hw11 => k1_hw11.1
theorem k1_off49_inb : ∀ (v299 : BitVec 32) (k1_hw11 : k1_chk11 v299), ∀ a, (k1_off49 v299) a + S1x16.size a ≤ S512x32.size a := fun v299 k1_hw11 => k1_hw11.2

def k1_off50 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_111 : BitVec 32 := 4#32
  let v326 : BitVec 32 := Scalar.muli arg9 c4_i32_111
  let c2_i32_112 : BitVec 32 := 2#32
  let v327 : BitVec 32 := Scalar.addi v326 c2_i32_112
  let v328 : Index := Scalar.indexCast v327
  let c96_113 : Index := 96#32
  ![v328.toNat, 96]
def k1_off51 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_111 : BitVec 32 := 4#32
  let v326 : BitVec 32 := Scalar.muli arg9 c4_i32_111
  let c2_i32_112 : BitVec 32 := 2#32
  let v327 : BitVec 32 := Scalar.addi v326 c2_i32_112
  let v331 : Index := Scalar.indexCast v327
  let c112_114 : Index := 112#32
  ![v331.toNat, 112]
def k1_off52 (v325 : BitVec 32) : Fin 2 → Nat :=
  let v334 : Index := Scalar.indexCast v325
  let c0_115 : Index := 0#32
  ![v334.toNat, 0]

def k1_off53 (v325 : BitVec 32) : Fin 2 → Nat :=
  let v337 : Index := Scalar.indexCast v325
  let c16_116 : Index := 16#32
  ![v337.toNat, 16]

def k1_chk12 (v325 : BitVec 32) : Prop :=
  (∀ a, (k1_off52 v325) a + S1x16.size a ≤ S512x32.size a) ∧
  (∀ a, (k1_off53 v325) a + S1x16.size a ≤ S512x32.size a)
theorem k1_off52_inb : ∀ (v325 : BitVec 32) (k1_hw12 : k1_chk12 v325), ∀ a, (k1_off52 v325) a + S1x16.size a ≤ S512x32.size a := fun v325 k1_hw12 => k1_hw12.1
theorem k1_off53_inb : ∀ (v325 : BitVec 32) (k1_hw12 : k1_chk12 v325), ∀ a, (k1_off53 v325) a + S1x16.size a ≤ S512x32.size a := fun v325 k1_hw12 => k1_hw12.2

def k1_off54 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_119 : BitVec 32 := 4#32
  let v352 : BitVec 32 := Scalar.muli arg9 c4_i32_119
  let c3_i32 : BitVec 32 := 3#32
  let v353 : BitVec 32 := Scalar.addi v352 c3_i32
  let v354 : Index := Scalar.indexCast v353
  let c0_120 : Index := 0#32
  ![v354.toNat, 0]
def k1_off55 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_119 : BitVec 32 := 4#32
  let v352 : BitVec 32 := Scalar.muli arg9 c4_i32_119
  let c3_i32 : BitVec 32 := 3#32
  let v353 : BitVec 32 := Scalar.addi v352 c3_i32
  let v357 : Index := Scalar.indexCast v353
  let c16_121 : Index := 16#32
  ![v357.toNat, 16]
def k1_off56 (v351 : BitVec 32) : Fin 2 → Nat :=
  let v360 : Index := Scalar.indexCast v351
  let c0_122 : Index := 0#32
  ![v360.toNat, 0]

def k1_off57 (v351 : BitVec 32) : Fin 2 → Nat :=
  let v363 : Index := Scalar.indexCast v351
  let c16_123 : Index := 16#32
  ![v363.toNat, 16]

def k1_chk13 (v351 : BitVec 32) : Prop :=
  (∀ a, (k1_off56 v351) a + S1x16.size a ≤ S512x32.size a) ∧
  (∀ a, (k1_off57 v351) a + S1x16.size a ≤ S512x32.size a)
theorem k1_off56_inb : ∀ (v351 : BitVec 32) (k1_hw13 : k1_chk13 v351), ∀ a, (k1_off56 v351) a + S1x16.size a ≤ S512x32.size a := fun v351 k1_hw13 => k1_hw13.1
theorem k1_off57_inb : ∀ (v351 : BitVec 32) (k1_hw13 : k1_chk13 v351), ∀ a, (k1_off57 v351) a + S1x16.size a ≤ S512x32.size a := fun v351 k1_hw13 => k1_hw13.2

def k1_off58 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_126 : BitVec 32 := 4#32
  let v378 : BitVec 32 := Scalar.muli arg9 c4_i32_126
  let c3_i32_127 : BitVec 32 := 3#32
  let v379 : BitVec 32 := Scalar.addi v378 c3_i32_127
  let v380 : Index := Scalar.indexCast v379
  let c32_128 : Index := 32#32
  ![v380.toNat, 32]
def k1_off59 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_126 : BitVec 32 := 4#32
  let v378 : BitVec 32 := Scalar.muli arg9 c4_i32_126
  let c3_i32_127 : BitVec 32 := 3#32
  let v379 : BitVec 32 := Scalar.addi v378 c3_i32_127
  let v383 : Index := Scalar.indexCast v379
  let c48_129 : Index := 48#32
  ![v383.toNat, 48]
def k1_off60 (v377 : BitVec 32) : Fin 2 → Nat :=
  let v386 : Index := Scalar.indexCast v377
  let c0_130 : Index := 0#32
  ![v386.toNat, 0]

def k1_off61 (v377 : BitVec 32) : Fin 2 → Nat :=
  let v389 : Index := Scalar.indexCast v377
  let c16_131 : Index := 16#32
  ![v389.toNat, 16]

def k1_chk14 (v377 : BitVec 32) : Prop :=
  (∀ a, (k1_off60 v377) a + S1x16.size a ≤ S512x32.size a) ∧
  (∀ a, (k1_off61 v377) a + S1x16.size a ≤ S512x32.size a)
theorem k1_off60_inb : ∀ (v377 : BitVec 32) (k1_hw14 : k1_chk14 v377), ∀ a, (k1_off60 v377) a + S1x16.size a ≤ S512x32.size a := fun v377 k1_hw14 => k1_hw14.1
theorem k1_off61_inb : ∀ (v377 : BitVec 32) (k1_hw14 : k1_chk14 v377), ∀ a, (k1_off61 v377) a + S1x16.size a ≤ S512x32.size a := fun v377 k1_hw14 => k1_hw14.2

def k1_off62 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_134 : BitVec 32 := 4#32
  let v404 : BitVec 32 := Scalar.muli arg9 c4_i32_134
  let c3_i32_135 : BitVec 32 := 3#32
  let v405 : BitVec 32 := Scalar.addi v404 c3_i32_135
  let v406 : Index := Scalar.indexCast v405
  let c64_136 : Index := 64#32
  ![v406.toNat, 64]
def k1_off63 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_134 : BitVec 32 := 4#32
  let v404 : BitVec 32 := Scalar.muli arg9 c4_i32_134
  let c3_i32_135 : BitVec 32 := 3#32
  let v405 : BitVec 32 := Scalar.addi v404 c3_i32_135
  let v409 : Index := Scalar.indexCast v405
  let c80_137 : Index := 80#32
  ![v409.toNat, 80]
def k1_off64 (v403 : BitVec 32) : Fin 2 → Nat :=
  let v412 : Index := Scalar.indexCast v403
  let c0_138 : Index := 0#32
  ![v412.toNat, 0]

def k1_off65 (v403 : BitVec 32) : Fin 2 → Nat :=
  let v415 : Index := Scalar.indexCast v403
  let c16_139 : Index := 16#32
  ![v415.toNat, 16]

def k1_chk15 (v403 : BitVec 32) : Prop :=
  (∀ a, (k1_off64 v403) a + S1x16.size a ≤ S512x32.size a) ∧
  (∀ a, (k1_off65 v403) a + S1x16.size a ≤ S512x32.size a)
theorem k1_off64_inb : ∀ (v403 : BitVec 32) (k1_hw15 : k1_chk15 v403), ∀ a, (k1_off64 v403) a + S1x16.size a ≤ S512x32.size a := fun v403 k1_hw15 => k1_hw15.1
theorem k1_off65_inb : ∀ (v403 : BitVec 32) (k1_hw15 : k1_chk15 v403), ∀ a, (k1_off65 v403) a + S1x16.size a ≤ S512x32.size a := fun v403 k1_hw15 => k1_hw15.2

def k1_off66 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_142 : BitVec 32 := 4#32
  let v430 : BitVec 32 := Scalar.muli arg9 c4_i32_142
  let c3_i32_143 : BitVec 32 := 3#32
  let v431 : BitVec 32 := Scalar.addi v430 c3_i32_143
  let v432 : Index := Scalar.indexCast v431
  let c96_144 : Index := 96#32
  ![v432.toNat, 96]
def k1_off67 (k1_t2 : Fin k1_t2_loop.trips) : Fin 2 → Nat :=
  let c0_i32_9 : BitVec 32 := 0#32
  let c1_i32_10 : BitVec 32 := 1#32
  let arg9 : BitVec 32 := Scf.iv c0_i32_9 c1_i32_10 k1_t2
  let c4_i32_142 : BitVec 32 := 4#32
  let v430 : BitVec 32 := Scalar.muli arg9 c4_i32_142
  let c3_i32_143 : BitVec 32 := 3#32
  let v431 : BitVec 32 := Scalar.addi v430 c3_i32_143
  let v435 : Index := Scalar.indexCast v431
  let c112_145 : Index := 112#32
  ![v435.toNat, 112]
def k1_off68 (v429 : BitVec 32) : Fin 2 → Nat :=
  let v438 : Index := Scalar.indexCast v429
  let c0_146 : Index := 0#32
  ![v438.toNat, 0]

def k1_off69 (v429 : BitVec 32) : Fin 2 → Nat :=
  let v441 : Index := Scalar.indexCast v429
  let c16_147 : Index := 16#32
  ![v441.toNat, 16]

def k1_chk16 (v429 : BitVec 32) : Prop :=
  (∀ a, (k1_off68 v429) a + S1x16.size a ≤ S512x32.size a) ∧
  (∀ a, (k1_off69 v429) a + S1x16.size a ≤ S512x32.size a)
theorem k1_off68_inb : ∀ (v429 : BitVec 32) (k1_hw16 : k1_chk16 v429), ∀ a, (k1_off68 v429) a + S1x16.size a ≤ S512x32.size a := fun v429 k1_hw16 => k1_hw16.1
theorem k1_off69_inb : ∀ (v429 : BitVec 32) (k1_hw16 : k1_chk16 v429), ∀ a, (k1_off69 v429) a + S1x16.size a ≤ S512x32.size a := fun v429 k1_hw16 => k1_hw16.2

def k1_off70 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_31_r2 : BitVec 32 := 128#32
  let c0_i32_32_r2 : BitVec 32 := 0#32
  ![v1.toNat, 128, 0]
@[reducible] def k1_t3_loop : Scf.Loop 32 :=
  let c0_i32_13 : BitVec 32 := 0#32
  let c32_i32_14 : BitVec 32 := 32#32
  let v25 : BitVec 32 := Scalar.addi c0_i32_13 c32_i32_14
  let c1_i32_15 : BitVec 32 := 1#32
  ⟨c0_i32_13, v25, c1_i32_15⟩
def k1_off71 (k1_t3 : Fin k1_t3_loop.trips) : Fin 1 → Nat :=
  let c512_i32_31 : BitVec 32 := 512#32
  let c0_i32_13 : BitVec 32 := 0#32
  let c1_i32_15 : BitVec 32 := 1#32
  let arg9 : BitVec 32 := Scf.iv c0_i32_13 c1_i32_15 k1_t3
  let c16_i32 : BitVec 32 := 16#32
  let v33 : BitVec 32 := Scalar.muli arg9 c16_i32
  let v34 : BitVec 32 := Scalar.addi c512_i32_31 v33
  let v35 : Index := Scalar.indexCast v34
  ![v35.toNat]
def k1_off72 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32 : BitVec 32 := 4#32
  let v40 : BitVec 32 := Scalar.muli arg9 c4_i32
  let c0_i32_32 : BitVec 32 := 0#32
  let v41 : BitVec 32 := Scalar.addi v40 c0_i32_32
  let v42 : Index := Scalar.indexCast v41
  let c0 : Index := 0#32
  ![v42.toNat, 0]
def k1_off73 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32 : BitVec 32 := 4#32
  let v40 : BitVec 32 := Scalar.muli arg9 c4_i32
  let c0_i32_32 : BitVec 32 := 0#32
  let v41 : BitVec 32 := Scalar.addi v40 c0_i32_32
  let v45 : Index := Scalar.indexCast v41
  let c16 : Index := 16#32
  ![v45.toNat, 16]
def k1_off74 (v39 : BitVec 32) : Fin 2 → Nat :=
  let v48 : Index := Scalar.indexCast v39
  let c0_33 : Index := 0#32
  ![v48.toNat, 0]

def k1_off75 (v39 : BitVec 32) : Fin 2 → Nat :=
  let v51 : Index := Scalar.indexCast v39
  let c16_34 : Index := 16#32
  ![v51.toNat, 16]

def k1_chk17 (v39 : BitVec 32) : Prop :=
  (∀ a, (k1_off74 v39) a + S1x16.size a ≤ S512x32.size a) ∧
  (∀ a, (k1_off75 v39) a + S1x16.size a ≤ S512x32.size a)
theorem k1_off74_inb : ∀ (v39 : BitVec 32) (k1_hw17 : k1_chk17 v39), ∀ a, (k1_off74 v39) a + S1x16.size a ≤ S512x32.size a := fun v39 k1_hw17 => k1_hw17.1
theorem k1_off75_inb : ∀ (v39 : BitVec 32) (k1_hw17 : k1_chk17 v39), ∀ a, (k1_off75 v39) a + S1x16.size a ≤ S512x32.size a := fun v39 k1_hw17 => k1_hw17.2

def k1_off76 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_37 : BitVec 32 := 4#32
  let v66 : BitVec 32 := Scalar.muli arg9 c4_i32_37
  let c0_i32_38 : BitVec 32 := 0#32
  let v67 : BitVec 32 := Scalar.addi v66 c0_i32_38
  let v68 : Index := Scalar.indexCast v67
  let c32 : Index := 32#32
  ![v68.toNat, 32]
def k1_off77 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_37 : BitVec 32 := 4#32
  let v66 : BitVec 32 := Scalar.muli arg9 c4_i32_37
  let c0_i32_38 : BitVec 32 := 0#32
  let v67 : BitVec 32 := Scalar.addi v66 c0_i32_38
  let v71 : Index := Scalar.indexCast v67
  let c48 : Index := 48#32
  ![v71.toNat, 48]
def k1_off78 (v65 : BitVec 32) : Fin 2 → Nat :=
  let v74 : Index := Scalar.indexCast v65
  let c0_39 : Index := 0#32
  ![v74.toNat, 0]

def k1_off79 (v65 : BitVec 32) : Fin 2 → Nat :=
  let v77 : Index := Scalar.indexCast v65
  let c16_40 : Index := 16#32
  ![v77.toNat, 16]

def k1_chk18 (v65 : BitVec 32) : Prop :=
  (∀ a, (k1_off78 v65) a + S1x16.size a ≤ S512x32.size a) ∧
  (∀ a, (k1_off79 v65) a + S1x16.size a ≤ S512x32.size a)
theorem k1_off78_inb : ∀ (v65 : BitVec 32) (k1_hw18 : k1_chk18 v65), ∀ a, (k1_off78 v65) a + S1x16.size a ≤ S512x32.size a := fun v65 k1_hw18 => k1_hw18.1
theorem k1_off79_inb : ∀ (v65 : BitVec 32) (k1_hw18 : k1_chk18 v65), ∀ a, (k1_off79 v65) a + S1x16.size a ≤ S512x32.size a := fun v65 k1_hw18 => k1_hw18.2

def k1_off80 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_43 : BitVec 32 := 4#32
  let v92 : BitVec 32 := Scalar.muli arg9 c4_i32_43
  let c0_i32_44 : BitVec 32 := 0#32
  let v93 : BitVec 32 := Scalar.addi v92 c0_i32_44
  let v94 : Index := Scalar.indexCast v93
  let c64 : Index := 64#32
  ![v94.toNat, 64]
def k1_off81 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_43 : BitVec 32 := 4#32
  let v92 : BitVec 32 := Scalar.muli arg9 c4_i32_43
  let c0_i32_44 : BitVec 32 := 0#32
  let v93 : BitVec 32 := Scalar.addi v92 c0_i32_44
  let v97 : Index := Scalar.indexCast v93
  let c80 : Index := 80#32
  ![v97.toNat, 80]
def k1_off82 (v91 : BitVec 32) : Fin 2 → Nat :=
  let v100 : Index := Scalar.indexCast v91
  let c0_45 : Index := 0#32
  ![v100.toNat, 0]

def k1_off83 (v91 : BitVec 32) : Fin 2 → Nat :=
  let v103 : Index := Scalar.indexCast v91
  let c16_46 : Index := 16#32
  ![v103.toNat, 16]

def k1_chk19 (v91 : BitVec 32) : Prop :=
  (∀ a, (k1_off82 v91) a + S1x16.size a ≤ S512x32.size a) ∧
  (∀ a, (k1_off83 v91) a + S1x16.size a ≤ S512x32.size a)
theorem k1_off82_inb : ∀ (v91 : BitVec 32) (k1_hw19 : k1_chk19 v91), ∀ a, (k1_off82 v91) a + S1x16.size a ≤ S512x32.size a := fun v91 k1_hw19 => k1_hw19.1
theorem k1_off83_inb : ∀ (v91 : BitVec 32) (k1_hw19 : k1_chk19 v91), ∀ a, (k1_off83 v91) a + S1x16.size a ≤ S512x32.size a := fun v91 k1_hw19 => k1_hw19.2

def k1_off84 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_49 : BitVec 32 := 4#32
  let v118 : BitVec 32 := Scalar.muli arg9 c4_i32_49
  let c0_i32_50 : BitVec 32 := 0#32
  let v119 : BitVec 32 := Scalar.addi v118 c0_i32_50
  let v120 : Index := Scalar.indexCast v119
  let c96 : Index := 96#32
  ![v120.toNat, 96]
def k1_off85 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_49 : BitVec 32 := 4#32
  let v118 : BitVec 32 := Scalar.muli arg9 c4_i32_49
  let c0_i32_50 : BitVec 32 := 0#32
  let v119 : BitVec 32 := Scalar.addi v118 c0_i32_50
  let v123 : Index := Scalar.indexCast v119
  let c112 : Index := 112#32
  ![v123.toNat, 112]
def k1_off86 (v117 : BitVec 32) : Fin 2 → Nat :=
  let v126 : Index := Scalar.indexCast v117
  let c0_51 : Index := 0#32
  ![v126.toNat, 0]

def k1_off87 (v117 : BitVec 32) : Fin 2 → Nat :=
  let v129 : Index := Scalar.indexCast v117
  let c16_52 : Index := 16#32
  ![v129.toNat, 16]

def k1_chk20 (v117 : BitVec 32) : Prop :=
  (∀ a, (k1_off86 v117) a + S1x16.size a ≤ S512x32.size a) ∧
  (∀ a, (k1_off87 v117) a + S1x16.size a ≤ S512x32.size a)
theorem k1_off86_inb : ∀ (v117 : BitVec 32) (k1_hw20 : k1_chk20 v117), ∀ a, (k1_off86 v117) a + S1x16.size a ≤ S512x32.size a := fun v117 k1_hw20 => k1_hw20.1
theorem k1_off87_inb : ∀ (v117 : BitVec 32) (k1_hw20 : k1_chk20 v117), ∀ a, (k1_off87 v117) a + S1x16.size a ≤ S512x32.size a := fun v117 k1_hw20 => k1_hw20.2

def k1_off88 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_55 : BitVec 32 := 4#32
  let v144 : BitVec 32 := Scalar.muli arg9 c4_i32_55
  let c1_i32_56 : BitVec 32 := 1#32
  let v145 : BitVec 32 := Scalar.addi v144 c1_i32_56
  let v146 : Index := Scalar.indexCast v145
  let c0_57 : Index := 0#32
  ![v146.toNat, 0]
def k1_off89 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_55 : BitVec 32 := 4#32
  let v144 : BitVec 32 := Scalar.muli arg9 c4_i32_55
  let c1_i32_56 : BitVec 32 := 1#32
  let v145 : BitVec 32 := Scalar.addi v144 c1_i32_56
  let v149 : Index := Scalar.indexCast v145
  let c16_58 : Index := 16#32
  ![v149.toNat, 16]
def k1_off90 (v143 : BitVec 32) : Fin 2 → Nat :=
  let v152 : Index := Scalar.indexCast v143
  let c0_59 : Index := 0#32
  ![v152.toNat, 0]

def k1_off91 (v143 : BitVec 32) : Fin 2 → Nat :=
  let v155 : Index := Scalar.indexCast v143
  let c16_60 : Index := 16#32
  ![v155.toNat, 16]

def k1_chk21 (v143 : BitVec 32) : Prop :=
  (∀ a, (k1_off90 v143) a + S1x16.size a ≤ S512x32.size a) ∧
  (∀ a, (k1_off91 v143) a + S1x16.size a ≤ S512x32.size a)
theorem k1_off90_inb : ∀ (v143 : BitVec 32) (k1_hw21 : k1_chk21 v143), ∀ a, (k1_off90 v143) a + S1x16.size a ≤ S512x32.size a := fun v143 k1_hw21 => k1_hw21.1
theorem k1_off91_inb : ∀ (v143 : BitVec 32) (k1_hw21 : k1_chk21 v143), ∀ a, (k1_off91 v143) a + S1x16.size a ≤ S512x32.size a := fun v143 k1_hw21 => k1_hw21.2

def k1_off92 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_63 : BitVec 32 := 4#32
  let v170 : BitVec 32 := Scalar.muli arg9 c4_i32_63
  let c1_i32_64 : BitVec 32 := 1#32
  let v171 : BitVec 32 := Scalar.addi v170 c1_i32_64
  let v172 : Index := Scalar.indexCast v171
  let c32_65 : Index := 32#32
  ![v172.toNat, 32]
def k1_off93 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_63 : BitVec 32 := 4#32
  let v170 : BitVec 32 := Scalar.muli arg9 c4_i32_63
  let c1_i32_64 : BitVec 32 := 1#32
  let v171 : BitVec 32 := Scalar.addi v170 c1_i32_64
  let v175 : Index := Scalar.indexCast v171
  let c48_66 : Index := 48#32
  ![v175.toNat, 48]
def k1_off94 (v169 : BitVec 32) : Fin 2 → Nat :=
  let v178 : Index := Scalar.indexCast v169
  let c0_67 : Index := 0#32
  ![v178.toNat, 0]

def k1_off95 (v169 : BitVec 32) : Fin 2 → Nat :=
  let v181 : Index := Scalar.indexCast v169
  let c16_68 : Index := 16#32
  ![v181.toNat, 16]

def k1_chk22 (v169 : BitVec 32) : Prop :=
  (∀ a, (k1_off94 v169) a + S1x16.size a ≤ S512x32.size a) ∧
  (∀ a, (k1_off95 v169) a + S1x16.size a ≤ S512x32.size a)
theorem k1_off94_inb : ∀ (v169 : BitVec 32) (k1_hw22 : k1_chk22 v169), ∀ a, (k1_off94 v169) a + S1x16.size a ≤ S512x32.size a := fun v169 k1_hw22 => k1_hw22.1
theorem k1_off95_inb : ∀ (v169 : BitVec 32) (k1_hw22 : k1_chk22 v169), ∀ a, (k1_off95 v169) a + S1x16.size a ≤ S512x32.size a := fun v169 k1_hw22 => k1_hw22.2

def k1_off96 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_71 : BitVec 32 := 4#32
  let v196 : BitVec 32 := Scalar.muli arg9 c4_i32_71
  let c1_i32_72 : BitVec 32 := 1#32
  let v197 : BitVec 32 := Scalar.addi v196 c1_i32_72
  let v198 : Index := Scalar.indexCast v197
  let c64_73 : Index := 64#32
  ![v198.toNat, 64]
def k1_off97 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_71 : BitVec 32 := 4#32
  let v196 : BitVec 32 := Scalar.muli arg9 c4_i32_71
  let c1_i32_72 : BitVec 32 := 1#32
  let v197 : BitVec 32 := Scalar.addi v196 c1_i32_72
  let v201 : Index := Scalar.indexCast v197
  let c80_74 : Index := 80#32
  ![v201.toNat, 80]
def k1_off98 (v195 : BitVec 32) : Fin 2 → Nat :=
  let v204 : Index := Scalar.indexCast v195
  let c0_75 : Index := 0#32
  ![v204.toNat, 0]

def k1_off99 (v195 : BitVec 32) : Fin 2 → Nat :=
  let v207 : Index := Scalar.indexCast v195
  let c16_76 : Index := 16#32
  ![v207.toNat, 16]

def k1_chk23 (v195 : BitVec 32) : Prop :=
  (∀ a, (k1_off98 v195) a + S1x16.size a ≤ S512x32.size a) ∧
  (∀ a, (k1_off99 v195) a + S1x16.size a ≤ S512x32.size a)
theorem k1_off98_inb : ∀ (v195 : BitVec 32) (k1_hw23 : k1_chk23 v195), ∀ a, (k1_off98 v195) a + S1x16.size a ≤ S512x32.size a := fun v195 k1_hw23 => k1_hw23.1
theorem k1_off99_inb : ∀ (v195 : BitVec 32) (k1_hw23 : k1_chk23 v195), ∀ a, (k1_off99 v195) a + S1x16.size a ≤ S512x32.size a := fun v195 k1_hw23 => k1_hw23.2

def k1_off100 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_79 : BitVec 32 := 4#32
  let v222 : BitVec 32 := Scalar.muli arg9 c4_i32_79
  let c1_i32_80 : BitVec 32 := 1#32
  let v223 : BitVec 32 := Scalar.addi v222 c1_i32_80
  let v224 : Index := Scalar.indexCast v223
  let c96_81 : Index := 96#32
  ![v224.toNat, 96]
def k1_off101 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_79 : BitVec 32 := 4#32
  let v222 : BitVec 32 := Scalar.muli arg9 c4_i32_79
  let c1_i32_80 : BitVec 32 := 1#32
  let v223 : BitVec 32 := Scalar.addi v222 c1_i32_80
  let v227 : Index := Scalar.indexCast v223
  let c112_82 : Index := 112#32
  ![v227.toNat, 112]
def k1_off102 (v221 : BitVec 32) : Fin 2 → Nat :=
  let v230 : Index := Scalar.indexCast v221
  let c0_83 : Index := 0#32
  ![v230.toNat, 0]

def k1_off103 (v221 : BitVec 32) : Fin 2 → Nat :=
  let v233 : Index := Scalar.indexCast v221
  let c16_84 : Index := 16#32
  ![v233.toNat, 16]

def k1_chk24 (v221 : BitVec 32) : Prop :=
  (∀ a, (k1_off102 v221) a + S1x16.size a ≤ S512x32.size a) ∧
  (∀ a, (k1_off103 v221) a + S1x16.size a ≤ S512x32.size a)
theorem k1_off102_inb : ∀ (v221 : BitVec 32) (k1_hw24 : k1_chk24 v221), ∀ a, (k1_off102 v221) a + S1x16.size a ≤ S512x32.size a := fun v221 k1_hw24 => k1_hw24.1
theorem k1_off103_inb : ∀ (v221 : BitVec 32) (k1_hw24 : k1_chk24 v221), ∀ a, (k1_off103 v221) a + S1x16.size a ≤ S512x32.size a := fun v221 k1_hw24 => k1_hw24.2

def k1_off104 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_87 : BitVec 32 := 4#32
  let v248 : BitVec 32 := Scalar.muli arg9 c4_i32_87
  let c2_i32_88 : BitVec 32 := 2#32
  let v249 : BitVec 32 := Scalar.addi v248 c2_i32_88
  let v250 : Index := Scalar.indexCast v249
  let c0_89 : Index := 0#32
  ![v250.toNat, 0]
def k1_off105 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_87 : BitVec 32 := 4#32
  let v248 : BitVec 32 := Scalar.muli arg9 c4_i32_87
  let c2_i32_88 : BitVec 32 := 2#32
  let v249 : BitVec 32 := Scalar.addi v248 c2_i32_88
  let v253 : Index := Scalar.indexCast v249
  let c16_90 : Index := 16#32
  ![v253.toNat, 16]
def k1_off106 (v247 : BitVec 32) : Fin 2 → Nat :=
  let v256 : Index := Scalar.indexCast v247
  let c0_91 : Index := 0#32
  ![v256.toNat, 0]

def k1_off107 (v247 : BitVec 32) : Fin 2 → Nat :=
  let v259 : Index := Scalar.indexCast v247
  let c16_92 : Index := 16#32
  ![v259.toNat, 16]

def k1_chk25 (v247 : BitVec 32) : Prop :=
  (∀ a, (k1_off106 v247) a + S1x16.size a ≤ S512x32.size a) ∧
  (∀ a, (k1_off107 v247) a + S1x16.size a ≤ S512x32.size a)
theorem k1_off106_inb : ∀ (v247 : BitVec 32) (k1_hw25 : k1_chk25 v247), ∀ a, (k1_off106 v247) a + S1x16.size a ≤ S512x32.size a := fun v247 k1_hw25 => k1_hw25.1
theorem k1_off107_inb : ∀ (v247 : BitVec 32) (k1_hw25 : k1_chk25 v247), ∀ a, (k1_off107 v247) a + S1x16.size a ≤ S512x32.size a := fun v247 k1_hw25 => k1_hw25.2

def k1_off108 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_95 : BitVec 32 := 4#32
  let v274 : BitVec 32 := Scalar.muli arg9 c4_i32_95
  let c2_i32_96 : BitVec 32 := 2#32
  let v275 : BitVec 32 := Scalar.addi v274 c2_i32_96
  let v276 : Index := Scalar.indexCast v275
  let c32_97 : Index := 32#32
  ![v276.toNat, 32]
def k1_off109 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_95 : BitVec 32 := 4#32
  let v274 : BitVec 32 := Scalar.muli arg9 c4_i32_95
  let c2_i32_96 : BitVec 32 := 2#32
  let v275 : BitVec 32 := Scalar.addi v274 c2_i32_96
  let v279 : Index := Scalar.indexCast v275
  let c48_98 : Index := 48#32
  ![v279.toNat, 48]
def k1_off110 (v273 : BitVec 32) : Fin 2 → Nat :=
  let v282 : Index := Scalar.indexCast v273
  let c0_99 : Index := 0#32
  ![v282.toNat, 0]

def k1_off111 (v273 : BitVec 32) : Fin 2 → Nat :=
  let v285 : Index := Scalar.indexCast v273
  let c16_100 : Index := 16#32
  ![v285.toNat, 16]

def k1_chk26 (v273 : BitVec 32) : Prop :=
  (∀ a, (k1_off110 v273) a + S1x16.size a ≤ S512x32.size a) ∧
  (∀ a, (k1_off111 v273) a + S1x16.size a ≤ S512x32.size a)
theorem k1_off110_inb : ∀ (v273 : BitVec 32) (k1_hw26 : k1_chk26 v273), ∀ a, (k1_off110 v273) a + S1x16.size a ≤ S512x32.size a := fun v273 k1_hw26 => k1_hw26.1
theorem k1_off111_inb : ∀ (v273 : BitVec 32) (k1_hw26 : k1_chk26 v273), ∀ a, (k1_off111 v273) a + S1x16.size a ≤ S512x32.size a := fun v273 k1_hw26 => k1_hw26.2

def k1_off112 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_103 : BitVec 32 := 4#32
  let v300 : BitVec 32 := Scalar.muli arg9 c4_i32_103
  let c2_i32_104 : BitVec 32 := 2#32
  let v301 : BitVec 32 := Scalar.addi v300 c2_i32_104
  let v302 : Index := Scalar.indexCast v301
  let c64_105 : Index := 64#32
  ![v302.toNat, 64]
def k1_off113 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_103 : BitVec 32 := 4#32
  let v300 : BitVec 32 := Scalar.muli arg9 c4_i32_103
  let c2_i32_104 : BitVec 32 := 2#32
  let v301 : BitVec 32 := Scalar.addi v300 c2_i32_104
  let v305 : Index := Scalar.indexCast v301
  let c80_106 : Index := 80#32
  ![v305.toNat, 80]
def k1_off114 (v299 : BitVec 32) : Fin 2 → Nat :=
  let v308 : Index := Scalar.indexCast v299
  let c0_107 : Index := 0#32
  ![v308.toNat, 0]

def k1_off115 (v299 : BitVec 32) : Fin 2 → Nat :=
  let v311 : Index := Scalar.indexCast v299
  let c16_108 : Index := 16#32
  ![v311.toNat, 16]

def k1_chk27 (v299 : BitVec 32) : Prop :=
  (∀ a, (k1_off114 v299) a + S1x16.size a ≤ S512x32.size a) ∧
  (∀ a, (k1_off115 v299) a + S1x16.size a ≤ S512x32.size a)
theorem k1_off114_inb : ∀ (v299 : BitVec 32) (k1_hw27 : k1_chk27 v299), ∀ a, (k1_off114 v299) a + S1x16.size a ≤ S512x32.size a := fun v299 k1_hw27 => k1_hw27.1
theorem k1_off115_inb : ∀ (v299 : BitVec 32) (k1_hw27 : k1_chk27 v299), ∀ a, (k1_off115 v299) a + S1x16.size a ≤ S512x32.size a := fun v299 k1_hw27 => k1_hw27.2

def k1_off116 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_111 : BitVec 32 := 4#32
  let v326 : BitVec 32 := Scalar.muli arg9 c4_i32_111
  let c2_i32_112 : BitVec 32 := 2#32
  let v327 : BitVec 32 := Scalar.addi v326 c2_i32_112
  let v328 : Index := Scalar.indexCast v327
  let c96_113 : Index := 96#32
  ![v328.toNat, 96]
def k1_off117 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_111 : BitVec 32 := 4#32
  let v326 : BitVec 32 := Scalar.muli arg9 c4_i32_111
  let c2_i32_112 : BitVec 32 := 2#32
  let v327 : BitVec 32 := Scalar.addi v326 c2_i32_112
  let v331 : Index := Scalar.indexCast v327
  let c112_114 : Index := 112#32
  ![v331.toNat, 112]
def k1_off118 (v325 : BitVec 32) : Fin 2 → Nat :=
  let v334 : Index := Scalar.indexCast v325
  let c0_115 : Index := 0#32
  ![v334.toNat, 0]

def k1_off119 (v325 : BitVec 32) : Fin 2 → Nat :=
  let v337 : Index := Scalar.indexCast v325
  let c16_116 : Index := 16#32
  ![v337.toNat, 16]

def k1_chk28 (v325 : BitVec 32) : Prop :=
  (∀ a, (k1_off118 v325) a + S1x16.size a ≤ S512x32.size a) ∧
  (∀ a, (k1_off119 v325) a + S1x16.size a ≤ S512x32.size a)
theorem k1_off118_inb : ∀ (v325 : BitVec 32) (k1_hw28 : k1_chk28 v325), ∀ a, (k1_off118 v325) a + S1x16.size a ≤ S512x32.size a := fun v325 k1_hw28 => k1_hw28.1
theorem k1_off119_inb : ∀ (v325 : BitVec 32) (k1_hw28 : k1_chk28 v325), ∀ a, (k1_off119 v325) a + S1x16.size a ≤ S512x32.size a := fun v325 k1_hw28 => k1_hw28.2

def k1_off120 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_119 : BitVec 32 := 4#32
  let v352 : BitVec 32 := Scalar.muli arg9 c4_i32_119
  let c3_i32 : BitVec 32 := 3#32
  let v353 : BitVec 32 := Scalar.addi v352 c3_i32
  let v354 : Index := Scalar.indexCast v353
  let c0_120 : Index := 0#32
  ![v354.toNat, 0]
def k1_off121 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_119 : BitVec 32 := 4#32
  let v352 : BitVec 32 := Scalar.muli arg9 c4_i32_119
  let c3_i32 : BitVec 32 := 3#32
  let v353 : BitVec 32 := Scalar.addi v352 c3_i32
  let v357 : Index := Scalar.indexCast v353
  let c16_121 : Index := 16#32
  ![v357.toNat, 16]
def k1_off122 (v351 : BitVec 32) : Fin 2 → Nat :=
  let v360 : Index := Scalar.indexCast v351
  let c0_122 : Index := 0#32
  ![v360.toNat, 0]

def k1_off123 (v351 : BitVec 32) : Fin 2 → Nat :=
  let v363 : Index := Scalar.indexCast v351
  let c16_123 : Index := 16#32
  ![v363.toNat, 16]

def k1_chk29 (v351 : BitVec 32) : Prop :=
  (∀ a, (k1_off122 v351) a + S1x16.size a ≤ S512x32.size a) ∧
  (∀ a, (k1_off123 v351) a + S1x16.size a ≤ S512x32.size a)
theorem k1_off122_inb : ∀ (v351 : BitVec 32) (k1_hw29 : k1_chk29 v351), ∀ a, (k1_off122 v351) a + S1x16.size a ≤ S512x32.size a := fun v351 k1_hw29 => k1_hw29.1
theorem k1_off123_inb : ∀ (v351 : BitVec 32) (k1_hw29 : k1_chk29 v351), ∀ a, (k1_off123 v351) a + S1x16.size a ≤ S512x32.size a := fun v351 k1_hw29 => k1_hw29.2

def k1_off124 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_126 : BitVec 32 := 4#32
  let v378 : BitVec 32 := Scalar.muli arg9 c4_i32_126
  let c3_i32_127 : BitVec 32 := 3#32
  let v379 : BitVec 32 := Scalar.addi v378 c3_i32_127
  let v380 : Index := Scalar.indexCast v379
  let c32_128 : Index := 32#32
  ![v380.toNat, 32]
def k1_off125 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_126 : BitVec 32 := 4#32
  let v378 : BitVec 32 := Scalar.muli arg9 c4_i32_126
  let c3_i32_127 : BitVec 32 := 3#32
  let v379 : BitVec 32 := Scalar.addi v378 c3_i32_127
  let v383 : Index := Scalar.indexCast v379
  let c48_129 : Index := 48#32
  ![v383.toNat, 48]
def k1_off126 (v377 : BitVec 32) : Fin 2 → Nat :=
  let v386 : Index := Scalar.indexCast v377
  let c0_130 : Index := 0#32
  ![v386.toNat, 0]

def k1_off127 (v377 : BitVec 32) : Fin 2 → Nat :=
  let v389 : Index := Scalar.indexCast v377
  let c16_131 : Index := 16#32
  ![v389.toNat, 16]

def k1_chk30 (v377 : BitVec 32) : Prop :=
  (∀ a, (k1_off126 v377) a + S1x16.size a ≤ S512x32.size a) ∧
  (∀ a, (k1_off127 v377) a + S1x16.size a ≤ S512x32.size a)
theorem k1_off126_inb : ∀ (v377 : BitVec 32) (k1_hw30 : k1_chk30 v377), ∀ a, (k1_off126 v377) a + S1x16.size a ≤ S512x32.size a := fun v377 k1_hw30 => k1_hw30.1
theorem k1_off127_inb : ∀ (v377 : BitVec 32) (k1_hw30 : k1_chk30 v377), ∀ a, (k1_off127 v377) a + S1x16.size a ≤ S512x32.size a := fun v377 k1_hw30 => k1_hw30.2

def k1_off128 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_134 : BitVec 32 := 4#32
  let v404 : BitVec 32 := Scalar.muli arg9 c4_i32_134
  let c3_i32_135 : BitVec 32 := 3#32
  let v405 : BitVec 32 := Scalar.addi v404 c3_i32_135
  let v406 : Index := Scalar.indexCast v405
  let c64_136 : Index := 64#32
  ![v406.toNat, 64]
def k1_off129 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_134 : BitVec 32 := 4#32
  let v404 : BitVec 32 := Scalar.muli arg9 c4_i32_134
  let c3_i32_135 : BitVec 32 := 3#32
  let v405 : BitVec 32 := Scalar.addi v404 c3_i32_135
  let v409 : Index := Scalar.indexCast v405
  let c80_137 : Index := 80#32
  ![v409.toNat, 80]
def k1_off130 (v403 : BitVec 32) : Fin 2 → Nat :=
  let v412 : Index := Scalar.indexCast v403
  let c0_138 : Index := 0#32
  ![v412.toNat, 0]

def k1_off131 (v403 : BitVec 32) : Fin 2 → Nat :=
  let v415 : Index := Scalar.indexCast v403
  let c16_139 : Index := 16#32
  ![v415.toNat, 16]

def k1_chk31 (v403 : BitVec 32) : Prop :=
  (∀ a, (k1_off130 v403) a + S1x16.size a ≤ S512x32.size a) ∧
  (∀ a, (k1_off131 v403) a + S1x16.size a ≤ S512x32.size a)
theorem k1_off130_inb : ∀ (v403 : BitVec 32) (k1_hw31 : k1_chk31 v403), ∀ a, (k1_off130 v403) a + S1x16.size a ≤ S512x32.size a := fun v403 k1_hw31 => k1_hw31.1
theorem k1_off131_inb : ∀ (v403 : BitVec 32) (k1_hw31 : k1_chk31 v403), ∀ a, (k1_off131 v403) a + S1x16.size a ≤ S512x32.size a := fun v403 k1_hw31 => k1_hw31.2

def k1_off132 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_142 : BitVec 32 := 4#32
  let v430 : BitVec 32 := Scalar.muli arg9 c4_i32_142
  let c3_i32_143 : BitVec 32 := 3#32
  let v431 : BitVec 32 := Scalar.addi v430 c3_i32_143
  let v432 : Index := Scalar.indexCast v431
  let c96_144 : Index := 96#32
  ![v432.toNat, 96]
def k1_off133 (k1_t3 : Fin k1_t3_loop.trips) : Fin 2 → Nat :=
  let c0_i32_13 : BitVec 32 := 0#32
  let c1_i32_15 : BitVec 32 := 1#32
  let arg9 : BitVec 32 := Scf.iv c0_i32_13 c1_i32_15 k1_t3
  let c4_i32_142 : BitVec 32 := 4#32
  let v430 : BitVec 32 := Scalar.muli arg9 c4_i32_142
  let c3_i32_143 : BitVec 32 := 3#32
  let v431 : BitVec 32 := Scalar.addi v430 c3_i32_143
  let v435 : Index := Scalar.indexCast v431
  let c112_145 : Index := 112#32
  ![v435.toNat, 112]
def k1_off134 (v429 : BitVec 32) : Fin 2 → Nat :=
  let v438 : Index := Scalar.indexCast v429
  let c0_146 : Index := 0#32
  ![v438.toNat, 0]

def k1_off135 (v429 : BitVec 32) : Fin 2 → Nat :=
  let v441 : Index := Scalar.indexCast v429
  let c16_147 : Index := 16#32
  ![v441.toNat, 16]

def k1_chk32 (v429 : BitVec 32) : Prop :=
  (∀ a, (k1_off134 v429) a + S1x16.size a ≤ S512x32.size a) ∧
  (∀ a, (k1_off135 v429) a + S1x16.size a ≤ S512x32.size a)
theorem k1_off134_inb : ∀ (v429 : BitVec 32) (k1_hw32 : k1_chk32 v429), ∀ a, (k1_off134 v429) a + S1x16.size a ≤ S512x32.size a := fun v429 k1_hw32 => k1_hw32.1
theorem k1_off135_inb : ∀ (v429 : BitVec 32) (k1_hw32 : k1_chk32 v429), ∀ a, (k1_off135 v429) a + S1x16.size a ≤ S512x32.size a := fun v429 k1_hw32 => k1_hw32.2

def k1_off136 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_r3 : BitVec 32 := 256#32
  let c0_i32_31_r3 : BitVec 32 := 0#32
  ![v1.toNat, 256, 0]
@[reducible] def k1_t4_loop : Scf.Loop 32 :=
  let c0_i32_18 : BitVec 32 := 0#32
  let c32_i32_19 : BitVec 32 := 32#32
  let v27 : BitVec 32 := Scalar.addi c0_i32_18 c32_i32_19
  let c1_i32_20 : BitVec 32 := 1#32
  ⟨c0_i32_18, v27, c1_i32_20⟩
def k1_off137 (k1_t4 : Fin k1_t4_loop.trips) : Fin 1 → Nat :=
  let c1024_i32 : BitVec 32 := 1024#32
  let c0_i32_18 : BitVec 32 := 0#32
  let c1_i32_20 : BitVec 32 := 1#32
  let arg9 : BitVec 32 := Scf.iv c0_i32_18 c1_i32_20 k1_t4
  let c16_i32 : BitVec 32 := 16#32
  let v33 : BitVec 32 := Scalar.muli arg9 c16_i32
  let v34 : BitVec 32 := Scalar.addi c1024_i32 v33
  let v35 : Index := Scalar.indexCast v34
  ![v35.toNat]
def k1_off138 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32 : BitVec 32 := 4#32
  let v40 : BitVec 32 := Scalar.muli arg9 c4_i32
  let c0_i32_31 : BitVec 32 := 0#32
  let v41 : BitVec 32 := Scalar.addi v40 c0_i32_31
  let v42 : Index := Scalar.indexCast v41
  let c0 : Index := 0#32
  ![v42.toNat, 0]
def k1_off139 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32 : BitVec 32 := 4#32
  let v40 : BitVec 32 := Scalar.muli arg9 c4_i32
  let c0_i32_31 : BitVec 32 := 0#32
  let v41 : BitVec 32 := Scalar.addi v40 c0_i32_31
  let v45 : Index := Scalar.indexCast v41
  let c16 : Index := 16#32
  ![v45.toNat, 16]
def k1_off140 (v39 : BitVec 32) : Fin 2 → Nat :=
  let v48 : Index := Scalar.indexCast v39
  let c0_32 : Index := 0#32
  ![v48.toNat, 0]

def k1_off141 (v39 : BitVec 32) : Fin 2 → Nat :=
  let v51 : Index := Scalar.indexCast v39
  let c16_33 : Index := 16#32
  ![v51.toNat, 16]

def k1_chk33 (v39 : BitVec 32) : Prop :=
  (∀ a, (k1_off140 v39) a + S1x16.size a ≤ S512x32.size a) ∧
  (∀ a, (k1_off141 v39) a + S1x16.size a ≤ S512x32.size a)
theorem k1_off140_inb : ∀ (v39 : BitVec 32) (k1_hw33 : k1_chk33 v39), ∀ a, (k1_off140 v39) a + S1x16.size a ≤ S512x32.size a := fun v39 k1_hw33 => k1_hw33.1
theorem k1_off141_inb : ∀ (v39 : BitVec 32) (k1_hw33 : k1_chk33 v39), ∀ a, (k1_off141 v39) a + S1x16.size a ≤ S512x32.size a := fun v39 k1_hw33 => k1_hw33.2

def k1_off142 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_36 : BitVec 32 := 4#32
  let v66 : BitVec 32 := Scalar.muli arg9 c4_i32_36
  let c0_i32_37 : BitVec 32 := 0#32
  let v67 : BitVec 32 := Scalar.addi v66 c0_i32_37
  let v68 : Index := Scalar.indexCast v67
  let c32 : Index := 32#32
  ![v68.toNat, 32]
def k1_off143 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_36 : BitVec 32 := 4#32
  let v66 : BitVec 32 := Scalar.muli arg9 c4_i32_36
  let c0_i32_37 : BitVec 32 := 0#32
  let v67 : BitVec 32 := Scalar.addi v66 c0_i32_37
  let v71 : Index := Scalar.indexCast v67
  let c48 : Index := 48#32
  ![v71.toNat, 48]
def k1_off144 (v65 : BitVec 32) : Fin 2 → Nat :=
  let v74 : Index := Scalar.indexCast v65
  let c0_38 : Index := 0#32
  ![v74.toNat, 0]

def k1_off145 (v65 : BitVec 32) : Fin 2 → Nat :=
  let v77 : Index := Scalar.indexCast v65
  let c16_39 : Index := 16#32
  ![v77.toNat, 16]

def k1_chk34 (v65 : BitVec 32) : Prop :=
  (∀ a, (k1_off144 v65) a + S1x16.size a ≤ S512x32.size a) ∧
  (∀ a, (k1_off145 v65) a + S1x16.size a ≤ S512x32.size a)
theorem k1_off144_inb : ∀ (v65 : BitVec 32) (k1_hw34 : k1_chk34 v65), ∀ a, (k1_off144 v65) a + S1x16.size a ≤ S512x32.size a := fun v65 k1_hw34 => k1_hw34.1
theorem k1_off145_inb : ∀ (v65 : BitVec 32) (k1_hw34 : k1_chk34 v65), ∀ a, (k1_off145 v65) a + S1x16.size a ≤ S512x32.size a := fun v65 k1_hw34 => k1_hw34.2

def k1_off146 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_42 : BitVec 32 := 4#32
  let v92 : BitVec 32 := Scalar.muli arg9 c4_i32_42
  let c0_i32_43 : BitVec 32 := 0#32
  let v93 : BitVec 32 := Scalar.addi v92 c0_i32_43
  let v94 : Index := Scalar.indexCast v93
  let c64 : Index := 64#32
  ![v94.toNat, 64]
def k1_off147 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_42 : BitVec 32 := 4#32
  let v92 : BitVec 32 := Scalar.muli arg9 c4_i32_42
  let c0_i32_43 : BitVec 32 := 0#32
  let v93 : BitVec 32 := Scalar.addi v92 c0_i32_43
  let v97 : Index := Scalar.indexCast v93
  let c80 : Index := 80#32
  ![v97.toNat, 80]
def k1_off148 (v91 : BitVec 32) : Fin 2 → Nat :=
  let v100 : Index := Scalar.indexCast v91
  let c0_44 : Index := 0#32
  ![v100.toNat, 0]

def k1_off149 (v91 : BitVec 32) : Fin 2 → Nat :=
  let v103 : Index := Scalar.indexCast v91
  let c16_45 : Index := 16#32
  ![v103.toNat, 16]

def k1_chk35 (v91 : BitVec 32) : Prop :=
  (∀ a, (k1_off148 v91) a + S1x16.size a ≤ S512x32.size a) ∧
  (∀ a, (k1_off149 v91) a + S1x16.size a ≤ S512x32.size a)
theorem k1_off148_inb : ∀ (v91 : BitVec 32) (k1_hw35 : k1_chk35 v91), ∀ a, (k1_off148 v91) a + S1x16.size a ≤ S512x32.size a := fun v91 k1_hw35 => k1_hw35.1
theorem k1_off149_inb : ∀ (v91 : BitVec 32) (k1_hw35 : k1_chk35 v91), ∀ a, (k1_off149 v91) a + S1x16.size a ≤ S512x32.size a := fun v91 k1_hw35 => k1_hw35.2

def k1_off150 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_48 : BitVec 32 := 4#32
  let v118 : BitVec 32 := Scalar.muli arg9 c4_i32_48
  let c0_i32_49 : BitVec 32 := 0#32
  let v119 : BitVec 32 := Scalar.addi v118 c0_i32_49
  let v120 : Index := Scalar.indexCast v119
  let c96 : Index := 96#32
  ![v120.toNat, 96]
def k1_off151 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_48 : BitVec 32 := 4#32
  let v118 : BitVec 32 := Scalar.muli arg9 c4_i32_48
  let c0_i32_49 : BitVec 32 := 0#32
  let v119 : BitVec 32 := Scalar.addi v118 c0_i32_49
  let v123 : Index := Scalar.indexCast v119
  let c112 : Index := 112#32
  ![v123.toNat, 112]
def k1_off152 (v117 : BitVec 32) : Fin 2 → Nat :=
  let v126 : Index := Scalar.indexCast v117
  let c0_50 : Index := 0#32
  ![v126.toNat, 0]

def k1_off153 (v117 : BitVec 32) : Fin 2 → Nat :=
  let v129 : Index := Scalar.indexCast v117
  let c16_51 : Index := 16#32
  ![v129.toNat, 16]

def k1_chk36 (v117 : BitVec 32) : Prop :=
  (∀ a, (k1_off152 v117) a + S1x16.size a ≤ S512x32.size a) ∧
  (∀ a, (k1_off153 v117) a + S1x16.size a ≤ S512x32.size a)
theorem k1_off152_inb : ∀ (v117 : BitVec 32) (k1_hw36 : k1_chk36 v117), ∀ a, (k1_off152 v117) a + S1x16.size a ≤ S512x32.size a := fun v117 k1_hw36 => k1_hw36.1
theorem k1_off153_inb : ∀ (v117 : BitVec 32) (k1_hw36 : k1_chk36 v117), ∀ a, (k1_off153 v117) a + S1x16.size a ≤ S512x32.size a := fun v117 k1_hw36 => k1_hw36.2

def k1_off154 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_54 : BitVec 32 := 4#32
  let v144 : BitVec 32 := Scalar.muli arg9 c4_i32_54
  let c1_i32_55 : BitVec 32 := 1#32
  let v145 : BitVec 32 := Scalar.addi v144 c1_i32_55
  let v146 : Index := Scalar.indexCast v145
  let c0_56 : Index := 0#32
  ![v146.toNat, 0]
def k1_off155 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_54 : BitVec 32 := 4#32
  let v144 : BitVec 32 := Scalar.muli arg9 c4_i32_54
  let c1_i32_55 : BitVec 32 := 1#32
  let v145 : BitVec 32 := Scalar.addi v144 c1_i32_55
  let v149 : Index := Scalar.indexCast v145
  let c16_57 : Index := 16#32
  ![v149.toNat, 16]
def k1_off156 (v143 : BitVec 32) : Fin 2 → Nat :=
  let v152 : Index := Scalar.indexCast v143
  let c0_58 : Index := 0#32
  ![v152.toNat, 0]

def k1_off157 (v143 : BitVec 32) : Fin 2 → Nat :=
  let v155 : Index := Scalar.indexCast v143
  let c16_59 : Index := 16#32
  ![v155.toNat, 16]

def k1_chk37 (v143 : BitVec 32) : Prop :=
  (∀ a, (k1_off156 v143) a + S1x16.size a ≤ S512x32.size a) ∧
  (∀ a, (k1_off157 v143) a + S1x16.size a ≤ S512x32.size a)
theorem k1_off156_inb : ∀ (v143 : BitVec 32) (k1_hw37 : k1_chk37 v143), ∀ a, (k1_off156 v143) a + S1x16.size a ≤ S512x32.size a := fun v143 k1_hw37 => k1_hw37.1
theorem k1_off157_inb : ∀ (v143 : BitVec 32) (k1_hw37 : k1_chk37 v143), ∀ a, (k1_off157 v143) a + S1x16.size a ≤ S512x32.size a := fun v143 k1_hw37 => k1_hw37.2

def k1_off158 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_62 : BitVec 32 := 4#32
  let v170 : BitVec 32 := Scalar.muli arg9 c4_i32_62
  let c1_i32_63 : BitVec 32 := 1#32
  let v171 : BitVec 32 := Scalar.addi v170 c1_i32_63
  let v172 : Index := Scalar.indexCast v171
  let c32_64 : Index := 32#32
  ![v172.toNat, 32]
def k1_off159 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_62 : BitVec 32 := 4#32
  let v170 : BitVec 32 := Scalar.muli arg9 c4_i32_62
  let c1_i32_63 : BitVec 32 := 1#32
  let v171 : BitVec 32 := Scalar.addi v170 c1_i32_63
  let v175 : Index := Scalar.indexCast v171
  let c48_65 : Index := 48#32
  ![v175.toNat, 48]
def k1_off160 (v169 : BitVec 32) : Fin 2 → Nat :=
  let v178 : Index := Scalar.indexCast v169
  let c0_66 : Index := 0#32
  ![v178.toNat, 0]

def k1_off161 (v169 : BitVec 32) : Fin 2 → Nat :=
  let v181 : Index := Scalar.indexCast v169
  let c16_67 : Index := 16#32
  ![v181.toNat, 16]

def k1_chk38 (v169 : BitVec 32) : Prop :=
  (∀ a, (k1_off160 v169) a + S1x16.size a ≤ S512x32.size a) ∧
  (∀ a, (k1_off161 v169) a + S1x16.size a ≤ S512x32.size a)
theorem k1_off160_inb : ∀ (v169 : BitVec 32) (k1_hw38 : k1_chk38 v169), ∀ a, (k1_off160 v169) a + S1x16.size a ≤ S512x32.size a := fun v169 k1_hw38 => k1_hw38.1
theorem k1_off161_inb : ∀ (v169 : BitVec 32) (k1_hw38 : k1_chk38 v169), ∀ a, (k1_off161 v169) a + S1x16.size a ≤ S512x32.size a := fun v169 k1_hw38 => k1_hw38.2

def k1_off162 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_70 : BitVec 32 := 4#32
  let v196 : BitVec 32 := Scalar.muli arg9 c4_i32_70
  let c1_i32_71 : BitVec 32 := 1#32
  let v197 : BitVec 32 := Scalar.addi v196 c1_i32_71
  let v198 : Index := Scalar.indexCast v197
  let c64_72 : Index := 64#32
  ![v198.toNat, 64]
def k1_off163 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_70 : BitVec 32 := 4#32
  let v196 : BitVec 32 := Scalar.muli arg9 c4_i32_70
  let c1_i32_71 : BitVec 32 := 1#32
  let v197 : BitVec 32 := Scalar.addi v196 c1_i32_71
  let v201 : Index := Scalar.indexCast v197
  let c80_73 : Index := 80#32
  ![v201.toNat, 80]
def k1_off164 (v195 : BitVec 32) : Fin 2 → Nat :=
  let v204 : Index := Scalar.indexCast v195
  let c0_74 : Index := 0#32
  ![v204.toNat, 0]

def k1_off165 (v195 : BitVec 32) : Fin 2 → Nat :=
  let v207 : Index := Scalar.indexCast v195
  let c16_75 : Index := 16#32
  ![v207.toNat, 16]

def k1_chk39 (v195 : BitVec 32) : Prop :=
  (∀ a, (k1_off164 v195) a + S1x16.size a ≤ S512x32.size a) ∧
  (∀ a, (k1_off165 v195) a + S1x16.size a ≤ S512x32.size a)
theorem k1_off164_inb : ∀ (v195 : BitVec 32) (k1_hw39 : k1_chk39 v195), ∀ a, (k1_off164 v195) a + S1x16.size a ≤ S512x32.size a := fun v195 k1_hw39 => k1_hw39.1
theorem k1_off165_inb : ∀ (v195 : BitVec 32) (k1_hw39 : k1_chk39 v195), ∀ a, (k1_off165 v195) a + S1x16.size a ≤ S512x32.size a := fun v195 k1_hw39 => k1_hw39.2

def k1_off166 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_78 : BitVec 32 := 4#32
  let v222 : BitVec 32 := Scalar.muli arg9 c4_i32_78
  let c1_i32_79 : BitVec 32 := 1#32
  let v223 : BitVec 32 := Scalar.addi v222 c1_i32_79
  let v224 : Index := Scalar.indexCast v223
  let c96_80 : Index := 96#32
  ![v224.toNat, 96]
def k1_off167 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_78 : BitVec 32 := 4#32
  let v222 : BitVec 32 := Scalar.muli arg9 c4_i32_78
  let c1_i32_79 : BitVec 32 := 1#32
  let v223 : BitVec 32 := Scalar.addi v222 c1_i32_79
  let v227 : Index := Scalar.indexCast v223
  let c112_81 : Index := 112#32
  ![v227.toNat, 112]
def k1_off168 (v221 : BitVec 32) : Fin 2 → Nat :=
  let v230 : Index := Scalar.indexCast v221
  let c0_82 : Index := 0#32
  ![v230.toNat, 0]

def k1_off169 (v221 : BitVec 32) : Fin 2 → Nat :=
  let v233 : Index := Scalar.indexCast v221
  let c16_83 : Index := 16#32
  ![v233.toNat, 16]

def k1_chk40 (v221 : BitVec 32) : Prop :=
  (∀ a, (k1_off168 v221) a + S1x16.size a ≤ S512x32.size a) ∧
  (∀ a, (k1_off169 v221) a + S1x16.size a ≤ S512x32.size a)
theorem k1_off168_inb : ∀ (v221 : BitVec 32) (k1_hw40 : k1_chk40 v221), ∀ a, (k1_off168 v221) a + S1x16.size a ≤ S512x32.size a := fun v221 k1_hw40 => k1_hw40.1
theorem k1_off169_inb : ∀ (v221 : BitVec 32) (k1_hw40 : k1_chk40 v221), ∀ a, (k1_off169 v221) a + S1x16.size a ≤ S512x32.size a := fun v221 k1_hw40 => k1_hw40.2

def k1_off170 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_86 : BitVec 32 := 4#32
  let v248 : BitVec 32 := Scalar.muli arg9 c4_i32_86
  let c2_i32_87 : BitVec 32 := 2#32
  let v249 : BitVec 32 := Scalar.addi v248 c2_i32_87
  let v250 : Index := Scalar.indexCast v249
  let c0_88 : Index := 0#32
  ![v250.toNat, 0]
def k1_off171 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_86 : BitVec 32 := 4#32
  let v248 : BitVec 32 := Scalar.muli arg9 c4_i32_86
  let c2_i32_87 : BitVec 32 := 2#32
  let v249 : BitVec 32 := Scalar.addi v248 c2_i32_87
  let v253 : Index := Scalar.indexCast v249
  let c16_89 : Index := 16#32
  ![v253.toNat, 16]
def k1_off172 (v247 : BitVec 32) : Fin 2 → Nat :=
  let v256 : Index := Scalar.indexCast v247
  let c0_90 : Index := 0#32
  ![v256.toNat, 0]

def k1_off173 (v247 : BitVec 32) : Fin 2 → Nat :=
  let v259 : Index := Scalar.indexCast v247
  let c16_91 : Index := 16#32
  ![v259.toNat, 16]

def k1_chk41 (v247 : BitVec 32) : Prop :=
  (∀ a, (k1_off172 v247) a + S1x16.size a ≤ S512x32.size a) ∧
  (∀ a, (k1_off173 v247) a + S1x16.size a ≤ S512x32.size a)
theorem k1_off172_inb : ∀ (v247 : BitVec 32) (k1_hw41 : k1_chk41 v247), ∀ a, (k1_off172 v247) a + S1x16.size a ≤ S512x32.size a := fun v247 k1_hw41 => k1_hw41.1
theorem k1_off173_inb : ∀ (v247 : BitVec 32) (k1_hw41 : k1_chk41 v247), ∀ a, (k1_off173 v247) a + S1x16.size a ≤ S512x32.size a := fun v247 k1_hw41 => k1_hw41.2

def k1_off174 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_94 : BitVec 32 := 4#32
  let v274 : BitVec 32 := Scalar.muli arg9 c4_i32_94
  let c2_i32_95 : BitVec 32 := 2#32
  let v275 : BitVec 32 := Scalar.addi v274 c2_i32_95
  let v276 : Index := Scalar.indexCast v275
  let c32_96 : Index := 32#32
  ![v276.toNat, 32]
def k1_off175 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_94 : BitVec 32 := 4#32
  let v274 : BitVec 32 := Scalar.muli arg9 c4_i32_94
  let c2_i32_95 : BitVec 32 := 2#32
  let v275 : BitVec 32 := Scalar.addi v274 c2_i32_95
  let v279 : Index := Scalar.indexCast v275
  let c48_97 : Index := 48#32
  ![v279.toNat, 48]
def k1_off176 (v273 : BitVec 32) : Fin 2 → Nat :=
  let v282 : Index := Scalar.indexCast v273
  let c0_98 : Index := 0#32
  ![v282.toNat, 0]

def k1_off177 (v273 : BitVec 32) : Fin 2 → Nat :=
  let v285 : Index := Scalar.indexCast v273
  let c16_99 : Index := 16#32
  ![v285.toNat, 16]

def k1_chk42 (v273 : BitVec 32) : Prop :=
  (∀ a, (k1_off176 v273) a + S1x16.size a ≤ S512x32.size a) ∧
  (∀ a, (k1_off177 v273) a + S1x16.size a ≤ S512x32.size a)
theorem k1_off176_inb : ∀ (v273 : BitVec 32) (k1_hw42 : k1_chk42 v273), ∀ a, (k1_off176 v273) a + S1x16.size a ≤ S512x32.size a := fun v273 k1_hw42 => k1_hw42.1
theorem k1_off177_inb : ∀ (v273 : BitVec 32) (k1_hw42 : k1_chk42 v273), ∀ a, (k1_off177 v273) a + S1x16.size a ≤ S512x32.size a := fun v273 k1_hw42 => k1_hw42.2

def k1_off178 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_102 : BitVec 32 := 4#32
  let v300 : BitVec 32 := Scalar.muli arg9 c4_i32_102
  let c2_i32_103 : BitVec 32 := 2#32
  let v301 : BitVec 32 := Scalar.addi v300 c2_i32_103
  let v302 : Index := Scalar.indexCast v301
  let c64_104 : Index := 64#32
  ![v302.toNat, 64]
def k1_off179 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_102 : BitVec 32 := 4#32
  let v300 : BitVec 32 := Scalar.muli arg9 c4_i32_102
  let c2_i32_103 : BitVec 32 := 2#32
  let v301 : BitVec 32 := Scalar.addi v300 c2_i32_103
  let v305 : Index := Scalar.indexCast v301
  let c80_105 : Index := 80#32
  ![v305.toNat, 80]
def k1_off180 (v299 : BitVec 32) : Fin 2 → Nat :=
  let v308 : Index := Scalar.indexCast v299
  let c0_106 : Index := 0#32
  ![v308.toNat, 0]

def k1_off181 (v299 : BitVec 32) : Fin 2 → Nat :=
  let v311 : Index := Scalar.indexCast v299
  let c16_107 : Index := 16#32
  ![v311.toNat, 16]

def k1_chk43 (v299 : BitVec 32) : Prop :=
  (∀ a, (k1_off180 v299) a + S1x16.size a ≤ S512x32.size a) ∧
  (∀ a, (k1_off181 v299) a + S1x16.size a ≤ S512x32.size a)
theorem k1_off180_inb : ∀ (v299 : BitVec 32) (k1_hw43 : k1_chk43 v299), ∀ a, (k1_off180 v299) a + S1x16.size a ≤ S512x32.size a := fun v299 k1_hw43 => k1_hw43.1
theorem k1_off181_inb : ∀ (v299 : BitVec 32) (k1_hw43 : k1_chk43 v299), ∀ a, (k1_off181 v299) a + S1x16.size a ≤ S512x32.size a := fun v299 k1_hw43 => k1_hw43.2

def k1_off182 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_110 : BitVec 32 := 4#32
  let v326 : BitVec 32 := Scalar.muli arg9 c4_i32_110
  let c2_i32_111 : BitVec 32 := 2#32
  let v327 : BitVec 32 := Scalar.addi v326 c2_i32_111
  let v328 : Index := Scalar.indexCast v327
  let c96_112 : Index := 96#32
  ![v328.toNat, 96]
def k1_off183 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_110 : BitVec 32 := 4#32
  let v326 : BitVec 32 := Scalar.muli arg9 c4_i32_110
  let c2_i32_111 : BitVec 32 := 2#32
  let v327 : BitVec 32 := Scalar.addi v326 c2_i32_111
  let v331 : Index := Scalar.indexCast v327
  let c112_113 : Index := 112#32
  ![v331.toNat, 112]
def k1_off184 (v325 : BitVec 32) : Fin 2 → Nat :=
  let v334 : Index := Scalar.indexCast v325
  let c0_114 : Index := 0#32
  ![v334.toNat, 0]

def k1_off185 (v325 : BitVec 32) : Fin 2 → Nat :=
  let v337 : Index := Scalar.indexCast v325
  let c16_115 : Index := 16#32
  ![v337.toNat, 16]

def k1_chk44 (v325 : BitVec 32) : Prop :=
  (∀ a, (k1_off184 v325) a + S1x16.size a ≤ S512x32.size a) ∧
  (∀ a, (k1_off185 v325) a + S1x16.size a ≤ S512x32.size a)
theorem k1_off184_inb : ∀ (v325 : BitVec 32) (k1_hw44 : k1_chk44 v325), ∀ a, (k1_off184 v325) a + S1x16.size a ≤ S512x32.size a := fun v325 k1_hw44 => k1_hw44.1
theorem k1_off185_inb : ∀ (v325 : BitVec 32) (k1_hw44 : k1_chk44 v325), ∀ a, (k1_off185 v325) a + S1x16.size a ≤ S512x32.size a := fun v325 k1_hw44 => k1_hw44.2

def k1_off186 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_118 : BitVec 32 := 4#32
  let v352 : BitVec 32 := Scalar.muli arg9 c4_i32_118
  let c3_i32 : BitVec 32 := 3#32
  let v353 : BitVec 32 := Scalar.addi v352 c3_i32
  let v354 : Index := Scalar.indexCast v353
  let c0_119 : Index := 0#32
  ![v354.toNat, 0]
def k1_off187 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_118 : BitVec 32 := 4#32
  let v352 : BitVec 32 := Scalar.muli arg9 c4_i32_118
  let c3_i32 : BitVec 32 := 3#32
  let v353 : BitVec 32 := Scalar.addi v352 c3_i32
  let v357 : Index := Scalar.indexCast v353
  let c16_120 : Index := 16#32
  ![v357.toNat, 16]
def k1_off188 (v351 : BitVec 32) : Fin 2 → Nat :=
  let v360 : Index := Scalar.indexCast v351
  let c0_121 : Index := 0#32
  ![v360.toNat, 0]

def k1_off189 (v351 : BitVec 32) : Fin 2 → Nat :=
  let v363 : Index := Scalar.indexCast v351
  let c16_122 : Index := 16#32
  ![v363.toNat, 16]

def k1_chk45 (v351 : BitVec 32) : Prop :=
  (∀ a, (k1_off188 v351) a + S1x16.size a ≤ S512x32.size a) ∧
  (∀ a, (k1_off189 v351) a + S1x16.size a ≤ S512x32.size a)
theorem k1_off188_inb : ∀ (v351 : BitVec 32) (k1_hw45 : k1_chk45 v351), ∀ a, (k1_off188 v351) a + S1x16.size a ≤ S512x32.size a := fun v351 k1_hw45 => k1_hw45.1
theorem k1_off189_inb : ∀ (v351 : BitVec 32) (k1_hw45 : k1_chk45 v351), ∀ a, (k1_off189 v351) a + S1x16.size a ≤ S512x32.size a := fun v351 k1_hw45 => k1_hw45.2

def k1_off190 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_125 : BitVec 32 := 4#32
  let v378 : BitVec 32 := Scalar.muli arg9 c4_i32_125
  let c3_i32_126 : BitVec 32 := 3#32
  let v379 : BitVec 32 := Scalar.addi v378 c3_i32_126
  let v380 : Index := Scalar.indexCast v379
  let c32_127 : Index := 32#32
  ![v380.toNat, 32]
def k1_off191 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_125 : BitVec 32 := 4#32
  let v378 : BitVec 32 := Scalar.muli arg9 c4_i32_125
  let c3_i32_126 : BitVec 32 := 3#32
  let v379 : BitVec 32 := Scalar.addi v378 c3_i32_126
  let v383 : Index := Scalar.indexCast v379
  let c48_128 : Index := 48#32
  ![v383.toNat, 48]
def k1_off192 (v377 : BitVec 32) : Fin 2 → Nat :=
  let v386 : Index := Scalar.indexCast v377
  let c0_129 : Index := 0#32
  ![v386.toNat, 0]

def k1_off193 (v377 : BitVec 32) : Fin 2 → Nat :=
  let v389 : Index := Scalar.indexCast v377
  let c16_130 : Index := 16#32
  ![v389.toNat, 16]

def k1_chk46 (v377 : BitVec 32) : Prop :=
  (∀ a, (k1_off192 v377) a + S1x16.size a ≤ S512x32.size a) ∧
  (∀ a, (k1_off193 v377) a + S1x16.size a ≤ S512x32.size a)
theorem k1_off192_inb : ∀ (v377 : BitVec 32) (k1_hw46 : k1_chk46 v377), ∀ a, (k1_off192 v377) a + S1x16.size a ≤ S512x32.size a := fun v377 k1_hw46 => k1_hw46.1
theorem k1_off193_inb : ∀ (v377 : BitVec 32) (k1_hw46 : k1_chk46 v377), ∀ a, (k1_off193 v377) a + S1x16.size a ≤ S512x32.size a := fun v377 k1_hw46 => k1_hw46.2

def k1_off194 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_133 : BitVec 32 := 4#32
  let v404 : BitVec 32 := Scalar.muli arg9 c4_i32_133
  let c3_i32_134 : BitVec 32 := 3#32
  let v405 : BitVec 32 := Scalar.addi v404 c3_i32_134
  let v406 : Index := Scalar.indexCast v405
  let c64_135 : Index := 64#32
  ![v406.toNat, 64]
def k1_off195 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_133 : BitVec 32 := 4#32
  let v404 : BitVec 32 := Scalar.muli arg9 c4_i32_133
  let c3_i32_134 : BitVec 32 := 3#32
  let v405 : BitVec 32 := Scalar.addi v404 c3_i32_134
  let v409 : Index := Scalar.indexCast v405
  let c80_136 : Index := 80#32
  ![v409.toNat, 80]
def k1_off196 (v403 : BitVec 32) : Fin 2 → Nat :=
  let v412 : Index := Scalar.indexCast v403
  let c0_137 : Index := 0#32
  ![v412.toNat, 0]

def k1_off197 (v403 : BitVec 32) : Fin 2 → Nat :=
  let v415 : Index := Scalar.indexCast v403
  let c16_138 : Index := 16#32
  ![v415.toNat, 16]

def k1_chk47 (v403 : BitVec 32) : Prop :=
  (∀ a, (k1_off196 v403) a + S1x16.size a ≤ S512x32.size a) ∧
  (∀ a, (k1_off197 v403) a + S1x16.size a ≤ S512x32.size a)
theorem k1_off196_inb : ∀ (v403 : BitVec 32) (k1_hw47 : k1_chk47 v403), ∀ a, (k1_off196 v403) a + S1x16.size a ≤ S512x32.size a := fun v403 k1_hw47 => k1_hw47.1
theorem k1_off197_inb : ∀ (v403 : BitVec 32) (k1_hw47 : k1_chk47 v403), ∀ a, (k1_off197 v403) a + S1x16.size a ≤ S512x32.size a := fun v403 k1_hw47 => k1_hw47.2

def k1_off198 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_141 : BitVec 32 := 4#32
  let v430 : BitVec 32 := Scalar.muli arg9 c4_i32_141
  let c3_i32_142 : BitVec 32 := 3#32
  let v431 : BitVec 32 := Scalar.addi v430 c3_i32_142
  let v432 : Index := Scalar.indexCast v431
  let c96_143 : Index := 96#32
  ![v432.toNat, 96]
def k1_off199 (k1_t4 : Fin k1_t4_loop.trips) : Fin 2 → Nat :=
  let c0_i32_18 : BitVec 32 := 0#32
  let c1_i32_20 : BitVec 32 := 1#32
  let arg9 : BitVec 32 := Scf.iv c0_i32_18 c1_i32_20 k1_t4
  let c4_i32_141 : BitVec 32 := 4#32
  let v430 : BitVec 32 := Scalar.muli arg9 c4_i32_141
  let c3_i32_142 : BitVec 32 := 3#32
  let v431 : BitVec 32 := Scalar.addi v430 c3_i32_142
  let v435 : Index := Scalar.indexCast v431
  let c112_144 : Index := 112#32
  ![v435.toNat, 112]
def k1_off200 (v429 : BitVec 32) : Fin 2 → Nat :=
  let v438 : Index := Scalar.indexCast v429
  let c0_145 : Index := 0#32
  ![v438.toNat, 0]

def k1_off201 (v429 : BitVec 32) : Fin 2 → Nat :=
  let v441 : Index := Scalar.indexCast v429
  let c16_146 : Index := 16#32
  ![v441.toNat, 16]

def k1_chk48 (v429 : BitVec 32) : Prop :=
  (∀ a, (k1_off200 v429) a + S1x16.size a ≤ S512x32.size a) ∧
  (∀ a, (k1_off201 v429) a + S1x16.size a ≤ S512x32.size a)
theorem k1_off200_inb : ∀ (v429 : BitVec 32) (k1_hw48 : k1_chk48 v429), ∀ a, (k1_off200 v429) a + S1x16.size a ≤ S512x32.size a := fun v429 k1_hw48 => k1_hw48.1
theorem k1_off201_inb : ∀ (v429 : BitVec 32) (k1_hw48 : k1_chk48 v429), ∀ a, (k1_off201 v429) a + S1x16.size a ≤ S512x32.size a := fun v429 k1_hw48 => k1_hw48.2

def k1_off202 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32_r4 : BitVec 32 := 384#32
  let c0_i32_31_r4 : BitVec 32 := 0#32
  ![v1.toNat, 384, 0]
@[reducible] def k1_t5_loop : Scf.Loop 32 :=
  let c0_i32_23 : BitVec 32 := 0#32
  let c32_i32_24 : BitVec 32 := 32#32
  let v29 : BitVec 32 := Scalar.addi c0_i32_23 c32_i32_24
  let c1_i32_25 : BitVec 32 := 1#32
  ⟨c0_i32_23, v29, c1_i32_25⟩
def k1_off203 (k1_t5 : Fin k1_t5_loop.trips) : Fin 1 → Nat :=
  let c1536_i32 : BitVec 32 := 1536#32
  let c0_i32_23 : BitVec 32 := 0#32
  let c1_i32_25 : BitVec 32 := 1#32
  let arg9 : BitVec 32 := Scf.iv c0_i32_23 c1_i32_25 k1_t5
  let c16_i32 : BitVec 32 := 16#32
  let v33 : BitVec 32 := Scalar.muli arg9 c16_i32
  let v34 : BitVec 32 := Scalar.addi c1536_i32 v33
  let v35 : Index := Scalar.indexCast v34
  ![v35.toNat]
def k1_off204 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32 : BitVec 32 := 4#32
  let v40 : BitVec 32 := Scalar.muli arg9 c4_i32
  let c0_i32_31 : BitVec 32 := 0#32
  let v41 : BitVec 32 := Scalar.addi v40 c0_i32_31
  let v42 : Index := Scalar.indexCast v41
  let c0 : Index := 0#32
  ![v42.toNat, 0]
def k1_off205 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32 : BitVec 32 := 4#32
  let v40 : BitVec 32 := Scalar.muli arg9 c4_i32
  let c0_i32_31 : BitVec 32 := 0#32
  let v41 : BitVec 32 := Scalar.addi v40 c0_i32_31
  let v45 : Index := Scalar.indexCast v41
  let c16 : Index := 16#32
  ![v45.toNat, 16]
def k1_off206 (v39 : BitVec 32) : Fin 2 → Nat :=
  let v48 : Index := Scalar.indexCast v39
  let c0_32 : Index := 0#32
  ![v48.toNat, 0]

def k1_off207 (v39 : BitVec 32) : Fin 2 → Nat :=
  let v51 : Index := Scalar.indexCast v39
  let c16_33 : Index := 16#32
  ![v51.toNat, 16]

def k1_chk49 (v39 : BitVec 32) : Prop :=
  (∀ a, (k1_off206 v39) a + S1x16.size a ≤ S512x32.size a) ∧
  (∀ a, (k1_off207 v39) a + S1x16.size a ≤ S512x32.size a)
theorem k1_off206_inb : ∀ (v39 : BitVec 32) (k1_hw49 : k1_chk49 v39), ∀ a, (k1_off206 v39) a + S1x16.size a ≤ S512x32.size a := fun v39 k1_hw49 => k1_hw49.1
theorem k1_off207_inb : ∀ (v39 : BitVec 32) (k1_hw49 : k1_chk49 v39), ∀ a, (k1_off207 v39) a + S1x16.size a ≤ S512x32.size a := fun v39 k1_hw49 => k1_hw49.2

def k1_off208 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_36 : BitVec 32 := 4#32
  let v66 : BitVec 32 := Scalar.muli arg9 c4_i32_36
  let c0_i32_37 : BitVec 32 := 0#32
  let v67 : BitVec 32 := Scalar.addi v66 c0_i32_37
  let v68 : Index := Scalar.indexCast v67
  let c32 : Index := 32#32
  ![v68.toNat, 32]
def k1_off209 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_36 : BitVec 32 := 4#32
  let v66 : BitVec 32 := Scalar.muli arg9 c4_i32_36
  let c0_i32_37 : BitVec 32 := 0#32
  let v67 : BitVec 32 := Scalar.addi v66 c0_i32_37
  let v71 : Index := Scalar.indexCast v67
  let c48 : Index := 48#32
  ![v71.toNat, 48]
def k1_off210 (v65 : BitVec 32) : Fin 2 → Nat :=
  let v74 : Index := Scalar.indexCast v65
  let c0_38 : Index := 0#32
  ![v74.toNat, 0]

def k1_off211 (v65 : BitVec 32) : Fin 2 → Nat :=
  let v77 : Index := Scalar.indexCast v65
  let c16_39 : Index := 16#32
  ![v77.toNat, 16]

def k1_chk50 (v65 : BitVec 32) : Prop :=
  (∀ a, (k1_off210 v65) a + S1x16.size a ≤ S512x32.size a) ∧
  (∀ a, (k1_off211 v65) a + S1x16.size a ≤ S512x32.size a)
theorem k1_off210_inb : ∀ (v65 : BitVec 32) (k1_hw50 : k1_chk50 v65), ∀ a, (k1_off210 v65) a + S1x16.size a ≤ S512x32.size a := fun v65 k1_hw50 => k1_hw50.1
theorem k1_off211_inb : ∀ (v65 : BitVec 32) (k1_hw50 : k1_chk50 v65), ∀ a, (k1_off211 v65) a + S1x16.size a ≤ S512x32.size a := fun v65 k1_hw50 => k1_hw50.2

def k1_off212 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_42 : BitVec 32 := 4#32
  let v92 : BitVec 32 := Scalar.muli arg9 c4_i32_42
  let c0_i32_43 : BitVec 32 := 0#32
  let v93 : BitVec 32 := Scalar.addi v92 c0_i32_43
  let v94 : Index := Scalar.indexCast v93
  let c64 : Index := 64#32
  ![v94.toNat, 64]
def k1_off213 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_42 : BitVec 32 := 4#32
  let v92 : BitVec 32 := Scalar.muli arg9 c4_i32_42
  let c0_i32_43 : BitVec 32 := 0#32
  let v93 : BitVec 32 := Scalar.addi v92 c0_i32_43
  let v97 : Index := Scalar.indexCast v93
  let c80 : Index := 80#32
  ![v97.toNat, 80]
def k1_off214 (v91 : BitVec 32) : Fin 2 → Nat :=
  let v100 : Index := Scalar.indexCast v91
  let c0_44 : Index := 0#32
  ![v100.toNat, 0]

def k1_off215 (v91 : BitVec 32) : Fin 2 → Nat :=
  let v103 : Index := Scalar.indexCast v91
  let c16_45 : Index := 16#32
  ![v103.toNat, 16]

def k1_chk51 (v91 : BitVec 32) : Prop :=
  (∀ a, (k1_off214 v91) a + S1x16.size a ≤ S512x32.size a) ∧
  (∀ a, (k1_off215 v91) a + S1x16.size a ≤ S512x32.size a)
theorem k1_off214_inb : ∀ (v91 : BitVec 32) (k1_hw51 : k1_chk51 v91), ∀ a, (k1_off214 v91) a + S1x16.size a ≤ S512x32.size a := fun v91 k1_hw51 => k1_hw51.1
theorem k1_off215_inb : ∀ (v91 : BitVec 32) (k1_hw51 : k1_chk51 v91), ∀ a, (k1_off215 v91) a + S1x16.size a ≤ S512x32.size a := fun v91 k1_hw51 => k1_hw51.2

def k1_off216 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_48 : BitVec 32 := 4#32
  let v118 : BitVec 32 := Scalar.muli arg9 c4_i32_48
  let c0_i32_49 : BitVec 32 := 0#32
  let v119 : BitVec 32 := Scalar.addi v118 c0_i32_49
  let v120 : Index := Scalar.indexCast v119
  let c96 : Index := 96#32
  ![v120.toNat, 96]
def k1_off217 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_48 : BitVec 32 := 4#32
  let v118 : BitVec 32 := Scalar.muli arg9 c4_i32_48
  let c0_i32_49 : BitVec 32 := 0#32
  let v119 : BitVec 32 := Scalar.addi v118 c0_i32_49
  let v123 : Index := Scalar.indexCast v119
  let c112 : Index := 112#32
  ![v123.toNat, 112]
def k1_off218 (v117 : BitVec 32) : Fin 2 → Nat :=
  let v126 : Index := Scalar.indexCast v117
  let c0_50 : Index := 0#32
  ![v126.toNat, 0]

def k1_off219 (v117 : BitVec 32) : Fin 2 → Nat :=
  let v129 : Index := Scalar.indexCast v117
  let c16_51 : Index := 16#32
  ![v129.toNat, 16]

def k1_chk52 (v117 : BitVec 32) : Prop :=
  (∀ a, (k1_off218 v117) a + S1x16.size a ≤ S512x32.size a) ∧
  (∀ a, (k1_off219 v117) a + S1x16.size a ≤ S512x32.size a)
theorem k1_off218_inb : ∀ (v117 : BitVec 32) (k1_hw52 : k1_chk52 v117), ∀ a, (k1_off218 v117) a + S1x16.size a ≤ S512x32.size a := fun v117 k1_hw52 => k1_hw52.1
theorem k1_off219_inb : ∀ (v117 : BitVec 32) (k1_hw52 : k1_chk52 v117), ∀ a, (k1_off219 v117) a + S1x16.size a ≤ S512x32.size a := fun v117 k1_hw52 => k1_hw52.2

def k1_off220 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_54 : BitVec 32 := 4#32
  let v144 : BitVec 32 := Scalar.muli arg9 c4_i32_54
  let c1_i32_55 : BitVec 32 := 1#32
  let v145 : BitVec 32 := Scalar.addi v144 c1_i32_55
  let v146 : Index := Scalar.indexCast v145
  let c0_56 : Index := 0#32
  ![v146.toNat, 0]
def k1_off221 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_54 : BitVec 32 := 4#32
  let v144 : BitVec 32 := Scalar.muli arg9 c4_i32_54
  let c1_i32_55 : BitVec 32 := 1#32
  let v145 : BitVec 32 := Scalar.addi v144 c1_i32_55
  let v149 : Index := Scalar.indexCast v145
  let c16_57 : Index := 16#32
  ![v149.toNat, 16]
def k1_off222 (v143 : BitVec 32) : Fin 2 → Nat :=
  let v152 : Index := Scalar.indexCast v143
  let c0_58 : Index := 0#32
  ![v152.toNat, 0]

def k1_off223 (v143 : BitVec 32) : Fin 2 → Nat :=
  let v155 : Index := Scalar.indexCast v143
  let c16_59 : Index := 16#32
  ![v155.toNat, 16]

def k1_chk53 (v143 : BitVec 32) : Prop :=
  (∀ a, (k1_off222 v143) a + S1x16.size a ≤ S512x32.size a) ∧
  (∀ a, (k1_off223 v143) a + S1x16.size a ≤ S512x32.size a)
theorem k1_off222_inb : ∀ (v143 : BitVec 32) (k1_hw53 : k1_chk53 v143), ∀ a, (k1_off222 v143) a + S1x16.size a ≤ S512x32.size a := fun v143 k1_hw53 => k1_hw53.1
theorem k1_off223_inb : ∀ (v143 : BitVec 32) (k1_hw53 : k1_chk53 v143), ∀ a, (k1_off223 v143) a + S1x16.size a ≤ S512x32.size a := fun v143 k1_hw53 => k1_hw53.2

def k1_off224 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_62 : BitVec 32 := 4#32
  let v170 : BitVec 32 := Scalar.muli arg9 c4_i32_62
  let c1_i32_63 : BitVec 32 := 1#32
  let v171 : BitVec 32 := Scalar.addi v170 c1_i32_63
  let v172 : Index := Scalar.indexCast v171
  let c32_64 : Index := 32#32
  ![v172.toNat, 32]
def k1_off225 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_62 : BitVec 32 := 4#32
  let v170 : BitVec 32 := Scalar.muli arg9 c4_i32_62
  let c1_i32_63 : BitVec 32 := 1#32
  let v171 : BitVec 32 := Scalar.addi v170 c1_i32_63
  let v175 : Index := Scalar.indexCast v171
  let c48_65 : Index := 48#32
  ![v175.toNat, 48]
def k1_off226 (v169 : BitVec 32) : Fin 2 → Nat :=
  let v178 : Index := Scalar.indexCast v169
  let c0_66 : Index := 0#32
  ![v178.toNat, 0]

def k1_off227 (v169 : BitVec 32) : Fin 2 → Nat :=
  let v181 : Index := Scalar.indexCast v169
  let c16_67 : Index := 16#32
  ![v181.toNat, 16]

def k1_chk54 (v169 : BitVec 32) : Prop :=
  (∀ a, (k1_off226 v169) a + S1x16.size a ≤ S512x32.size a) ∧
  (∀ a, (k1_off227 v169) a + S1x16.size a ≤ S512x32.size a)
theorem k1_off226_inb : ∀ (v169 : BitVec 32) (k1_hw54 : k1_chk54 v169), ∀ a, (k1_off226 v169) a + S1x16.size a ≤ S512x32.size a := fun v169 k1_hw54 => k1_hw54.1
theorem k1_off227_inb : ∀ (v169 : BitVec 32) (k1_hw54 : k1_chk54 v169), ∀ a, (k1_off227 v169) a + S1x16.size a ≤ S512x32.size a := fun v169 k1_hw54 => k1_hw54.2

def k1_off228 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_70 : BitVec 32 := 4#32
  let v196 : BitVec 32 := Scalar.muli arg9 c4_i32_70
  let c1_i32_71 : BitVec 32 := 1#32
  let v197 : BitVec 32 := Scalar.addi v196 c1_i32_71
  let v198 : Index := Scalar.indexCast v197
  let c64_72 : Index := 64#32
  ![v198.toNat, 64]
def k1_off229 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_70 : BitVec 32 := 4#32
  let v196 : BitVec 32 := Scalar.muli arg9 c4_i32_70
  let c1_i32_71 : BitVec 32 := 1#32
  let v197 : BitVec 32 := Scalar.addi v196 c1_i32_71
  let v201 : Index := Scalar.indexCast v197
  let c80_73 : Index := 80#32
  ![v201.toNat, 80]
def k1_off230 (v195 : BitVec 32) : Fin 2 → Nat :=
  let v204 : Index := Scalar.indexCast v195
  let c0_74 : Index := 0#32
  ![v204.toNat, 0]

def k1_off231 (v195 : BitVec 32) : Fin 2 → Nat :=
  let v207 : Index := Scalar.indexCast v195
  let c16_75 : Index := 16#32
  ![v207.toNat, 16]

def k1_chk55 (v195 : BitVec 32) : Prop :=
  (∀ a, (k1_off230 v195) a + S1x16.size a ≤ S512x32.size a) ∧
  (∀ a, (k1_off231 v195) a + S1x16.size a ≤ S512x32.size a)
theorem k1_off230_inb : ∀ (v195 : BitVec 32) (k1_hw55 : k1_chk55 v195), ∀ a, (k1_off230 v195) a + S1x16.size a ≤ S512x32.size a := fun v195 k1_hw55 => k1_hw55.1
theorem k1_off231_inb : ∀ (v195 : BitVec 32) (k1_hw55 : k1_chk55 v195), ∀ a, (k1_off231 v195) a + S1x16.size a ≤ S512x32.size a := fun v195 k1_hw55 => k1_hw55.2

def k1_off232 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_78 : BitVec 32 := 4#32
  let v222 : BitVec 32 := Scalar.muli arg9 c4_i32_78
  let c1_i32_79 : BitVec 32 := 1#32
  let v223 : BitVec 32 := Scalar.addi v222 c1_i32_79
  let v224 : Index := Scalar.indexCast v223
  let c96_80 : Index := 96#32
  ![v224.toNat, 96]
def k1_off233 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_78 : BitVec 32 := 4#32
  let v222 : BitVec 32 := Scalar.muli arg9 c4_i32_78
  let c1_i32_79 : BitVec 32 := 1#32
  let v223 : BitVec 32 := Scalar.addi v222 c1_i32_79
  let v227 : Index := Scalar.indexCast v223
  let c112_81 : Index := 112#32
  ![v227.toNat, 112]
def k1_off234 (v221 : BitVec 32) : Fin 2 → Nat :=
  let v230 : Index := Scalar.indexCast v221
  let c0_82 : Index := 0#32
  ![v230.toNat, 0]

def k1_off235 (v221 : BitVec 32) : Fin 2 → Nat :=
  let v233 : Index := Scalar.indexCast v221
  let c16_83 : Index := 16#32
  ![v233.toNat, 16]

def k1_chk56 (v221 : BitVec 32) : Prop :=
  (∀ a, (k1_off234 v221) a + S1x16.size a ≤ S512x32.size a) ∧
  (∀ a, (k1_off235 v221) a + S1x16.size a ≤ S512x32.size a)
theorem k1_off234_inb : ∀ (v221 : BitVec 32) (k1_hw56 : k1_chk56 v221), ∀ a, (k1_off234 v221) a + S1x16.size a ≤ S512x32.size a := fun v221 k1_hw56 => k1_hw56.1
theorem k1_off235_inb : ∀ (v221 : BitVec 32) (k1_hw56 : k1_chk56 v221), ∀ a, (k1_off235 v221) a + S1x16.size a ≤ S512x32.size a := fun v221 k1_hw56 => k1_hw56.2

def k1_off236 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_86 : BitVec 32 := 4#32
  let v248 : BitVec 32 := Scalar.muli arg9 c4_i32_86
  let c2_i32_87 : BitVec 32 := 2#32
  let v249 : BitVec 32 := Scalar.addi v248 c2_i32_87
  let v250 : Index := Scalar.indexCast v249
  let c0_88 : Index := 0#32
  ![v250.toNat, 0]
def k1_off237 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_86 : BitVec 32 := 4#32
  let v248 : BitVec 32 := Scalar.muli arg9 c4_i32_86
  let c2_i32_87 : BitVec 32 := 2#32
  let v249 : BitVec 32 := Scalar.addi v248 c2_i32_87
  let v253 : Index := Scalar.indexCast v249
  let c16_89 : Index := 16#32
  ![v253.toNat, 16]
def k1_off238 (v247 : BitVec 32) : Fin 2 → Nat :=
  let v256 : Index := Scalar.indexCast v247
  let c0_90 : Index := 0#32
  ![v256.toNat, 0]

def k1_off239 (v247 : BitVec 32) : Fin 2 → Nat :=
  let v259 : Index := Scalar.indexCast v247
  let c16_91 : Index := 16#32
  ![v259.toNat, 16]

def k1_chk57 (v247 : BitVec 32) : Prop :=
  (∀ a, (k1_off238 v247) a + S1x16.size a ≤ S512x32.size a) ∧
  (∀ a, (k1_off239 v247) a + S1x16.size a ≤ S512x32.size a)
theorem k1_off238_inb : ∀ (v247 : BitVec 32) (k1_hw57 : k1_chk57 v247), ∀ a, (k1_off238 v247) a + S1x16.size a ≤ S512x32.size a := fun v247 k1_hw57 => k1_hw57.1
theorem k1_off239_inb : ∀ (v247 : BitVec 32) (k1_hw57 : k1_chk57 v247), ∀ a, (k1_off239 v247) a + S1x16.size a ≤ S512x32.size a := fun v247 k1_hw57 => k1_hw57.2

def k1_off240 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_94 : BitVec 32 := 4#32
  let v274 : BitVec 32 := Scalar.muli arg9 c4_i32_94
  let c2_i32_95 : BitVec 32 := 2#32
  let v275 : BitVec 32 := Scalar.addi v274 c2_i32_95
  let v276 : Index := Scalar.indexCast v275
  let c32_96 : Index := 32#32
  ![v276.toNat, 32]
def k1_off241 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_94 : BitVec 32 := 4#32
  let v274 : BitVec 32 := Scalar.muli arg9 c4_i32_94
  let c2_i32_95 : BitVec 32 := 2#32
  let v275 : BitVec 32 := Scalar.addi v274 c2_i32_95
  let v279 : Index := Scalar.indexCast v275
  let c48_97 : Index := 48#32
  ![v279.toNat, 48]
def k1_off242 (v273 : BitVec 32) : Fin 2 → Nat :=
  let v282 : Index := Scalar.indexCast v273
  let c0_98 : Index := 0#32
  ![v282.toNat, 0]

def k1_off243 (v273 : BitVec 32) : Fin 2 → Nat :=
  let v285 : Index := Scalar.indexCast v273
  let c16_99 : Index := 16#32
  ![v285.toNat, 16]

def k1_chk58 (v273 : BitVec 32) : Prop :=
  (∀ a, (k1_off242 v273) a + S1x16.size a ≤ S512x32.size a) ∧
  (∀ a, (k1_off243 v273) a + S1x16.size a ≤ S512x32.size a)
theorem k1_off242_inb : ∀ (v273 : BitVec 32) (k1_hw58 : k1_chk58 v273), ∀ a, (k1_off242 v273) a + S1x16.size a ≤ S512x32.size a := fun v273 k1_hw58 => k1_hw58.1
theorem k1_off243_inb : ∀ (v273 : BitVec 32) (k1_hw58 : k1_chk58 v273), ∀ a, (k1_off243 v273) a + S1x16.size a ≤ S512x32.size a := fun v273 k1_hw58 => k1_hw58.2

def k1_off244 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_102 : BitVec 32 := 4#32
  let v300 : BitVec 32 := Scalar.muli arg9 c4_i32_102
  let c2_i32_103 : BitVec 32 := 2#32
  let v301 : BitVec 32 := Scalar.addi v300 c2_i32_103
  let v302 : Index := Scalar.indexCast v301
  let c64_104 : Index := 64#32
  ![v302.toNat, 64]
def k1_off245 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_102 : BitVec 32 := 4#32
  let v300 : BitVec 32 := Scalar.muli arg9 c4_i32_102
  let c2_i32_103 : BitVec 32 := 2#32
  let v301 : BitVec 32 := Scalar.addi v300 c2_i32_103
  let v305 : Index := Scalar.indexCast v301
  let c80_105 : Index := 80#32
  ![v305.toNat, 80]
def k1_off246 (v299 : BitVec 32) : Fin 2 → Nat :=
  let v308 : Index := Scalar.indexCast v299
  let c0_106 : Index := 0#32
  ![v308.toNat, 0]

def k1_off247 (v299 : BitVec 32) : Fin 2 → Nat :=
  let v311 : Index := Scalar.indexCast v299
  let c16_107 : Index := 16#32
  ![v311.toNat, 16]

def k1_chk59 (v299 : BitVec 32) : Prop :=
  (∀ a, (k1_off246 v299) a + S1x16.size a ≤ S512x32.size a) ∧
  (∀ a, (k1_off247 v299) a + S1x16.size a ≤ S512x32.size a)
theorem k1_off246_inb : ∀ (v299 : BitVec 32) (k1_hw59 : k1_chk59 v299), ∀ a, (k1_off246 v299) a + S1x16.size a ≤ S512x32.size a := fun v299 k1_hw59 => k1_hw59.1
theorem k1_off247_inb : ∀ (v299 : BitVec 32) (k1_hw59 : k1_chk59 v299), ∀ a, (k1_off247 v299) a + S1x16.size a ≤ S512x32.size a := fun v299 k1_hw59 => k1_hw59.2

def k1_off248 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_110 : BitVec 32 := 4#32
  let v326 : BitVec 32 := Scalar.muli arg9 c4_i32_110
  let c2_i32_111 : BitVec 32 := 2#32
  let v327 : BitVec 32 := Scalar.addi v326 c2_i32_111
  let v328 : Index := Scalar.indexCast v327
  let c96_112 : Index := 96#32
  ![v328.toNat, 96]
def k1_off249 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_110 : BitVec 32 := 4#32
  let v326 : BitVec 32 := Scalar.muli arg9 c4_i32_110
  let c2_i32_111 : BitVec 32 := 2#32
  let v327 : BitVec 32 := Scalar.addi v326 c2_i32_111
  let v331 : Index := Scalar.indexCast v327
  let c112_113 : Index := 112#32
  ![v331.toNat, 112]
def k1_off250 (v325 : BitVec 32) : Fin 2 → Nat :=
  let v334 : Index := Scalar.indexCast v325
  let c0_114 : Index := 0#32
  ![v334.toNat, 0]

def k1_off251 (v325 : BitVec 32) : Fin 2 → Nat :=
  let v337 : Index := Scalar.indexCast v325
  let c16_115 : Index := 16#32
  ![v337.toNat, 16]

def k1_chk60 (v325 : BitVec 32) : Prop :=
  (∀ a, (k1_off250 v325) a + S1x16.size a ≤ S512x32.size a) ∧
  (∀ a, (k1_off251 v325) a + S1x16.size a ≤ S512x32.size a)
theorem k1_off250_inb : ∀ (v325 : BitVec 32) (k1_hw60 : k1_chk60 v325), ∀ a, (k1_off250 v325) a + S1x16.size a ≤ S512x32.size a := fun v325 k1_hw60 => k1_hw60.1
theorem k1_off251_inb : ∀ (v325 : BitVec 32) (k1_hw60 : k1_chk60 v325), ∀ a, (k1_off251 v325) a + S1x16.size a ≤ S512x32.size a := fun v325 k1_hw60 => k1_hw60.2

def k1_off252 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_118 : BitVec 32 := 4#32
  let v352 : BitVec 32 := Scalar.muli arg9 c4_i32_118
  let c3_i32 : BitVec 32 := 3#32
  let v353 : BitVec 32 := Scalar.addi v352 c3_i32
  let v354 : Index := Scalar.indexCast v353
  let c0_119 : Index := 0#32
  ![v354.toNat, 0]
def k1_off253 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_118 : BitVec 32 := 4#32
  let v352 : BitVec 32 := Scalar.muli arg9 c4_i32_118
  let c3_i32 : BitVec 32 := 3#32
  let v353 : BitVec 32 := Scalar.addi v352 c3_i32
  let v357 : Index := Scalar.indexCast v353
  let c16_120 : Index := 16#32
  ![v357.toNat, 16]
def k1_off254 (v351 : BitVec 32) : Fin 2 → Nat :=
  let v360 : Index := Scalar.indexCast v351
  let c0_121 : Index := 0#32
  ![v360.toNat, 0]

def k1_off255 (v351 : BitVec 32) : Fin 2 → Nat :=
  let v363 : Index := Scalar.indexCast v351
  let c16_122 : Index := 16#32
  ![v363.toNat, 16]

def k1_chk61 (v351 : BitVec 32) : Prop :=
  (∀ a, (k1_off254 v351) a + S1x16.size a ≤ S512x32.size a) ∧
  (∀ a, (k1_off255 v351) a + S1x16.size a ≤ S512x32.size a)
theorem k1_off254_inb : ∀ (v351 : BitVec 32) (k1_hw61 : k1_chk61 v351), ∀ a, (k1_off254 v351) a + S1x16.size a ≤ S512x32.size a := fun v351 k1_hw61 => k1_hw61.1
theorem k1_off255_inb : ∀ (v351 : BitVec 32) (k1_hw61 : k1_chk61 v351), ∀ a, (k1_off255 v351) a + S1x16.size a ≤ S512x32.size a := fun v351 k1_hw61 => k1_hw61.2

def k1_off256 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_125 : BitVec 32 := 4#32
  let v378 : BitVec 32 := Scalar.muli arg9 c4_i32_125
  let c3_i32_126 : BitVec 32 := 3#32
  let v379 : BitVec 32 := Scalar.addi v378 c3_i32_126
  let v380 : Index := Scalar.indexCast v379
  let c32_127 : Index := 32#32
  ![v380.toNat, 32]
def k1_off257 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_125 : BitVec 32 := 4#32
  let v378 : BitVec 32 := Scalar.muli arg9 c4_i32_125
  let c3_i32_126 : BitVec 32 := 3#32
  let v379 : BitVec 32 := Scalar.addi v378 c3_i32_126
  let v383 : Index := Scalar.indexCast v379
  let c48_128 : Index := 48#32
  ![v383.toNat, 48]
def k1_off258 (v377 : BitVec 32) : Fin 2 → Nat :=
  let v386 : Index := Scalar.indexCast v377
  let c0_129 : Index := 0#32
  ![v386.toNat, 0]

def k1_off259 (v377 : BitVec 32) : Fin 2 → Nat :=
  let v389 : Index := Scalar.indexCast v377
  let c16_130 : Index := 16#32
  ![v389.toNat, 16]

def k1_chk62 (v377 : BitVec 32) : Prop :=
  (∀ a, (k1_off258 v377) a + S1x16.size a ≤ S512x32.size a) ∧
  (∀ a, (k1_off259 v377) a + S1x16.size a ≤ S512x32.size a)
theorem k1_off258_inb : ∀ (v377 : BitVec 32) (k1_hw62 : k1_chk62 v377), ∀ a, (k1_off258 v377) a + S1x16.size a ≤ S512x32.size a := fun v377 k1_hw62 => k1_hw62.1
theorem k1_off259_inb : ∀ (v377 : BitVec 32) (k1_hw62 : k1_chk62 v377), ∀ a, (k1_off259 v377) a + S1x16.size a ≤ S512x32.size a := fun v377 k1_hw62 => k1_hw62.2

def k1_off260 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_133 : BitVec 32 := 4#32
  let v404 : BitVec 32 := Scalar.muli arg9 c4_i32_133
  let c3_i32_134 : BitVec 32 := 3#32
  let v405 : BitVec 32 := Scalar.addi v404 c3_i32_134
  let v406 : Index := Scalar.indexCast v405
  let c64_135 : Index := 64#32
  ![v406.toNat, 64]
def k1_off261 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_133 : BitVec 32 := 4#32
  let v404 : BitVec 32 := Scalar.muli arg9 c4_i32_133
  let c3_i32_134 : BitVec 32 := 3#32
  let v405 : BitVec 32 := Scalar.addi v404 c3_i32_134
  let v409 : Index := Scalar.indexCast v405
  let c80_136 : Index := 80#32
  ![v409.toNat, 80]
def k1_off262 (v403 : BitVec 32) : Fin 2 → Nat :=
  let v412 : Index := Scalar.indexCast v403
  let c0_137 : Index := 0#32
  ![v412.toNat, 0]

def k1_off263 (v403 : BitVec 32) : Fin 2 → Nat :=
  let v415 : Index := Scalar.indexCast v403
  let c16_138 : Index := 16#32
  ![v415.toNat, 16]

def k1_chk63 (v403 : BitVec 32) : Prop :=
  (∀ a, (k1_off262 v403) a + S1x16.size a ≤ S512x32.size a) ∧
  (∀ a, (k1_off263 v403) a + S1x16.size a ≤ S512x32.size a)
theorem k1_off262_inb : ∀ (v403 : BitVec 32) (k1_hw63 : k1_chk63 v403), ∀ a, (k1_off262 v403) a + S1x16.size a ≤ S512x32.size a := fun v403 k1_hw63 => k1_hw63.1
theorem k1_off263_inb : ∀ (v403 : BitVec 32) (k1_hw63 : k1_chk63 v403), ∀ a, (k1_off263 v403) a + S1x16.size a ≤ S512x32.size a := fun v403 k1_hw63 => k1_hw63.2

def k1_off264 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_141 : BitVec 32 := 4#32
  let v430 : BitVec 32 := Scalar.muli arg9 c4_i32_141
  let c3_i32_142 : BitVec 32 := 3#32
  let v431 : BitVec 32 := Scalar.addi v430 c3_i32_142
  let v432 : Index := Scalar.indexCast v431
  let c96_143 : Index := 96#32
  ![v432.toNat, 96]
def k1_off265 (k1_t5 : Fin k1_t5_loop.trips) : Fin 2 → Nat :=
  let c0_i32_23 : BitVec 32 := 0#32
  let c1_i32_25 : BitVec 32 := 1#32
  let arg9 : BitVec 32 := Scf.iv c0_i32_23 c1_i32_25 k1_t5
  let c4_i32_141 : BitVec 32 := 4#32
  let v430 : BitVec 32 := Scalar.muli arg9 c4_i32_141
  let c3_i32_142 : BitVec 32 := 3#32
  let v431 : BitVec 32 := Scalar.addi v430 c3_i32_142
  let v435 : Index := Scalar.indexCast v431
  let c112_144 : Index := 112#32
  ![v435.toNat, 112]
def k1_off266 (v429 : BitVec 32) : Fin 2 → Nat :=
  let v438 : Index := Scalar.indexCast v429
  let c0_145 : Index := 0#32
  ![v438.toNat, 0]

def k1_off267 (v429 : BitVec 32) : Fin 2 → Nat :=
  let v441 : Index := Scalar.indexCast v429
  let c16_146 : Index := 16#32
  ![v441.toNat, 16]

def k1_chk64 (v429 : BitVec 32) : Prop :=
  (∀ a, (k1_off266 v429) a + S1x16.size a ≤ S512x32.size a) ∧
  (∀ a, (k1_off267 v429) a + S1x16.size a ≤ S512x32.size a)
theorem k1_off266_inb : ∀ (v429 : BitVec 32) (k1_hw64 : k1_chk64 v429), ∀ a, (k1_off266 v429) a + S1x16.size a ≤ S512x32.size a := fun v429 k1_hw64 => k1_hw64.1
theorem k1_off267_inb : ∀ (v429 : BitVec 32) (k1_hw64 : k1_chk64 v429), ∀ a, (k1_off267 v429) a + S1x16.size a ≤ S512x32.size a := fun v429 k1_hw64 => k1_hw64.2

@[reducible] def k1_t6_loop : Scf.Loop 32 :=
  let c0_i32_28 : BitVec 32 := 0#32
  let c128_i32 : BitVec 32 := 128#32
  let v31 : BitVec 32 := Scalar.addi c0_i32_28 c128_i32
  let c1_i32_29 : BitVec 32 := 1#32
  ⟨c0_i32_28, v31, c1_i32_29⟩
def k1_off268 (k1_t6 : Fin k1_t6_loop.trips) (c0_i32_31 : BitVec 32) : Fin 2 → Nat :=
  let c0_i32_28 : BitVec 32 := 0#32
  let c1_i32_29 : BitVec 32 := 1#32
  let arg9 : BitVec 32 := Scf.iv c0_i32_28 c1_i32_29 k1_t6
  let c4_i32 : BitVec 32 := 4#32
  let v33 : BitVec 32 := Scalar.muli arg9 c4_i32
  let v34 : BitVec 32 := Scalar.addi v33 c0_i32_31
  let v35 : Index := Scalar.indexCast v34
  let c0 : Index := 0#32
  ![v35.toNat, 0]
def k1_off269 (k1_t6 : Fin k1_t6_loop.trips) : Fin 2 → Nat :=
  let c0_i32_28 : BitVec 32 := 0#32
  let c1_i32_29 : BitVec 32 := 1#32
  let arg9 : BitVec 32 := Scf.iv c0_i32_28 c1_i32_29 k1_t6
  let v38 : Index := Scalar.indexCast arg9
  let c0_32 : Index := 0#32
  ![v38.toNat, 0]
def k1_off270 (k1_t6 : Fin k1_t6_loop.trips) (c0_i32_34 : BitVec 32) : Fin 2 → Nat :=
  let c0_i32_28 : BitVec 32 := 0#32
  let c1_i32_29 : BitVec 32 := 1#32
  let arg9 : BitVec 32 := Scf.iv c0_i32_28 c1_i32_29 k1_t6
  let c4_i32_33 : BitVec 32 := 4#32
  let v42 : BitVec 32 := Scalar.muli arg9 c4_i32_33
  let v43 : BitVec 32 := Scalar.addi v42 c0_i32_34
  let v44 : Index := Scalar.indexCast v43
  let c16 : Index := 16#32
  ![v44.toNat, 16]
def k1_off271 (k1_t6 : Fin k1_t6_loop.trips) : Fin 2 → Nat :=
  let c0_i32_28 : BitVec 32 := 0#32
  let c1_i32_29 : BitVec 32 := 1#32
  let arg9 : BitVec 32 := Scf.iv c0_i32_28 c1_i32_29 k1_t6
  let v47 : Index := Scalar.indexCast arg9
  let c16_35 : Index := 16#32
  ![v47.toNat, 16]
def k1_off272 (k1_t6 : Fin k1_t6_loop.trips) : Fin 2 → Nat :=
  let c0_i32_28 : BitVec 32 := 0#32
  let c1_i32_29 : BitVec 32 := 1#32
  let arg9 : BitVec 32 := Scf.iv c0_i32_28 c1_i32_29 k1_t6
  let v56 : Index := Scalar.indexCast arg9
  let c32 : Index := 32#32
  ![v56.toNat, 32]
def k1_off273 (k1_t6 : Fin k1_t6_loop.trips) : Fin 2 → Nat :=
  let c0_i32_28 : BitVec 32 := 0#32
  let c1_i32_29 : BitVec 32 := 1#32
  let arg9 : BitVec 32 := Scf.iv c0_i32_28 c1_i32_29 k1_t6
  let v65 : Index := Scalar.indexCast arg9
  let c48 : Index := 48#32
  ![v65.toNat, 48]
def k1_off274 (k1_t6 : Fin k1_t6_loop.trips) : Fin 2 → Nat :=
  let c0_i32_28 : BitVec 32 := 0#32
  let c1_i32_29 : BitVec 32 := 1#32
  let arg9 : BitVec 32 := Scf.iv c0_i32_28 c1_i32_29 k1_t6
  let v74 : Index := Scalar.indexCast arg9
  let c64 : Index := 64#32
  ![v74.toNat, 64]
def k1_off275 (k1_t6 : Fin k1_t6_loop.trips) : Fin 2 → Nat :=
  let c0_i32_28 : BitVec 32 := 0#32
  let c1_i32_29 : BitVec 32 := 1#32
  let arg9 : BitVec 32 := Scf.iv c0_i32_28 c1_i32_29 k1_t6
  let v83 : Index := Scalar.indexCast arg9
  let c80 : Index := 80#32
  ![v83.toNat, 80]
def k1_off276 (k1_t6 : Fin k1_t6_loop.trips) : Fin 2 → Nat :=
  let c0_i32_28 : BitVec 32 := 0#32
  let c1_i32_29 : BitVec 32 := 1#32
  let arg9 : BitVec 32 := Scf.iv c0_i32_28 c1_i32_29 k1_t6
  let v92 : Index := Scalar.indexCast arg9
  let c96 : Index := 96#32
  ![v92.toNat, 96]
def k1_off277 (k1_t6 : Fin k1_t6_loop.trips) : Fin 2 → Nat :=
  let c0_i32_28 : BitVec 32 := 0#32
  let c1_i32_29 : BitVec 32 := 1#32
  let arg9 : BitVec 32 := Scf.iv c0_i32_28 c1_i32_29 k1_t6
  let v101 : Index := Scalar.indexCast arg9
  let c112 : Index := 112#32
  ![v101.toNat, 112]
def k1_off278 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_31_r5 : BitVec 32 := 0#32
  let c0_i32_32_r5 : BitVec 32 := 0#32
  ![v1.toNat, 0, 0]
abbrev grid2 : Pipeline.Grid := ⟨1, ![4], ![false]⟩

def k2_mult1 (i : grid2.Coords) : BitVec 32 :=
  let arg0 : BitVec 32 := BitVec.ofNat 32 (i 0).val
  let c512_i32 : BitVec 32 := 512#32
  let v4 : BitVec 32 := Scalar.muli arg0 c512_i32
  v4
def k2_off1 (i : grid2.Coords) : Fin 2 → Nat :=
  let arg0 : BitVec 32 := BitVec.ofNat 32 (i 0).val
  let c512_i32 : BitVec 32 := 512#32
  let v4 : BitVec 32 := Scalar.muli arg0 c512_i32
  let v5 : BitVec 32 := v4
  let v6 : Index := Scalar.indexCast v5
  let c0_1 : Index := 0#32
  ![v6.toNat, 0]
@[reducible] def k2_t1_loop : Scf.Loop 32 :=
  let c0_i32 : BitVec 32 := 0#32
  let c10_i32 : BitVec 32 := 10#32
  let v35 : BitVec 32 := Scalar.addi c0_i32 c10_i32
  let c1_i32 : BitVec 32 := 1#32
  ⟨c0_i32, v35, c1_i32⟩
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S2048x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x407x6 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1536x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1536x512 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x512 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S1x1792x407 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg" => some ⊥
  | "neg_test" => some ⊥
  | _ => none
-- ==== ReferenceIdeal.lean ====
abbrev S4x2048x13 : Shape := ⟨3, ![4, 2048, 13]⟩
abbrev S4x2048 : Shape := ⟨2, ![4, 2048]⟩
abbrev S4x407x6 : Shape := ⟨3, ![4, 407, 6]⟩
abbrev S4x407x814 : Shape := ⟨3, ![4, 407, 814]⟩
abbrev S12x64 : Shape := ⟨2, ![12, 64]⟩
abbrev S64x128 : Shape := ⟨2, ![64, 128]⟩
abbrev S128x256 : Shape := ⟨2, ![128, 256]⟩
abbrev S512x512 : Shape := ⟨2, ![512, 512]⟩
abbrev S1536x512 : Shape := ⟨2, ![1536, 512]⟩
abbrev S774x512 : Shape := ⟨2, ![774, 512]⟩
abbrev S512x1024 : Shape := ⟨2, ![512, 1024]⟩
abbrev S4x2048x12 : Shape := ⟨3, ![4, 2048, 12]⟩
abbrev S4x2048x64 : Shape := ⟨3, ![4, 2048, 64]⟩
abbrev S_ : Shape := ⟨0, ![]⟩
abbrev S4x2048x128 : Shape := ⟨3, ![4, 2048, 128]⟩
abbrev S4x2048x256 : Shape := ⟨3, ![4, 2048, 256]⟩
abbrev S4x2048x1 : Shape := ⟨3, ![4, 2048, 1]⟩
abbrev S407 : Shape := ⟨1, ![407]⟩
abbrev S1x1x407 : Shape := ⟨3, ![1, 1, 407]⟩
abbrev S4x2048x407 : Shape := ⟨3, ![4, 2048, 407]⟩
abbrev S4x2048x407x1 : Shape := ⟨4, ![4, 2048, 407, 1]⟩
abbrev S4x2048x1x256 : Shape := ⟨4, ![4, 2048, 1, 256]⟩
abbrev S4x2048x407x256 : Shape := ⟨4, ![4, 2048, 407, 256]⟩
abbrev S4x407x256 : Shape := ⟨3, ![4, 407, 256]⟩
abbrev S4x407 : Shape := ⟨2, ![4, 407]⟩
abbrev S4x407x1 : Shape := ⟨3, ![4, 407, 1]⟩
abbrev S4x407x262 : Shape := ⟨3, ![4, 407, 262]⟩
abbrev S4x407x512 : Shape := ⟨3, ![4, 407, 512]⟩
abbrev S4x407x407 : Shape := ⟨3, ![4, 407, 407]⟩
abbrev S4x407x1536 : Shape := ⟨3, ![4, 407, 1536]⟩
abbrev S4x407x774 : Shape := ⟨3, ![4, 407, 774]⟩
abbrev S4x407x1024 : Shape := ⟨3, ![4, 407, 1024]⟩
abbrev S4x1024 : Shape := ⟨2, ![4, 1024]⟩
abbrev S4x1024x1 : Shape := ⟨3, ![4, 1024, 1]⟩
abbrev S4x1024x1x407 : Shape := ⟨4, ![4, 1024, 1, 407]⟩
abbrev S4x1024x407 : Shape := ⟨3, ![4, 1024, 407]⟩
abbrev S4x512x407 : Shape := ⟨3, ![4, 512, 407]⟩
abbrev S4x256x407 : Shape := ⟨3, ![4, 256, 407]⟩
abbrev S4x1792x407 : Shape := ⟨3, ![4, 1792, 407]⟩

abbrev nBuf : Space → Nat
  | .hbm => 118
  | .vmem => 0
  | .smem => 0
  | _ => 0

abbrev bufTy : (tb : Table) → Fin (tcTables nBuf tb) → BufTy
  | .hbm, ⟨0, _⟩ => ⟨S4x2048x13, .f32⟩
  | .hbm, ⟨1, _⟩ => ⟨S4x2048, .i32⟩
  | .hbm, ⟨2, _⟩ => ⟨S4x407x6, .f32⟩
  | .hbm, ⟨3, _⟩ => ⟨S4x407x814, .f32⟩
  | .hbm, ⟨4, _⟩ => ⟨S12x64, .f32⟩
  | .hbm, ⟨5, _⟩ => ⟨S64x128, .f32⟩
  | .hbm, ⟨6, _⟩ => ⟨S128x256, .f32⟩
  | .hbm, ⟨7, _⟩ => ⟨S512x512, .f32⟩
  | .hbm, ⟨8, _⟩ => ⟨S512x512, .f32⟩
  | .hbm, ⟨9, _⟩ => ⟨S1536x512, .f32⟩
  | .hbm, ⟨10, _⟩ => ⟨S1536x512, .f32⟩
  | .hbm, ⟨11, _⟩ => ⟨S1536x512, .f32⟩
  | .hbm, ⟨12, _⟩ => ⟨S774x512, .f32⟩
  | .hbm, ⟨13, _⟩ => ⟨S512x1024, .f32⟩
  | .hbm, ⟨14, _⟩ => ⟨S4x2048x12, .f32⟩
  | .hbm, ⟨15, _⟩ => ⟨S4x2048x64, .f32⟩
  | .hbm, ⟨16, _⟩ => ⟨S_, .f32⟩
  | .hbm, ⟨17, _⟩ => ⟨S4x2048x64, .f32⟩
  | .hbm, ⟨18, _⟩ => ⟨S4x2048x64, .f32⟩
  | .hbm, ⟨19, _⟩ => ⟨S4x2048x128, .f32⟩
  | .hbm, ⟨20, _⟩ => ⟨S_, .f32⟩
  | .hbm, ⟨21, _⟩ => ⟨S4x2048x128, .f32⟩
  | .hbm, ⟨22, _⟩ => ⟨S4x2048x128, .f32⟩
  | .hbm, ⟨23, _⟩ => ⟨S4x2048x256, .f32⟩
  | .hbm, ⟨24, _⟩ => ⟨S4x2048x1, .i32⟩
  | .hbm, ⟨25, _⟩ => ⟨S407, .i32⟩
  | .hbm, ⟨26, _⟩ => ⟨S1x1x407, .i32⟩
  | .hbm, ⟨27, _⟩ => ⟨S4x2048x407, .i32⟩
  | .hbm, ⟨28, _⟩ => ⟨S4x2048x407, .i32⟩
  | .hbm, ⟨29, _⟩ => ⟨S4x2048x407, .i1⟩
  | .hbm, ⟨30, _⟩ => ⟨S4x2048x407x1, .i1⟩
  | .hbm, ⟨31, _⟩ => ⟨S4x2048x1x256, .f32⟩
  | .hbm, ⟨32, _⟩ => ⟨S_, .f32⟩
  | .hbm, ⟨33, _⟩ => ⟨S_, .f32⟩
  | .hbm, ⟨34, _⟩ => ⟨S4x2048x407x256, .i1⟩
  | .hbm, ⟨35, _⟩ => ⟨S4x2048x407x256, .f32⟩
  | .hbm, ⟨36, _⟩ => ⟨S4x2048x407x256, .f32⟩
  | .hbm, ⟨37, _⟩ => ⟨S4x2048x407x256, .f32⟩
  | .hbm, ⟨38, _⟩ => ⟨S_, .f32⟩
  | .hbm, ⟨39, _⟩ => ⟨S4x407x256, .f32⟩
  | .hbm, ⟨40, _⟩ => ⟨S4x2048x407, .f32⟩
  | .hbm, ⟨41, _⟩ => ⟨S_, .f32⟩
  | .hbm, ⟨42, _⟩ => ⟨S4x407, .f32⟩
  | .hbm, ⟨43, _⟩ => ⟨S4x407x1, .f32⟩
  | .hbm, ⟨44, _⟩ => ⟨S_, .f32⟩
  | .hbm, ⟨45, _⟩ => ⟨S4x407x1, .f32⟩
  | .hbm, ⟨46, _⟩ => ⟨S4x407x1, .i1⟩
  | .hbm, ⟨47, _⟩ => ⟨S_, .f32⟩
  | .hbm, ⟨48, _⟩ => ⟨S_, .f32⟩
  | .hbm, ⟨49, _⟩ => ⟨S4x407x256, .i1⟩
  | .hbm, ⟨50, _⟩ => ⟨S4x407x256, .f32⟩
  | .hbm, ⟨51, _⟩ => ⟨S4x407x256, .f32⟩
  | .hbm, ⟨52, _⟩ => ⟨S4x407x262, .f32⟩
  | .hbm, ⟨53, _⟩ => ⟨S_, .i32⟩
  | .hbm, ⟨54, _⟩ => ⟨S_, .f32⟩
  | .hbm, ⟨55, _⟩ => ⟨S4x407x512, .f32⟩
  | .hbm, ⟨56, _⟩ => ⟨S4x407x407, .f32⟩
  | .hbm, ⟨57, _⟩ => ⟨S4x407x407, .f32⟩
  | .hbm, ⟨58, _⟩ => ⟨S_, .i32⟩
  | .hbm, ⟨59, _⟩ => ⟨S512x512, .f32⟩
  | .hbm, ⟨60, _⟩ => ⟨S4x407x407, .f32⟩
  | .hbm, ⟨61, _⟩ => ⟨S512x512, .f32⟩
  | .hbm, ⟨62, _⟩ => ⟨S4x407x407, .f32⟩
  | .hbm, ⟨63, _⟩ => ⟨S1536x512, .f32⟩
  | .hbm, ⟨64, _⟩ => ⟨S1536x512, .f32⟩
  | .hbm, ⟨65, _⟩ => ⟨S1536x512, .f32⟩
  | .hbm, ⟨66, _⟩ => ⟨S_, .i32⟩
  | .hbm, ⟨67, _⟩ => ⟨S4x407x512, .f32⟩
  | .hbm, ⟨68, _⟩ => ⟨S_, .i32⟩
  | .hbm, ⟨69, _⟩ => ⟨S_, .i1⟩
  | .hbm, ⟨70, _⟩ => ⟨S4x407x512, .f32⟩
  | .hbm, ⟨71, _⟩ => ⟨S4x407x512, .f32⟩
  | .hbm, ⟨72, _⟩ => ⟨S4x407x512, .f32⟩
  | .hbm, ⟨73, _⟩ => ⟨S4x407x512, .f32⟩
  | .hbm, ⟨74, _⟩ => ⟨S4x407x1536, .f32⟩
  | .hbm, ⟨75, _⟩ => ⟨S4x407x512, .f32⟩
  | .hbm, ⟨76, _⟩ => ⟨S4x407x512, .f32⟩
  | .hbm, ⟨77, _⟩ => ⟨S4x407x512, .f32⟩
  | .hbm, ⟨78, _⟩ => ⟨S_, .f32⟩
  | .hbm, ⟨79, _⟩ => ⟨S4x407x512, .f32⟩
  | .hbm, ⟨80, _⟩ => ⟨S4x407x512, .f32⟩
  | .hbm, ⟨81, _⟩ => ⟨S_, .f32⟩
  | .hbm, ⟨82, _⟩ => ⟨S4x407x512, .f32⟩
  | .hbm, ⟨83, _⟩ => ⟨S4x407x512, .f32⟩
  | .hbm, ⟨84, _⟩ => ⟨S4x407x512, .f32⟩
  | .hbm, ⟨85, _⟩ => ⟨S4x407x512, .f32⟩
  | .hbm, ⟨86, _⟩ => ⟨S4x407x512, .f32⟩
  | .hbm, ⟨87, _⟩ => ⟨S_, .f32⟩
  | .hbm, ⟨88, _⟩ => ⟨S4x407x512, .f32⟩
  | .hbm, ⟨89, _⟩ => ⟨S4x407x512, .f32⟩
  | .hbm, ⟨90, _⟩ => ⟨S_, .f32⟩
  | .hbm, ⟨91, _⟩ => ⟨S4x407x512, .f32⟩
  | .hbm, ⟨92, _⟩ => ⟨S4x407x512, .f32⟩
  | .hbm, ⟨93, _⟩ => ⟨S4x407x512, .f32⟩
  | .hbm, ⟨94, _⟩ => ⟨S4x407x1536, .f32⟩
  | .hbm, ⟨95, _⟩ => ⟨S4x407x512, .f32⟩
  | .hbm, ⟨96, _⟩ => ⟨S4x407x512, .f32⟩
  | .hbm, ⟨97, _⟩ => ⟨S_, .f32⟩
  | .hbm, ⟨98, _⟩ => ⟨S4x407x512, .f32⟩
  | .hbm, ⟨99, _⟩ => ⟨S4x407x512, .f32⟩
  | .hbm, ⟨100, _⟩ => ⟨S4x407x512, .f32⟩
  | .hbm, ⟨101, _⟩ => ⟨S4x407x512, .f32⟩
  | .hbm, ⟨102, _⟩ => ⟨S4x407x512, .f32⟩
  | .hbm, ⟨103, _⟩ => ⟨S_, .i32⟩
  | .hbm, ⟨104, _⟩ => ⟨S_, .i32⟩
  | .hbm, ⟨105, _⟩ => ⟨S4x407x774, .f32⟩
  | .hbm, ⟨106, _⟩ => ⟨S4x407x512, .f32⟩
  | .hbm, ⟨107, _⟩ => ⟨S4x407x512, .f32⟩
  | .hbm, ⟨108, _⟩ => ⟨S4x407x1024, .f32⟩
  | .hbm, ⟨109, _⟩ => ⟨S_, .f32⟩
  | .hbm, ⟨110, _⟩ => ⟨S4x1024, .f32⟩
  | .hbm, ⟨111, _⟩ => ⟨S4x1024x1, .f32⟩
  | .hbm, ⟨112, _⟩ => ⟨S4x1024x1x407, .f32⟩
  | .hbm, ⟨113, _⟩ => ⟨S4x1024x407, .f32⟩
  | .hbm, ⟨114, _⟩ => ⟨S4x512x407, .f32⟩
  | .hbm, ⟨115, _⟩ => ⟨S4x407x256, .f32⟩
  | .hbm, ⟨116, _⟩ => ⟨S4x256x407, .f32⟩
  | .hbm, ⟨117, _⟩ => ⟨S4x1792x407, .f32⟩
  | _, _ => ⟨S4x2048x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_call0_cst : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_call1_cst : Ref sig .tc := ⟨.hbm, 20, rfl⟩
abbrev main_call1_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_call4_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_4 : Ref sig .tc := ⟨.hbm, 58, rfl⟩
abbrev main_v26_0 : Ref sig .tc := ⟨.hbm, 59, rfl⟩
abbrev main_v26_1 : Ref sig .tc := ⟨.hbm, 60, rfl⟩
abbrev main_v26_2 : Ref sig .tc := ⟨.hbm, 61, rfl⟩
abbrev main_v26_3 : Ref sig .tc := ⟨.hbm, 62, rfl⟩
abbrev main_v26_4 : Ref sig .tc := ⟨.hbm, 63, rfl⟩
abbrev main_v26_5 : Ref sig .tc := ⟨.hbm, 64, rfl⟩
abbrev main_v26_6 : Ref sig .tc := ⟨.hbm, 65, rfl⟩
abbrev main_v26_7 : Ref sig .tc := ⟨.hbm, 66, rfl⟩
abbrev main_v26_8 : Ref sig .tc := ⟨.hbm, 67, rfl⟩
abbrev main_while0c_c_14 : Ref sig .tc := ⟨.hbm, 68, rfl⟩
abbrev main_while0c_v39 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_cst_14 : Ref sig .tc := ⟨.hbm, 78, rfl⟩
abbrev main_while0b_v47 : Ref sig .tc := ⟨.hbm, 79, rfl⟩
abbrev main_while0b_v48 : Ref sig .tc := ⟨.hbm, 80, rfl⟩
abbrev main_while0b_cst_15 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_cst_16 : Ref sig .tc := ⟨.hbm, 87, rfl⟩
abbrev main_while0b_v54 : Ref sig .tc := ⟨.hbm, 88, rfl⟩
abbrev main_while0b_v55 : Ref sig .tc := ⟨.hbm, 89, rfl⟩
abbrev main_while0b_cst_17 : Ref sig .tc := ⟨.hbm, 90, rfl⟩
abbrev main_while0b_v56 : Ref sig .tc := ⟨.hbm, 91, rfl⟩
abbrev main_while0b_v57 : Ref sig .tc := ⟨.hbm, 92, rfl⟩
abbrev main_while0b_v58 : Ref sig .tc := ⟨.hbm, 93, rfl⟩
abbrev main_while0b_v59 : Ref sig .tc := ⟨.hbm, 94, rfl⟩
abbrev main_while0b_v60 : Ref sig .tc := ⟨.hbm, 95, rfl⟩
abbrev main_while0b_v61 : Ref sig .tc := ⟨.hbm, 96, rfl⟩
abbrev main_while0b_cst_18 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_c_19 : Ref sig .tc := ⟨.hbm, 103, rfl⟩
abbrev main_while0b_v67 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_cst_5 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩

abbrev nD : Nat := 1
abbrev τ : Topo := Topo.v7x

variable {F : FTy → Type} [FloatOps F]

abbrev main_while0_count : Scf.Loop 32 := ⟨0#32, 10#32, 1#32⟩
-- ==== Proof.Base.lean ====
/-
  The program as the launch theorem sees it, and the algebra its run is proved in: the handshakes of the SparseCore call,
  the staging cells of the two TensorCore pipelines, the counters of the tiles' own transfers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the transfers' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP (F := F)).LandsIn (upEmb : UEmb _ (MT nD τ sig (HIx 1) (Elt F) ℕ UU ℕ)) := by
  unfold EP; infer_instance

end Cert.Proof
-- ==== Proof.Mlp.lean ====
/-
  The first TensorCore call: the three layers over the 8192 points, sixteen chunks of 512 rows, each stored where it was read.
-/
module

public import proofs.«01_k».proof.Proof.Base
public import proofs.«01_k».proof.Proof.Gen.KernelIdeal.Skeleton
public import proofs.«01_k».proof.Proof.Gen.KernelIdeal.Launch
public import Idealize.ShloMosaic.Lib.ValueLayout
public import Idealize.ShloMosaic.Lib.VecWindow
public import Idealize.ShloMosaic.Lib.Pointwise.Index

@[expose] public section

set_option maxRecDepth 16384

noncomputable section

namespace Cert.Proof.Mlp

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- Rows `512 k` to `512 k + 511` of the points. -/
def rowsOf (X : Vec F S8192x12 .f32) (k : ℕ) : Vec F S512x12 .f32 := fun y =>
  if h : 512 * k + (y 0).val < 8192 then X (ix2 ⟨512 * k + (y 0).val, h⟩ (y 1)) else X (ix2 ⟨0, by decide⟩ (y 1))

/-- The three layers, chunk by chunk. -/
def mlpOut (X : Vec F S8192x12 .f32) (w1 : Vec F S12x64 .f32) (w2 : Vec F S64x128 .f32) (w3 : Vec F S128x256 .f32) : Vec F S8192x256 .f32 := fun j =>
  k0_pay3 w1 w2 w3 (rowsOf X ((j 0).val / 512)) (ix2 ⟨(j 0).val % 512, Nat.mod_lt _ (by decide)⟩ (j 1))

abbrev raw {sp : Space} {s : Shape} {e : EltTy} (thr : Thread nD τ) (M : Memref sig thr.2.kind sp s e) (q : PosShare TreeShare) (f : M.view.ty.Contents (Elt F)) : sProp 𝕄 :=
  M.view.loc thr ↦[M.view.set]{q} f

variable (d : Dev nD) (arg0 : Memref sig .tc .vmem S8192x12 .f32) (harg0 : arg0.IsWhole) (arg1 : Memref sig .tc .vmem S12x64 .f32) (harg1 : arg1.IsWhole)
  (arg2 : Memref sig .tc .vmem S64x128 .f32) (harg2 : arg2.IsWhole) (arg3 : Memref sig .tc .vmem S128x256 .f32) (harg3 : arg3.IsWhole)
  (arg4 : Memref sig .tc .vmem S8192x256 .f32) (harg4 : arg4.IsWhole)

/-- A load of a whole memref reads it. -/
theorem readAt_whole2 {κ : Kind} {sp : Space} {m n : ℕ} {e : EltTy} (M : Memref sig κ sp ⟨2, ![m, n]⟩ e) (h : ∀ a, ![0, 0] a + ![m, n] a ≤ (⟨2, ![m, n]⟩ : Shape).size a)
    (f : M.view.ty.Contents (Elt F)) :
    View.readAt (Elt F) M.view (Rect.unit (s := ⟨2, ![m, n]⟩) ![0, 0] ![m, n] h).toLoadRect f = M.view.read (Elt F) f := by
  funext x
  show M.view.read (Elt F) f _ = _
  congr 1
  funext a
  apply Fin.ext
  fin_cases a
  · show 0 + 1 * (x 0).val = (x 0).val; omega
  · show 0 + 1 * (x 1).val = (x 1).val; omega

/-- The chunk stored at row `o` is the three layers there. -/
theorem chunk_piece {o : ℕ} {hi : ∀ a, ![o, 0] a + ![512, 12] a ≤ S8192x12.size a} {ho : ∀ a, ![o, 0] a + ![512, 256] a ≤ S8192x256.size a}
    (f0 : arg0.view.ty.Contents (Elt F)) (w1 : Vec F S12x64 .f32) (w2 : Vec F S64x128 .f32) (w3 : Vec F S128x256 .f32) (hk : 512 * (o / 512) = o)
    (x : (Rect.unit (s := S8192x256) ![o, 0] ![512, 256] ho).shape.Idx) :
    mlpOut (arg0.view.read (Elt F) f0) w1 w2 w3 ((Rect.unit (s := S8192x256) ![o, 0] ![512, 256] ho).emb x)
      = k0_pay3 w1 w2 w3 (View.readAt (Elt F) arg0.view (Rect.unit (s := S8192x12) ![o, 0] ![512, 12] hi).toLoadRect f0) x := by
  have h0 : (x 0).val < 512 := (x 0).isLt
  have hr : o + 512 ≤ 8192 := ho 0
  have e0 : ((Rect.unit (s := S8192x256) ![o, 0] ![512, 256] ho).emb x 0).val = o + (x 0).val := by
    show o + 1 * (x 0).val = _; omega
  have e1 : ((Rect.unit (s := S8192x256) ![o, 0] ![512, 256] ho).emb x 1).val = (x 1).val := by
    show 0 + 1 * (x 1).val = _; omega
  unfold mlpOut
  have hrow : View.readAt (Elt F) arg0.view (Rect.unit (s := S8192x12) ![o, 0] ![512, 12] hi).toLoadRect f0
      = rowsOf (arg0.view.read (Elt F) f0) (((Rect.unit (s := S8192x256) ![o, 0] ![512, 256] ho).emb x 0).val / 512) := by
    funext y
    have hy : (y 0).val < 512 := (y 0).isLt
    have hq : 512 * ((o + (x 0).val) / 512) = o := by omega
    rw [e0, rowsOf, hq, dif_pos (by omega)]
    show arg0.view.read (Elt F) f0 _ = _
    congr 1
    funext a
    apply Fin.ext
    fin_cases a
    · show o + 1 * (y 0).val = o + (y 0).val; omega
    · show 0 + 1 * (y 1).val = (y 1).val; omega
  rw [← hrow]
  congr 1
  funext a
  apply Fin.ext
  fin_cases a
  · show ((Rect.unit (s := S8192x256) ![o, 0] ![512, 256] ho).emb x 0).val % 512 = (x 0).val
    rw [e0]; omega
  · exact e1

/-- The rows a chunk's store covers. -/
theorem mem_chunk {o : ℕ} (ho : ∀ a, ![o, 0] a + ![512, 256] a ≤ S8192x256.size a) (y : S8192x256.Idx) :
    y ∈ (Rect.unit (s := S8192x256) ![o, 0] ![512, 256] ho).set ↔ o ≤ (y 0).val ∧ (y 0).val < o + 512 := by
  rw [Rect.mem_set_unit]
  have h1 : (y 1).val < 256 := (y 1).isLt
  constructor
  · intro h; exact h 0
  · intro h a
    fin_cases a
    · exact h
    · show 0 ≤ (y 1).val ∧ (y 1).val < 0 + 256; omega

set_option maxHeartbeats 800000 in
/-- The body of the call, from the points and the weights to the features. -/
theorem run_mlp (f0 : arg0.view.ty.Contents (Elt F)) (f1 : arg1.view.ty.Contents (Elt F)) (f2 : arg2.view.ty.Contents (Elt F))
    (f3 : arg3.view.ty.Contents (Elt F)) (f4 : arg4.view.ty.Contents (Elt F)) :
    iprop(raw (F := F) (d : Thread nD τ) arg0 fullShare f0 ∗ raw (F := F) (d : Thread nD τ) arg1 fullShare f1 ∗ raw (F := F) (d : Thread nD τ) arg2 fullShare f2
        ∗ raw (F := F) (d : Thread nD τ) arg3 fullShare f3 ∗ raw (F := F) (d : Thread nD τ) arg4 fullShare f4)
      ⊢ wp frame (wpE (defs₀ (F := F)) 𝒱₀ d none) Set.univ
          (cc0__mlp_kernel (F := F) arg0 harg0 arg1 harg1 arg2 harg2 arg3 harg3 arg4 harg4)
          fun _ => iprop(raw (F := F) (d : Thread nD τ) arg0 fullShare f0 ∗ raw (F := F) (d : Thread nD τ) arg1 fullShare f1 ∗ raw (F := F) (d : Thread nD τ) arg2 fullShare f2
            ∗ raw (F := F) (d : Thread nD τ) arg3 fullShare f3
            ∗ ∃ f, raw (F := F) (d : Thread nD τ) arg4 fullShare f
                ∗ (⌜arg4.view.read (Elt F) f = mlpOut (arg0.view.read (Elt F) f0) (arg1.view.read (Elt F) f1) (arg2.view.read (Elt F) f2) (arg3.view.read (Elt F) f3)⌝ : sProp 𝕄)) := by
  rw [cc0__mlp_kernel_eq_skeleton]
  unfold cc0__mlp_kernel_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [bind_assoc]
  iintro ⟨H0, H1, H2, H3, H4⟩
  sl_exec
  sl_step
  isplitl [H0]; · iexact H0
  isplitl [H1]; · iexact H1
  isplitl [H2]; · iexact H2
  isplitl [H3]; · iexact H3
  iexists _
  isplitl [H4]; · iexact H4
  ipureintro
  funext x
  have hx : (x 0).val < 8192 := (x 0).isLt
  rw [← readAt_whole2 (F := F) arg1 inb_S12x64_S12x64_0_0 f1, ← readAt_whole2 (F := F) arg2 inb_S64x128_S64x128_0_0 f2,
    ← readAt_whole2 (F := F) arg3 inb_S128x256_S128x256_0_0 f3]
  refine View.read_writes_apply_of_pieces (Val := Elt F) (e := .f32) _ _ (mlpOut (arg0.view.read (Elt F) f0) _ _ _) _ ?_ x ?_
  · intro p hp
    simp only [List.mem_cons, List.not_mem_nil, or_false] at hp
    rcases hp with rfl | rfl | rfl | rfl | rfl | rfl | rfl | rfl | rfl | rfl | rfl | rfl | rfl | rfl | rfl | rfl
    all_goals exact fun y => (chunk_piece (ho := by decide) arg0 f0 _ _ _ (by decide) y).symm
  · simp only [List.exists_mem_cons_iff, mem_chunk, List.not_mem_nil, false_and, exists_false, or_false]
    omega

end Cert.Proof.Mlp

end
-- ==== Proof.Ggnn.lean ====
/-
  The second TensorCore call: one batch of the graph network per grid point. The body builds the node features, runs ten
  gated steps in scratch and stores the three parts of the result.
-/
module

public import proofs.«01_k».proof.Proof.Mlp
public import proofs.«01_k».proof.Proof.Gen.KernelIdeal.Loops
public import Idealize.ShloMosaic.Lib.WritesUnit
public import Idealize.ShloMosaic.Lib.Pipeline.Value

@[expose] public section

set_option maxRecDepth 16384

noncomputable section

namespace Cert.Proof.Ggnn

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Mlp (raw)

variable {F : FTy → Type} [FloatOps F] [Named F]

local notation "𝕄" => MT nD τ sig (HIx 1) (Elt F) ℕ UU ℕ

/-- The node features of batch `i 0`: zeros, then the superpoint features on the first 407 rows, then the six columns given. -/
def annOf (i : grid2.Coords) (A : Vec F S2048x256 .f32) (N : Vec F S1x407x6 .f32) : Vec F S512x512 .f32 :=
  VecWindow.put (s := S512x512)
    (VecWindow.put (s := S512x512) k2_pay4 ![0, 0] S407x256.size (k2_pay5 (VecWindow.window (s := S2048x256) A (k2_off1 i) S407x256.size (k2_off1_inb i))))
    ![0, 256] S407x6.size (k2_pay6 N)

/-- One gated step. -/
def stepOf (ai ao : Vec F S1x512x512 .bf16) (wio : Vec F S512x1024 .bf16) (wzr : Vec F S1536x1024 .bf16) (wh : Vec F S1536x512 .bf16)
    (s : Vec F S512x512 .f32) : Vec F S512x512 .f32 :=
  k2_pay11 (k2_pay8 wio) (k2_pay9 wzr) (k2_pay10 wh) ai ao s

/-- The state after `n` steps. -/
def stateOf (ai ao : Vec F S1x512x512 .bf16) (wio : Vec F S512x1024 .bf16) (wzr : Vec F S1536x1024 .bf16) (wh : Vec F S1536x512 .bf16)
    (s : Vec F S512x512 .f32) : ℕ → Vec F S512x512 .f32
  | 0 => s
  | n + 1 => stepOf ai ao wio wzr wh (stateOf ai ao wio wzr wh s n)

/-- Three blocks of rows, one under the other. -/
def glue (p1 : Vec F S1x1024x407 .f32) (p2 : Vec F S1x512x407 .f32) (p3 : Vec F S1x256x407 .f32) : Vec F S1x1792x407 .f32 := fun y =>
  if h : (y 1).val < 1024 then p1 (ix3 (y 0) ⟨(y 1).val, h⟩ (y 2))
  else if h' : (y 1).val - 1024 < 512 then p2 (ix3 (y 0) ⟨(y 1).val - 1024, h'⟩ (y 2))
  else p3 (ix3 (y 0) ⟨(y 1).val - 1536, by have : (y 1).val < 1792 := (y 1).isLt; omega⟩ (y 2))

/-- The block of the result: the global features over every column, the node features, the superpoint features. -/
def outOf (ann st : Vec F S512x512 .f32) (wos woa : Vec F S512x512 .bf16) (wg : Vec F S512x1024 .bf16) : Vec F S1x1792x407 .f32 :=
  glue (k2_pay1 (k2_pay13 wos woa wg st ann)) (k2_pay2 (k2_pay12 wos woa st ann)) (k2_pay3 ann)

variable (d : Dev nD) (i : grid2.Coords) (arg1 : Memref sig .tc .vmem S2048x256 .f32) (harg1 : arg1.IsWhole) (arg2 : Memref sig .tc .vmem S1x407x6 .f32) (harg2 : arg2.IsWhole)
  (arg3 : Memref sig .tc .vmem S1x512x512 .bf16) (harg3 : arg3.IsWhole) (arg4 : Memref sig .tc .vmem S1x512x512 .bf16) (harg4 : arg4.IsWhole)
  (arg5 : Memref sig .tc .vmem S512x1024 .bf16) (harg5 : arg5.IsWhole) (arg6 : Memref sig .tc .vmem S1536x1024 .bf16) (harg6 : arg6.IsWhole)
  (arg7 : Memref sig .tc .vmem S1536x512 .bf16) (harg7 : arg7.IsWhole) (arg8 : Memref sig .tc .vmem S512x512 .bf16) (harg8 : arg8.IsWhole)
  (arg9 : Memref sig .tc .vmem S512x512 .bf16) (harg9 : arg9.IsWhole) (arg10 : Memref sig .tc .vmem S512x1024 .bf16) (harg10 : arg10.IsWhole)
  (arg11 : Memref sig .tc .vmem S1x1792x407 .f32) (harg11 : arg11.IsWhole) (arg12 : Memref sig .tc .vmem S512x512 .f32) (harg12 : arg12.IsWhole)
  (arg13 : Memref sig .tc .vmem S512x512 .f32) (harg13 : arg13.IsWhole)

/-- The state scratch holds `s`. -/
def StInv (s : Vec F S512x512 .f32) : sProp 𝕄 :=
  iprop(∃ f, raw (F := F) (d : Thread nD τ) arg13 fullShare f ∗ (⌜arg13.view.read (Elt F) f = s⌝ : sProp 𝕄))

set_option maxHeartbeats 800000 in
/-- One trip takes the scratch from `s` to the step of `s`. -/
theorem run_trip (v26 : FVec F S512x1024 .bf16) (v28 : FVec F S1536x1024 .bf16) (v30 : FVec F S1536x512 .bf16) (v31 v33 : Vec F S1x512x512 .bf16)
    (k : Fin k2_t1_loop.trips) (s : Vec F S512x512 .f32) :
    StInv (F := F) d arg13 s
      ⊢ wp frame (wpE (defs₀ (F := F)) 𝒱₀ d none) Set.univ
          (k2_t1_body (F := F) i arg1 harg1 arg2 harg2 arg3 harg3 arg4 harg4 arg5 harg5 arg6 harg6 arg7 harg7 arg8 harg8 arg9 harg9 arg10 harg10 arg11 harg11 arg12 harg12 arg13 harg13 v26 v28 v30 v31 v33 k PUnit.unit)
          fun _ => StInv (F := F) d arg13 (k2_pay11 v26 v28 v30 v31 v33 s) := by
  unfold StInv k2_t1_body
  iintro ⟨%f, H, %hf⟩
  subst hf
  sl_exec
  sl_step
  iexists _
  isplitl [H]; · iexact H
  ipureintro
  rw [View.readAt_full, View.read_writes_full]

set_option maxHeartbeats 800000 in
/-- The first part leaves the node features in both scratch buffers and hands on three weights. -/
theorem run_part1 (f1 : arg1.view.ty.Contents (Elt F)) (f2 : arg2.view.ty.Contents (Elt F)) (f5 : arg5.view.ty.Contents (Elt F)) (f6 : arg6.view.ty.Contents (Elt F))
    (f7 : arg7.view.ty.Contents (Elt F)) (f12 : arg12.view.ty.Contents (Elt F)) (f13 : arg13.view.ty.Contents (Elt F)) :
    iprop(raw (F := F) (d : Thread nD τ) arg1 fullShare f1 ∗ raw (F := F) (d : Thread nD τ) arg2 fullShare f2 ∗ raw (F := F) (d : Thread nD τ) arg5 fullShare f5
        ∗ raw (F := F) (d : Thread nD τ) arg6 fullShare f6 ∗ raw (F := F) (d : Thread nD τ) arg7 fullShare f7 ∗ raw (F := F) (d : Thread nD τ) arg12 fullShare f12
        ∗ raw (F := F) (d : Thread nD τ) arg13 fullShare f13)
      ⊢ wp frame (wpE (defs₀ (F := F)) 𝒱₀ d none) Set.univ
          (k2_part1 (F := F) i arg1 harg1 arg2 harg2 arg3 harg3 arg4 harg4 arg5 harg5 arg6 harg6 arg7 harg7 arg8 harg8 arg9 harg9 arg10 harg10 arg11 harg11 arg12 harg12 arg13 harg13)
          fun r => iprop(raw (F := F) (d : Thread nD τ) arg1 fullShare f1 ∗ raw (F := F) (d : Thread nD τ) arg2 fullShare f2 ∗ raw (F := F) (d : Thread nD τ) arg5 fullShare f5
            ∗ raw (F := F) (d : Thread nD τ) arg6 fullShare f6 ∗ raw (F := F) (d : Thread nD τ) arg7 fullShare f7
            ∗ StInv (F := F) d arg12 (annOf i (arg1.view.read (Elt F) f1) (arg2.view.read (Elt F) f2))
            ∗ StInv (F := F) d arg13 (annOf i (arg1.view.read (Elt F) f1) (arg2.view.read (Elt F) f2))
            ∗ (⌜r = ⟨k2_pay8 (arg5.view.read (Elt F) f5), k2_pay9 (arg6.view.read (Elt F) f6), k2_pay10 (arg7.view.read (Elt F) f7)⟩⌝ : sProp 𝕄)) := by
  rw [k2_part1_eq_skeleton]
  unfold k2_part1_skel StInv
  iintro ⟨H1, H2, H5, H6, H7, H12, H13⟩
  sl_exec
  sl_step
  isplitl [H1]; · iexact H1
  isplitl [H2]; · iexact H2
  isplitl [H5]; · iexact H5
  isplitl [H6]; · iexact H6
  isplitl [H7]; · iexact H7
  have hann : ∀ f, arg12.view.read (Elt F) (arg12.view.writes (Elt F) f (run_part1.sl.H12_3 d i arg1 arg2 f1 f2)) = annOf i (arg1.view.read (Elt F) f1) (arg2.view.read (Elt F) f2) := by
    intro f
    unfold run_part1.sl.H12_3
    refine (View.read_writes_cons_put (s := S512x512) (off' := ![0, 256]) arg12.view f _ _ _ rfl).trans ?_
    refine congrArg₂ (fun a b => VecWindow.put (s := S512x512) a ![0, 256] S407x6.size b) ?_ (congrArg k2_pay6 (View.readAt_full _ _ _))
    refine (View.read_writes_cons_put (s := S512x512) (off' := ![0, 0]) arg12.view f _ _ _ rfl).trans ?_
    refine congrArg₂ (fun a b => VecWindow.put (s := S512x512) a ![0, 0] S407x256.size b) (View.read_writes_full _ _ _ _ _) ?_
    exact congrArg k2_pay5 (View.readAt_unit arg1.view f1 _ rfl _)
  isplitl [H12]
  · iexists _
    isplitl [H12]; · iexact H12
    ipureintro
    exact hann _
  isplitl [H13]
  · iexists _
    isplitl [H13]; · iexact H13
    ipureintro
    rw [View.read_writes_full]
    unfold run_part1.sl.v21
    refine (shapeCast_self _ _).trans ?_
    exact (View.readAt_full arg12.view _ _).trans (hann _)
  ipureintro
  rw [View.readAt_full, View.readAt_full, View.readAt_full]

theorem glue_congr {p1 p1' : Vec F S1x1024x407 .f32} {p2 p2' : Vec F S1x512x407 .f32} {p3 p3' : Vec F S1x256x407 .f32} (h1 : p1 = p1') (h2 : p2 = p2') (h3 : p3 = p3') :
    glue p1 p2 p3 = glue p1' p2' p3' := by rw [h1, h2, h3]

theorem pay12_congr {w8 w8' w9 w9' : Vec F S512x512 .bf16} {s s' a a' : Vec F S512x512 .f32} (h8 : w8 = w8') (h9 : w9 = w9') (hs : s = s') (ha : a = a') :
    k2_pay12 w8 w9 s a = k2_pay12 w8' w9' s' a' := by rw [h8, h9, hs, ha]

theorem pay13_congr {w8 w8' w9 w9' : Vec F S512x512 .bf16} {w w' : Vec F S512x1024 .bf16} {s s' a a' : Vec F S512x512 .f32} (h8 : w8 = w8') (h9 : w9 = w9') (hw : w = w')
    (hs : s = s') (ha : a = a') : k2_pay13 w8 w9 w s a = k2_pay13 w8' w9' w' s' a' := by rw [h8, h9, hw, hs, ha]

/-- The three stores leave the blocks one under the other. -/
theorem read_out (f : arg11.view.ty.Contents (Elt F)) (p1 : Vec F S1x1024x407 .f32) (p2 : Vec F S1x512x407 .f32) (p3 : Vec F S1x256x407 .f32) :
    arg11.view.read (Elt F) (arg11.view.writes (Elt F) f
        [⟨Rect.unit (s := S1x1792x407) ![0, 1536, 0] S1x256x407.size inb_S1x1792x407_S1x256x407_0_1536_0, p3⟩,
         ⟨Rect.unit (s := S1x1792x407) ![0, 1024, 0] S1x512x407.size inb_S1x1792x407_S1x512x407_0_1024_0, p2⟩,
         ⟨Rect.unit (s := S1x1792x407) ![0, 0, 0] S1x1024x407.size inb_S1x1792x407_S1x1024x407_0_0_0, p1⟩])
      = glue p1 p2 p3 := by
  funext x
  have hx1 : (x 1).val < 1792 := (x 1).isLt
  have hx2 : (x 2).val < 407 := (x 2).isLt
  have hx0 : (x 0).val < 1 := (x 0).isLt
  refine View.read_writes_apply_of_pieces (Val := Elt F) (e := .f32) _ _ (glue p1 p2 p3) _ ?_ x ?_
  · intro p hp
    simp only [List.mem_cons, List.not_mem_nil, or_false] at hp
    rcases hp with rfl | rfl | rfl
    · intro y
      have hy1 : (y 1).val < 256 := (y 1).isLt
      unfold glue
      refine Eq.trans ?_ ((dif_neg (show ¬ (1536 + 1 * (y 1).val < 1024) by omega)).trans (dif_neg (show ¬ (1536 + 1 * (y 1).val - 1024 < 512) by omega))).symm
      refine congrArg p3 (funext fun b => ?_)
      apply Fin.ext
      fin_cases b
      · show (y 0).val = 0 + 1 * (y 0).val; omega
      · show (y 1).val = 1536 + 1 * (y 1).val - 1536; omega
      · show (y 2).val = 0 + 1 * (y 2).val; omega
    · intro y
      have hy1 : (y 1).val < 512 := (y 1).isLt
      unfold glue
      refine Eq.trans ?_ ((dif_neg (show ¬ (1024 + 1 * (y 1).val < 1024) by omega)).trans (dif_pos (show (1024 + 1 * (y 1).val - 1024 < 512) by omega))).symm
      refine congrArg p2 (funext fun b => ?_)
      apply Fin.ext
      fin_cases b
      · show (y 0).val = 0 + 1 * (y 0).val; omega
      · show (y 1).val = 1024 + 1 * (y 1).val - 1024; omega
      · show (y 2).val = 0 + 1 * (y 2).val; omega
    · intro y
      have hy1 : (y 1).val < 1024 := (y 1).isLt
      unfold glue
      refine Eq.trans ?_ (dif_pos (show (0 + 1 * (y 1).val < 1024) by omega)).symm
      refine congrArg p1 (funext fun b => ?_)
      apply Fin.ext
      fin_cases b
      · show (y 0).val = 0 + 1 * (y 0).val; omega
      · show (y 1).val = 0 + 1 * (y 1).val; omega
      · show (y 2).val = 0 + 1 * (y 2).val; omega
  · simp only [List.exists_mem_cons_iff, Rect.mem_set_unit, List.not_mem_nil, _root_.false_and, exists_false, _root_.or_false]
    by_cases h1 : (x 1).val < 1024
    · refine Or.inr (Or.inr fun b => ?_)
      fin_cases b
      · show 0 ≤ (x 0).val ∧ (x 0).val < 0 + 1; omega
      · show 0 ≤ (x 1).val ∧ (x 1).val < 0 + 1024; omega
      · show 0 ≤ (x 2).val ∧ (x 2).val < 0 + 407; omega
    by_cases h2 : (x 1).val < 1536
    · refine Or.inr (Or.inl fun b => ?_)
      fin_cases b
      · show 0 ≤ (x 0).val ∧ (x 0).val < 0 + 1; omega
      · show 1024 ≤ (x 1).val ∧ (x 1).val < 1024 + 512; omega
      · show 0 ≤ (x 2).val ∧ (x 2).val < 0 + 407; omega
    · refine Or.inl fun b => ?_
      fin_cases b
      · show 0 ≤ (x 0).val ∧ (x 0).val < 0 + 1; omega
      · show 1536 ≤ (x 1).val ∧ (x 1).val < 1536 + 256; omega
      · show 0 ≤ (x 2).val ∧ (x 2).val < 0 + 407; omega

attribute [local irreducible] k2_pay1 k2_pay2 k2_pay3 k2_pay12 k2_pay13

set_option maxHeartbeats 1600000 in
/-- The body of the call, from the operands' blocks to the block of the result. -/
theorem run_ggnn (f1 : arg1.view.ty.Contents (Elt F)) (f2 : arg2.view.ty.Contents (Elt F)) (f3 : arg3.view.ty.Contents (Elt F)) (f4 : arg4.view.ty.Contents (Elt F))
    (f5 : arg5.view.ty.Contents (Elt F)) (f6 : arg6.view.ty.Contents (Elt F)) (f7 : arg7.view.ty.Contents (Elt F)) (f8 : arg8.view.ty.Contents (Elt F))
    (f9 : arg9.view.ty.Contents (Elt F)) (f10 : arg10.view.ty.Contents (Elt F)) (f11 : arg11.view.ty.Contents (Elt F)) (f12 : arg12.view.ty.Contents (Elt F))
    (f13 : arg13.view.ty.Contents (Elt F)) :
    iprop(raw (F := F) (d : Thread nD τ) arg1 fullShare f1 ∗ raw (F := F) (d : Thread nD τ) arg2 fullShare f2 ∗ raw (F := F) (d : Thread nD τ) arg3 fullShare f3
        ∗ raw (F := F) (d : Thread nD τ) arg4 fullShare f4 ∗ raw (F := F) (d : Thread nD τ) arg5 fullShare f5 ∗ raw (F := F) (d : Thread nD τ) arg6 fullShare f6
        ∗ raw (F := F) (d : Thread nD τ) arg7 fullShare f7 ∗ raw (F := F) (d : Thread nD τ) arg8 fullShare f8 ∗ raw (F := F) (d : Thread nD τ) arg9 fullShare f9
        ∗ raw (F := F) (d : Thread nD τ) arg10 fullShare f10 ∗ raw (F := F) (d : Thread nD τ) arg11 fullShare f11 ∗ raw (F := F) (d : Thread nD τ) arg12 fullShare f12
        ∗ raw (F := F) (d : Thread nD τ) arg13 fullShare f13)
      ⊢ wp frame (wpE (defs₀ (F := F)) 𝒱₀ d none) Set.univ
          (cc2__ggnn_kernel (F := F) i arg1 harg1 arg2 harg2 arg3 harg3 arg4 harg4 arg5 harg5 arg6 harg6 arg7 harg7 arg8 harg8 arg9 harg9 arg10 harg10 arg11 harg11 arg12 harg12 arg13 harg13)
          fun _ => iprop(raw (F := F) (d : Thread nD τ) arg1 fullShare f1 ∗ raw (F := F) (d : Thread nD τ) arg2 fullShare f2 ∗ raw (F := F) (d : Thread nD τ) arg3 fullShare f3
            ∗ raw (F := F) (d : Thread nD τ) arg4 fullShare f4 ∗ raw (F := F) (d : Thread nD τ) arg5 fullShare f5 ∗ raw (F := F) (d : Thread nD τ) arg6 fullShare f6
            ∗ raw (F := F) (d : Thread nD τ) arg7 fullShare f7 ∗ raw (F := F) (d : Thread nD τ) arg8 fullShare f8 ∗ raw (F := F) (d : Thread nD τ) arg9 fullShare f9
            ∗ raw (F := F) (d : Thread nD τ) arg10 fullShare f10
            ∗ (∃ f, raw (F := F) (d : Thread nD τ) arg11 fullShare f
                ∗ (⌜arg11.view.read (Elt F) f
                    = outOf (annOf i (arg1.view.read (Elt F) f1) (arg2.view.read (Elt F) f2))
                        (stateOf (arg3.view.read (Elt F) f3) (arg4.view.read (Elt F) f4) (arg5.view.read (Elt F) f5) (arg6.view.read (Elt F) f6) (arg7.view.read (Elt F) f7)
                          (annOf i (arg1.view.read (Elt F) f1) (arg2.view.read (Elt F) f2)) 10)
                        (arg8.view.read (Elt F) f8) (arg9.view.read (Elt F) f9) (arg10.view.read (Elt F) f10)⌝ : sProp 𝕄))
            ∗ (∃ f, raw (F := F) (d : Thread nD τ) arg12 fullShare f) ∗ ∃ f, raw (F := F) (d : Thread nD τ) arg13 fullShare f) := by
  rw [cc2__ggnn_kernel_eq_skeleton]
  unfold cc2__ggnn_kernel_skel
  rw [k2_part2_eq_skeleton]
  unfold k2_part2_skel
  iintro ⟨H1, H2, H3, H4, H5, H6, H7, H8, H9, H10, H11, H12, H13⟩
  rw [wp_bind]
  iapply (wp_wand_r Idealize.ShloMosaic.frame (wpE (defs₀ (F := F)) 𝒱₀ (d : Thread nD τ) none) Set.univ)
  isplitl [H1 H2 H5 H6 H7 H12 H13]
  · iapply (run_part1 d i arg1 harg1 arg2 harg2 arg3 harg3 arg4 harg4 arg5 harg5 arg6 harg6 arg7 harg7 arg8 harg8 arg9 harg9 arg10 harg10 arg11 harg11 arg12 harg12 arg13 harg13 f1 f2 f5 f6 f7 f12 f13)
    isplitl [H1]; · iexact H1
    isplitl [H2]; · iexact H2
    isplitl [H5]; · iexact H5
    isplitl [H6]; · iexact H6
    isplitl [H7]; · iexact H7
    isplitl [H12]; · iexact H12
    iexact H13
  iintro %r ⟨H1, H2, H5, H6, H7, H12, H13, %hr⟩
  subst hr
  simp only [bind_assoc]
  unfold StInv
  icases H12 with ⟨%g12, H12, %h12⟩
  icases H13 with ⟨%g13, H13, %h13⟩
  sl_exec
  sl_for (fun n _ => StInv (F := F) d arg13 (stateOf
      (View.readAt (Elt F) arg3.view (Rect.unit (s := S1x512x512) ![0, 0, 0] S1x512x512.size inb_S1x512x512_S1x512x512_0_0_0).toLoadRect f3)
      (View.readAt (Elt F) arg4.view (Rect.unit (s := S1x512x512) ![0, 0, 0] S1x512x512.size inb_S1x512x512_S1x512x512_0_0_0).toLoadRect f4)
      (arg5.view.read (Elt F) f5) (arg6.view.read (Elt F) f6) (arg7.view.read (Elt F) f7)
      (annOf i (arg1.view.read (Elt F) f1) (arg2.view.read (Elt F) f2)) n)) $$ [H13]
  · intro k c
    exact run_trip d i arg1 harg1 arg2 harg2 arg3 harg3 arg4 harg4 arg5 harg5 arg6 harg6 arg7 harg7 arg8 harg8 arg9 harg9 arg10 harg10 arg11 harg11 arg12 harg12 arg13 harg13 _ _ _ _ _ k _
  · unfold StInv
    iexists _
    isplitl [H13]; · iexact H13
    ipureintro
    exact h13
  iintro %c HI
  unfold StInv
  icases HI with ⟨%g13', H13, %hg⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _
    isplitl [H11]; · iexact H11
    ipureintro
    rw [View.readAt_full, View.readAt_full] at hg
    rw [show Scf.trips k2_t1_loop.lb k2_t1_loop.ub k2_t1_loop.st = 10 from by decide +kernel] at hg
    refine (read_out arg11 f11 _ _ _).trans ?_
    unfold outOf
    have e12 := (View.readAt_full arg12.view g12 inb_S512x512_S512x512_0_0).trans h12
    have e13 := (View.readAt_full arg13.view g13' inb_S512x512_S512x512_0_0).trans hg
    have e8 := View.readAt_full arg8.view f8 inb_S512x512_S512x512_0_0
    have e9 := View.readAt_full arg9.view f9 inb_S512x512_S512x512_0_0
    have e10 := View.readAt_full arg10.view f10 inb_S512x1024_S512x1024_0_0
    have h1 := congrArg k2_pay1 (pay13_congr e8 e9 e10 e13 e12)
    have h2 := congrArg k2_pay2 (pay12_congr e8 e9 e13 e12)
    have h3 := congrArg k2_pay3 e12
    exact glue_congr h1 h2 h3
  isplitl [H12]
  · iexists _; iexact H12
  iexists _; iexact H13

end Cert.Proof.Ggnn

end
-- ==== Proof.Region.lean ====
/-
  The two TensorCore calls as regions of @main: what each pipeline's windows hold, the body at every grid point, and the region's step
  over every buffer of the device held at a valuation.
-/
module

public import proofs.«01_k».proof.Proof.Mlp
public import proofs.«01_k».proof.Proof.Ggnn
public import proofs.«01_k».proof.Proof.Gen.KernelIdeal.Points
public import Idealize.ShloMosaic.Lib.Pipeline.RegionArraysS
public import Idealize.ShloMosaic.Lib.Pipeline.FrameBody

@[expose] public section

set_option maxRecDepth 16384

noncomputable section

namespace Cert.Proof.Region

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Tactic

variable {F : FTy → Type} [FloatOps F] [Named F]

local notation "𝕄" => MT nD τ sig (HIx 1) (Elt F) ℕ UU ℕ

-- the buffers' contents at the region's entry, and the number of SparseCore calls already made
variable (V : Dev nD → Valuation τ sig (Elt F)) (n : ℕ)

/-- Window `w`'s block of the first call at the entry contents. -/
abbrev blk0 (d : Dev nD) (w : Fin 5) (t : Fin cfg0.N) : ((cfg0.win w).xblock (cfg0.grid.coords t)).Idx → Elt F (cfg0.win w).elt :=
  ((cfg0.win w).blk t).view.read (Elt F) (V d (Proc.devRef .tc (Pipeline.arrRef cfg0.spec w)))
/-- Window `w`'s block of the last call at the entry contents. -/
abbrev blk2 (d : Dev nD) (w : Fin 11) (t : Fin cfg2.N) : ((cfg2.win w).xblock (cfg2.grid.coords t)).Idx → Elt F (cfg2.win w).elt :=
  ((cfg2.win w).blk t).view.read (Elt F) (V d (Proc.devRef .tc (Pipeline.arrRef cfg2.spec w)))

/-- The last call's result at a grid point, from its ten operands. -/
def graphOut (i : grid2.Coords) (A : Vec F S2048x256 .f32) (N : Vec F S1x407x6 .f32) (ai ao : Vec F S1x512x512 .bf16)
    (wio : Vec F S512x1024 .bf16) (wzr : Vec F S1536x1024 .bf16) (wh : Vec F S1536x512 .bf16) (wos woa : Vec F S512x512 .bf16)
    (wg : Vec F S512x1024 .bf16) : Vec F S1x1792x407 .f32 :=
  Ggnn.outOf (Ggnn.annOf i A N) (Ggnn.stateOf ai ao wio wzr wh (Ggnn.annOf i A N) 10) wos woa wg

theorem graphOut_congr {i : grid2.Coords} {A A' : Vec F S2048x256 .f32} {N N' : Vec F S1x407x6 .f32} {ai ai' ao ao' : Vec F S1x512x512 .bf16}
    {wio wio' : Vec F S512x1024 .bf16} {wzr wzr' : Vec F S1536x1024 .bf16} {wh wh' : Vec F S1536x512 .bf16} {wos wos' woa woa' : Vec F S512x512 .bf16}
    {wg wg' : Vec F S512x1024 .bf16} (h0 : A = A') (h1 : N = N') (h2 : ai = ai') (h3 : ao = ao') (h4 : wio = wio') (h5 : wzr = wzr') (h6 : wh = wh')
    (h7 : wos = wos') (h8 : woa = woa') (h9 : wg = wg') :
    graphOut i A N ai ao wio wzr wh wos woa wg = graphOut i A' N' ai' ao' wio' wzr' wh' wos' woa' wg' := by
  subst h0 h1 h2 h3 h4 h5 h6 h7 h8 h9; rfl

/-- What the first call leaves in its result's staging buffer. -/
def res0 (d : Dev nD) (t : Fin cfg0.N) : Vec F S8192x256 .f32 :=
  Mlp.mlpOut (blk0 V d 0 t) (blk0 V d 1 t) (blk0 V d 2 t) (blk0 V d 3 t)

/-- What the last call leaves in its result's staging buffer at point `t`. -/
def res2 (d : Dev nD) (t : Fin cfg2.N) : Vec F S1x1792x407 .f32 :=
  graphOut (grid2.coords t) (blk2 V d 0 t) (blk2 V d 1 t) (blk2 V d 2 t) (blk2 V d 3 t) (blk2 V d 4 t) (blk2 V d 5 t) (blk2 V d 6 t)
    (blk2 V d 7 t) (blk2 V d 8 t) (blk2 V d 9 t)

/-- The pairs the core may have recorded before its next SparseCore call. -/
def seen (d : Dev nD) : Set (SemLoc sig × HIx 1) := {q | (K (F := F)).lev (SparseCore.T d, q.1) q.2 ≤ 8 * (inferInstance : SparseCore.Cfg.Blocks 1 1).fst n}

def dat0 (d : Dev nD) : Dat τ (Elt F) (HIx 1) ℕ UU ℕ cfg0 d where
  A w := V d (Proc.devRef .tc (Pipeline.arrRef cfg0.spec w))
  after w t := match w with
    | 0 => blk0 V d 0 t
    | 1 => blk0 V d 1 t
    | 2 => blk0 V d 2 t
    | 3 => blk0 V d 3 t
    | 4 => res0 V d t
  Φ _ := Pipeline.scopedRest cfg0.spec d
  q _ := fullShare
  owed _ := (K (F := F)).Otc d n
  recorded _ := seen (F := F) n d

def dat2 (d : Dev nD) : Dat τ (Elt F) (HIx 1) ℕ UU ℕ cfg2 d where
  A w := V d (Proc.devRef .tc (Pipeline.arrRef cfg2.spec w))
  after w t := match w with
    | 0 => blk2 V d 0 t
    | 1 => blk2 V d 1 t
    | 2 => blk2 V d 2 t
    | 3 => blk2 V d 3 t
    | 4 => blk2 V d 4 t
    | 5 => blk2 V d 5 t
    | 6 => blk2 V d 6 t
    | 7 => blk2 V d 7 t
    | 8 => blk2 V d 8 t
    | 9 => blk2 V d 9 t
    | 10 => res2 V d t
  Φ _ := Pipeline.scopedRest cfg2.spec d
  q _ := fullShare
  owed _ := (K (F := F)).Otc d n
  recorded _ := seen (F := F) n d

abbrev adm : (p : Fin 2) → (pcfgs (F := F) p).Adm := fun p => (cfgs p).toPCfg_adm

def pdats : (p : Fin 2) → (d : Dev nD) → Dat τ (Elt F) (HIx 1) ℕ UU ℕ (Pipeline.pin (pcfgs (F := F)) adm p) d
  | 0 => dat0 V n
  | 1 => dat2 V n

theorem before0 (d : Dev nD) (w : Fin 5) (hw : w ≠ 4) (t : Fin cfg0.N) (x : (cfg0.win w).block.Idx → Elt F (cfg0.win w).elt) :
    (dat0 V n d).before w t x = (dat0 V n d).after w t := by
  obtain rfl := fin_N0 t
  fin_cases w
  all_goals first | exact absurd rfl hw | skip
  all_goals unfold Dat.before; rw [if_pos (by decide)]; rfl

theorem before2 (d : Dev nD) (w : Fin 11) (hw : w ≠ 10) (t : Fin cfg2.N) (x : (cfg2.win w).block.Idx → Elt F (cfg2.win w).elt) :
    (dat2 V n d).before w t x = (dat2 V n d).after w t := by
  fin_cases w
  all_goals first | exact absurd rfl hw | skip
  all_goals exact ((dat2 V n d).before_in_eq_fetched _ rfl (fun _ => rfl) (fun _ _ _ => rfl) (fun _ => rfl) t x).trans rfl

/-- What it is to own a memref at contents. -/
theorem owns_eq (c : Thread nD τ) {sp : Space} {sh : Shape} {e : EltTy} (m : Memref sig c.2.kind sp sh e) (q : PosShare TreeShare)
    (X : sh.Idx → Elt F e) :
    (owns c m q X : sProp 𝕄) = iprop(∃ f, ⌜m.view.read (Elt F) f = X⌝ ∗ (m.view.loc c ↦[m.view.set]{q} f)) := rfl

/-- A whole buffer is held as its memref. -/
theorem raw_whole (d : Dev nD) (b : Ref sig .tc) (f : Buf (Elt F) ((d : Thread nD τ).loc b)) :
    (Mlp.raw (F := F) (d : Thread nD τ) (Memref.whole b) fullShare f : sProp 𝕄) = iprop(((d : Thread nD τ).loc b) ↦{fullShare} f) := by
  show iprop((Memref.whole b).view.loc (d : Thread nD τ) ↦[(Memref.whole b).view.set]{fullShare} f) = _
  simp only [Memref.view_whole, View.set_whole]

theorem raw_open (d : Dev nD) (b : Ref sig .tc) (f : Buf (Elt F) ((d : Thread nD τ).loc b)) :
    (Mlp.raw (F := F) (d : Thread nD τ) (Memref.whole b) fullShare f : sProp 𝕄) ⊢ iprop(((d : Thread nD τ).loc b) ↦{fullShare} f) := by
  rw [raw_whole]

/-- The first call's body at its one point. -/
theorem body0 (d : Dev nD) : BodyObligation (dat0 V n d) (defs₀ (F := F)) 𝒱₀ none Set.univ := fun t => by
  rw [bigSep_W0, bigSep_W0]
  simp only [owns_eq]
  rw [show (dat0 V n d).Φ t.castSucc = Pipeline.scopedRest spec0 d from rfl, show (dat0 V n d).Φ t.succ = Pipeline.scopedRest spec0 d from rfl,
    show (dat0 V n d).owesAt none t.succ = (dat0 V n d).owesAt none t.castSucc from rfl]
  iintro ⟨HΦ, Howes, ⟨%x0, %f0, %h0, H0⟩, ⟨%x1, %f1, %h1, H1⟩, ⟨%x2, %f2, %h2, H2⟩, ⟨%x3, %f3, %h3, H3⟩, ⟨%x4, %f4, %h4, H4⟩⟩
  rw [before0 V n d 0 (by decide)] at h0
  rw [before0 V n d 1 (by decide)] at h1
  rw [before0 V n d 2 (by decide)] at h2
  rw [before0 V n d 3 (by decide)] at h3
  iapply (wp_wand_r Idealize.ShloMosaic.frame (wpE (defs₀ (F := F)) 𝒱₀ (d : Thread nD τ) none) Set.univ)
  isplitl [H0 H1 H2 H3 H4]
  · iapply (Mlp.run_mlp d _ (hstage0_0 0) _ (hstage0_1 0) _ (hstage0_2 0) _ (hstage0_3 0) _ (hstage0_4 0) f0 f1 f2 f3 f4)
    isplitl [H0]; · iexact H0
    isplitl [H1]; · iexact H1
    isplitl [H2]; · iexact H2
    isplitl [H3]; · iexact H3
    iexact H4
  iintro %r ⟨H0, H1, H2, H3, ⟨%f, H4, %h⟩⟩
  isplitl [HΦ]; · iexact HΦ
  isplitl [Howes]; · iexact Howes
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  iexists _; isplitr; swap; (· iexact H4)
  ipureintro
  rw [h0, h1, h2, h3] at h
  exact h

set_option maxHeartbeats 4000000 in
/-- The last call's body at every point. -/
theorem body2 (d : Dev nD) : BodyObligation (dat2 V n d) (defs₀ (F := F)) 𝒱₀ none Set.univ := fun t => by
  rw [bigSep_W2, bigSep_W2]
  simp only [owns_eq]
  rw [show (dat2 V n d).Φ t.castSucc = Pipeline.scopedRest spec2 d from rfl, show (dat2 V n d).Φ t.succ = Pipeline.scopedRest spec2 d from rfl,
    show (dat2 V n d).owesAt none t.succ = (dat2 V n d).owesAt none t.castSucc from rfl]
  rw [scopedRest2_eq]
  iintro ⟨⟨S0, S1, S2, S3, S4, ⟨%f11, H11⟩, ⟨%f12, H12⟩⟩, Howes, ⟨%x0, %f0, %h0, H0⟩, ⟨%x1, %f1, %h1, H1⟩, ⟨%x2, %f2, %h2, H2⟩, ⟨%x3, %f3, %h3, H3⟩, ⟨%x4, %f4, %h4, H4⟩, ⟨%x5, %f5, %h5, H5⟩, ⟨%x6, %f6, %h6, H6⟩, ⟨%x7, %f7, %h7, H7⟩, ⟨%x8, %f8, %h8, H8⟩, ⟨%x9, %f9, %h9, H9⟩, ⟨%x10, %f10, %h10, H10⟩⟩
  rw [before2 V n d 0 (by decide)] at h0
  rw [before2 V n d 1 (by decide)] at h1
  rw [before2 V n d 2 (by decide)] at h2
  rw [before2 V n d 3 (by decide)] at h3
  rw [before2 V n d 4 (by decide)] at h4
  rw [before2 V n d 5 (by decide)] at h5
  rw [before2 V n d 6 (by decide)] at h6
  rw [before2 V n d 7 (by decide)] at h7
  rw [before2 V n d 8 (by decide)] at h8
  rw [before2 V n d 9 (by decide)] at h9
  iapply (wp_wand_r Idealize.ShloMosaic.frame (wpE (defs₀ (F := F)) 𝒱₀ (d : Thread nD τ) none) Set.univ)
  isplitl [H0 H1 H2 H3 H4 H5 H6 H7 H8 H9 H10 H11 H12]
  · iapply (Ggnn.run_ggnn d (grid2.coords t) _ (hstage2_0 ((cfg2.slots t 0).cast nbuf2_0)) _ (hstage2_1 ((cfg2.slots t 1).cast nbuf2_1))
      _ (hstage2_2 ((cfg2.slots t 2).cast nbuf2_2)) _ (hstage2_3 ((cfg2.slots t 3).cast nbuf2_3)) _ (hstage2_4 ((cfg2.slots t 4).cast nbuf2_4))
      _ (hstage2_5 ((cfg2.slots t 5).cast nbuf2_5)) _ (hstage2_6 ((cfg2.slots t 6).cast nbuf2_6)) _ (hstage2_7 ((cfg2.slots t 7).cast nbuf2_7))
      _ (hstage2_8 ((cfg2.slots t 8).cast nbuf2_8)) _ (hstage2_9 ((cfg2.slots t 9).cast nbuf2_9)) _ (hstage2_10 ((cfg2.slots t 10).cast nbuf2_10))
      (Memref.whole cc2_scratch0) (Memref.isWhole_whole _) (Memref.whole cc2_scratch1) (Memref.isWhole_whole _)
      f0 f1 f2 f3 f4 f5 f6 f7 f8 f9 f10 f11 f12)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · rw [raw_whole]; iexact H11
    rw [raw_whole]; iexact H12
  iintro %r ⟨H0, H1, H2, H3, H4, H5, H6, H7, H8, H9, ⟨%f, H10, %h⟩, ⟨%g11, H11⟩, ⟨%g12, H12⟩⟩
  ihave S5 := (raw_open d cc2_scratch0 g11) $$ H11
  ihave S6 := (raw_open d cc2_scratch1 g12) $$ H12
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexists _; iexact S5
    iexists _; iexact S6
  isplitl [Howes]; · iexact Howes
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]; · iexists _; isplitr; swap; (· iexact H8); ipureintro; exact h8
  isplitl [H9]; · iexists _; isplitr; swap; (· iexact H9); ipureintro; exact h9
  iexists _; isplitr; swap; (· iexact H10)
  ipureintro
  exact h.trans (graphOut_congr h0 h1 h2 h3 h4 h5 h6 h7 h8 h9)

/-! ## The region's step -/

/-- What the core owes between SparseCore calls, its recorded pairs bounded. -/
abbrev debts (d : Dev nD) : sProp 𝕄 :=
  iprop(∃ W, ⌜(K (F := F)).WBelow (SparseCore.T d) W (8 * (inferInstance : SparseCore.Cfg.Blocks 1 1).fst n)⌝
    ∗ owes (SparseCore.T d : Thread nD τ) ((K (F := F)).Otc d n) W)

theorem share_full (p : Fin 2) (d : Dev nD) (w : Fin (Pipeline.pin (pcfgs (F := F)) adm p).W) : (pdats V n p d).share w = fullShare :=
  match p with
  | 0 => (dat0 V n d).share_full (fun _ => rfl) w
  | 1 => (dat2 V n d).share_full (fun _ => rfl) w

theorem owed_eq (p : Fin 2) (d : Dev nD) (t) : (pdats V n p d).owed t = (K (F := F)).Otc d n :=
  match p with
  | 0 => rfl
  | 1 => rfl

theorem recorded_eq (p : Fin 2) (d : Dev nD) (t) : (pdats V n p d).recorded t = seen (F := F) n d :=
  match p with
  | 0 => rfl
  | 1 => rfl

set_option backward.isDefEq.respectTransparency.types false in
theorem Phi_eq (p : Fin 2) (d : Dev nD) (t) : (pdats V n p d).Φ t = Pipeline.scopedRest (Pipeline.pin (pcfgs (F := F)) adm p).spec d :=
  match p with
  | 0 => show (dat0 V n d).Φ t = Pipeline.scopedRest cfg0.spec d from rfl
  | 1 => show (dat2 V n d).Φ t = Pipeline.scopedRest cfg2.spec d from rfl

theorem entry_eq (p : Fin 2) (d : Dev nD) (w : Fin (Pipeline.pin (pcfgs (F := F)) adm p).W) :
    (pdats V n p d).A w = V d (Proc.devRef .tc (Pipeline.arrRef (Pipeline.pin (pcfgs (F := F)) adm p).spec w)) :=
  match p with
  | 0 => rfl
  | 1 => rfl

theorem body_all (p : Fin 2) (d : Dev nD) : Pipeline.BodyObligationLoose (pdats V n p d) (defs₀ (F := F)) 𝒱₀ none Set.univ :=
  match p with
  | 0 => (body0 V n d).loose
  | 1 => (body2 V n d).loose

theorem kit (p : Fin 2) : Pipeline.PLaunchFacts (nD := nD) (τ := τ) (pcfgs (F := F)) p :=
  match p with
  | 0 => launch0.toP
  | 1 => launch2.toP

theorem noPre (p : Fin 2) : ((pcfgs (F := F)) p).pre.K = 0 := match p with
  | 0 => rfl
  | 1 => rfl

/-- The buffers after pipeline `p` has run from `V`. -/
abbrev left (p : Fin 2) (d : Dev nD) : Valuation τ sig (Elt F) := Pipeline.afterRegion (pdats V n p d) (V d)

/-- Pipeline `p` as a region of @main, from the device's buffers at `V`. -/
def region (p : Fin 2) : Pipeline.RegionSeg (pcfgs (F := F)) adm (pdats V n) none defs₀ 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody d := body_all V n p d
  hwaits d := Pipeline.cellsWaits_of_cut (Pipeline.pin (pcfgs (F := F)) adm) (pdats V n) none p d 0 ((K (F := F)).Otc d n) (owed_eq V n p d)
    (fun _ _ => Finset.mem_univ _) (fun _ _ => le_of_eq ((K (F := F)).lev_none _))
    (fun g i h => ⟨Finset.mem_univ _, by have := (K (F := F)).lev_of_Otc_pos h; omega⟩)
  pre d := iprop(StableHlo.held (d.tc : Thread nD τ) (Pipeline.ucRefs τ sig) (V d) ∗ debts (F := F) n d)
  post d := iprop(StableHlo.held (d.tc : Thread nD τ) (Pipeline.ucRefs τ sig) (left V n p d) ∗ debts (F := F) n d)
  X _ := BI.emp
  Y _ := BI.emp
  Z d := StableHlo.held (d.tc : Thread nD τ) (Pipeline.ucRefs τ sig \ Pipeline.arrRefs ((pcfgs (F := F)) p).spec) (V d)
  hentry d := by
    rw [Pipeline.ownSems0_none, Pipeline.prefHeld_of_none _ (noPre p),
      StableHlo.held_sub_split (d.tc : Thread nD τ) (Pipeline.arrRefs_sub_ucRefs _ (kit (F := F) p).win.arr_unscoped) (V d),
      Pipeline.arrays_held (pcfgs (F := F)) adm (pdats V n) p (kit (F := F) p) d (share_full V n p d) (fun w => (pdats V n p d).arrAt w 0) (V d) (entry_eq V n p d)]
    iintro ⟨⟨⟨Ha, Hr⟩, HO⟩, -, -⟩
    imodintro
    isplitl [Ha]; · iexact Ha
    isplitr; · iempintro
    isplitl [HO]
    · unfold Dat.owesAt Pipeline.owesWithin Dat.bound
      rw [owed_eq V n p d 0, recorded_eq V n p d 0]
      icases HO with ⟨%W, %hW, HO⟩; iexists W; isplitr; · ipureintro; exact fun q hq => Or.inl (hW q hq)
      iexact HO
    isplitr; · iempintro
    iexact Hr
  hin d := by
    rw [Phi_eq]
    iintro ⟨-, -, H⟩; iexact H
  hout d := by
    rw [Phi_eq, Pipeline.ownSems0_none]
    iintro H
    isplitr; · iempintro
    isplitr; · iempintro
    iexact H
  hexit d := by
    rw [StableHlo.held_sub_split (d.tc : Thread nD τ) (Pipeline.arrRefs_sub_ucRefs _ (kit (F := F) p).win.arr_unscoped) (left V n p d),
      StableHlo.held_congr (d.tc : Thread nD τ) (S := Pipeline.ucRefs τ sig \ Pipeline.arrRefs ((pcfgs (F := F)) p).spec) (V := left V n p d) (V' := V d)
        (Pipeline.afterRegion_off (pdats V n p d) (V d) _),
      Pipeline.arrays_held (pcfgs (F := F)) adm (pdats V n) p (kit (F := F) p) d (share_full V n p d) _ (left V n p d)
        (fun w => (Pipeline.afterRegion_arr (pdats V n p d) (V d) (kit (F := F) p).win.arr_inj w).symm)]
    iintro ⟨Ha, HO, -, Hr⟩
    imodintro
    isplitl [Ha Hr]
    · isplitl [Ha]; · iexact Ha
      iexact Hr
    unfold Dat.owesAt Pipeline.owesWithin Dat.bound
    rw [owed_eq V n p d, recorded_eq V n p d]
    icases HO with ⟨%W, %hW, HO⟩; iexists W; isplitr
    · ipureintro
      intro q hq
      rcases hW hq with h | ⟨w, s, rfl⟩
      · exact h
      · rw [(K (F := F)).lev_none]; exact Nat.zero_le _
    iexact HO

end Cert.Proof.Region

end
-- ==== Proof.Step.lean ====
/-
  One point of the segment maximum, and one group of sixteen of them, in a single form. The kernel's four accumulate
  loops spell the same group four times over, each through its own printed offsets; each of the four is this group.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pointwise
public import proofs.«01_k».proof.Proof.Gen.KernelIdeal
public import proofs.«01_k».proof.Proof.Gen.KernelIdeal.Skeleton

@[expose] public section

set_option maxRecDepth 16384

noncomputable section

namespace Cert.Proof.Segmax

open Cert.KernelIdeal Cert.KernelIdeal.Gen
open Idealize.ShloMosaic Idealize.SL.Sem

variable {F : FTy → Type} [FloatOps F] [Named F]

/-- Where the kernel reads half `h` (0 or 16) of point `j` of group `t` in its staged rows. -/
def rowOff (t : Fin k1_t2_loop.trips) (j h : Nat) : Fin 2 → Nat :=
  ![(Scalar.indexCast (Scalar.addi (Scalar.muli (Scf.iv 0#32 1#32 t) 4#32) (BitVec.ofNat 32 (j / 4)))).toNat, 32 * (j % 4) + h]

theorem trips_t2 : k1_t2_loop.trips = 32 := by decide +kernel

theorem rowOff_eq (t : Fin k1_t2_loop.trips) (j : Fin 16) (h : Nat) :
    rowOff t j h = ![4 * t.val + j.val / 4, 32 * (j.val % 4) + h] := by
  have := (by decide +kernel : ∀ (t : Fin k1_t2_loop.trips) (j : Fin 16),
    (Scalar.indexCast (Scalar.addi (Scalar.muli (Scf.iv 0#32 1#32 t) 4#32) (BitVec.ofNat 32 (j.val / 4)))).toNat = 4 * t.val + j.val / 4) t j
  unfold rowOff; rw [this]

theorem rowOff_inb (t : Fin k1_t2_loop.trips) (j : Fin 16) (h : Fin 17) :
    ∀ a, rowOff t j h a + S1x16.size a ≤ S128x128.size a := by
  have ht := lt_of_lt_of_eq t.isLt trips_t2
  rw [rowOff_eq]; intro a
  fin_cases a
  · show 4 * t.val + j.val / 4 + 1 ≤ 128; omega
  · show 32 * (j.val % 4) + h.val + 16 ≤ 128; omega

theorem slices_lane (j : Fin 16) : S16.Slices ![j.val] S1 := by
  revert j; decide +kernel

/-- Word `j` of a group's sixteen segment numbers. -/
def word (v : IVec S16 32) (j : Fin 16) : BitVec 32 :=
  extractAt ![0] (extractStridedSlice S1 ![j.val] v (slices_lane j)) inpos_S1_p0

theorem word_eq (v : IVec S16 32) (j : Fin 16) : word v j = v (ix1 j) := by
  unfold word extractAt
  show v _ = v _
  congr 1
  funext a
  obtain rfl : a = 0 := Subsingleton.elim _ _
  refine Fin.ext ?_
  show j.val + 0 = j.val
  omega

/-- A segment number below 512 names a row of the accumulator. -/
theorem chk_of_lt {w : BitVec 32} (h : w.toNat < 512) : k1_chk1 w := by
  have hw : (Scalar.indexCast w).toNat = w.toNat := rfl
  refine ⟨fun a => ?_, fun a => ?_⟩ <;> fin_cases a
  · show (Scalar.indexCast w).toNat + 1 ≤ 512; omega
  · show 0 + 16 ≤ 32; omega
  · show (Scalar.indexCast w).toNat + 1 ≤ 512; omega
  · show 16 + 16 ≤ 32; omega

section
variable (i : grid1.Coords) (arg5 : Memref sig .scVector .vmem S2048 .i32) (arg6 : Memref sig .scVector .vmem S128x128 .f32)
  (arg7 : Memref sig .scVector .vmem S512x32 .f32)

/-- One point: its segment's row of the accumulator takes the maximum with the point's row, half by half. -/
def point (t : Fin k1_t2_loop.trips) (v : IVec S16 32) (j : Fin 16) :
    Prog (TpuEff nD τ sig (Elt F) Λ₀ (.scVector ((i 0).castLE hcore1) ((i 1).castLE hsub1))) PUnit := do
  let w : BitVec 32 := word v j
  have hw : k1_chk1 w := (← Prog.lift (TpuEff.assume (k1_chk1 w) (k1_chk1.dec w))).down
  let a : Vec F S1x16 .f32 ← Prog.lift (.load arg6 (Rect.unit (s := S128x128) (rowOff t j (0 : Fin 17)) S1x16.size (rowOff_inb t j 0)).toLoadRect (View.loadsAt_vmem h_S1x16))
  let b : Vec F S1x16 .f32 ← Prog.lift (.load arg6 (Rect.unit (s := S128x128) (rowOff t j (16 : Fin 17)) S1x16.size (rowOff_inb t j 16)).toLoadRect (View.loadsAt_vmem h_S1x16))
  let a' : Vec F S1x16 .f32 ← Prog.lift (.load arg7 (Rect.unit (s := S512x32) (k1_off8 w) S1x16.size (k1_off8_inb w hw)).toLoadRect (View.loadsAt_vmem h_S1x16))
  let b' : Vec F S1x16 .f32 ← Prog.lift (.load arg7 (Rect.unit (s := S512x32) (k1_off9 w) S1x16.size (k1_off9_inb w hw)).toLoadRect (View.loadsAt_vmem h_S1x16))
  let _ : Vec F S1x16 .f32 ← Prog.lift (.load arg7 (Rect.unit (s := S512x32) (k1_off8 w) S1x16.size (k1_off8_inb w hw)).toLoadRect (View.loadsAt_vmem h_S1x16))
  Prog.lift (.store arg7 (Rect.unit (s := S512x32) (k1_off8 w) S1x16.size (k1_off8_inb w hw)) (k1_pay7 a a') Finset.univ (View.stores_vmem_bits_univ h_S1x16 rfl) (.inl rfl))
  let _ : Vec F S1x16 .f32 ← Prog.lift (.load arg7 (Rect.unit (s := S512x32) (k1_off9 w) S1x16.size (k1_off9_inb w hw)).toLoadRect (View.loadsAt_vmem h_S1x16))
  Prog.lift (.store arg7 (Rect.unit (s := S512x32) (k1_off9 w) S1x16.size (k1_off9_inb w hw)) (k1_pay7 b b') Finset.univ (View.stores_vmem_bits_univ h_S1x16 rfl) (.inl rfl))

/-- The points of a list, one after another. -/
def points (t : Fin k1_t2_loop.trips) (v : IVec S16 32) :
    List (Fin 16) → Prog (TpuEff nD τ sig (Elt F) Λ₀ (.scVector ((i 0).castLE hcore1) ((i 1).castLE hsub1))) (BitVec 32)
  | [] => pure 0#32
  | j :: l => point i arg6 arg7 t v j >>= fun _ => points t v l

/-- A group: sixteen segment numbers loaded at `o`, then the sixteen points. -/
def group (o : Fin 1 → Nat) (ho : ∀ a, o a + S16.size a ≤ S2048.size a) (t : Fin k1_t2_loop.trips) :
    Prog (TpuEff nD τ sig (Elt F) Λ₀ (.scVector ((i 0).castLE hcore1) ((i 1).castLE hsub1))) (BitVec 32) :=
  Prog.lift (.load arg5 (Rect.unit (s := S2048) o S16.size ho).toLoadRect (View.loadsAt_vmem h_S16)) >>= fun v : Vec F S16 .i32 =>
    points i arg6 arg7 t (k1_pay5 v) [0, 1, 2, 3, 4, 5, 6, 7, 8, 9, 10, 11, 12, 13, 14, 15]

end

section
variable (i : grid1.Coords) (arg2 : Memref sig .scVector .hbm S32x512x128 .f32) (harg2 : arg2.IsWhole) (arg3 : Memref sig .scVector .hbm S8192 .i32) (harg3 : arg3.IsWhole) (arg4 : Memref sig .scVector .hbm S32x128x128 .f32) (harg4 : arg4.IsWhole) (arg5 : Memref sig .scVector .vmem S2048 .i32) (harg5 : arg5.IsWhole) (arg6 : Memref sig .scVector .vmem S128x128 .f32) (harg6 : arg6.IsWhole) (arg7 : Memref sig .scVector .vmem S512x32 .f32) (harg7 : arg7.IsWhole) (arg8 : Memref sig .scVector .vmem S128x128 .f32) (harg8 : arg8.IsWhole) (r0 r1 r2 r3 r4 r5 : DmaSems sig S_)

set_option maxRecDepth 65536 in
theorem t2_eq (t : Fin k1_t2_loop.trips) (c : BitVec 32) :
    k1_t2_body (F := F) i arg2 harg2 arg3 harg3 arg4 harg4 arg5 harg5 arg6 harg6 arg7 harg7 arg8 harg8 r0 r1 r2 r3 r4 r5 t c
      = group i arg5 arg6 arg7 (k1_off5 t) (k1_off5_inb t) t := rfl

set_option maxRecDepth 65536 in
theorem t3_eq (t : Fin k1_t3_loop.trips) (c : BitVec 32) :
    k1_t3_body (F := F) i arg2 harg2 arg3 harg3 arg4 harg4 arg5 harg5 arg6 harg6 arg7 harg7 arg8 harg8 r0 r1 r2 r3 r4 r5 t c
      = group i arg5 arg6 arg7 (k1_off71 t) (k1_off71_inb t) t := rfl

set_option maxRecDepth 65536 in
theorem t4_eq (t : Fin k1_t4_loop.trips) (c : BitVec 32) :
    k1_t4_body (F := F) i arg2 harg2 arg3 harg3 arg4 harg4 arg5 harg5 arg6 harg6 arg7 harg7 arg8 harg8 r0 r1 r2 r3 r4 r5 t c
      = group i arg5 arg6 arg7 (k1_off137 t) (k1_off137_inb t) t := rfl

set_option maxRecDepth 65536 in
theorem t5_eq (t : Fin k1_t5_loop.trips) (c : BitVec 32) :
    k1_t5_body (F := F) i arg2 harg2 arg3 harg3 arg4 harg4 arg5 harg5 arg6 harg6 arg7 harg7 arg8 harg8 r0 r1 r2 r3 r4 r5 t c
      = group i arg5 arg6 arg7 (k1_off203 t) (k1_off203_inb t) t := rfl

end

end Cert.Proof.Segmax
-- ==== Proof.Tile.lean ====
/-
  The run of one point, of a group, and of the four accumulate loops: what each leaves in the accumulator, as a function
  of the staged rows and the segment numbers.
-/
module

public import proofs.«01_k».proof.Proof.Base
public import proofs.«01_k».proof.Proof.Step
public import Idealize.ShloMosaic.Lib.VecWindow
public import Idealize.ShloMosaic.Lib.LaneScatter.Fold
public import Idealize.ShloMosaic.Lib.LaneScatter.Casts

@[expose] public section

set_option maxRecDepth 16384

noncomputable section

namespace Cert.Proof.Segmax

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

abbrev cV (i : grid1.Coords) : Fin τ.nSC := (i 0).castLE hcore1
abbrev jV (i : grid1.Coords) : Fin τ.nSub := (i 1).castLE hsub1

/-- A memref's own elements of its buffer, at contents `f`. -/
abbrev raw {sp : Space} {s : Shape} {e : EltTy} (thr : Thread nD τ) (M : Memref sig thr.2.kind sp s e) (q : PosShare TreeShare) (f : M.view.ty.Contents (Elt F)) : sProp 𝕄 :=
  M.view.loc thr ↦[M.view.set]{q} f

variable (d : Dev nD) (i : grid1.Coords) (arg5 : Memref sig .scVector .vmem S2048 .i32) (arg6 : Memref sig .scVector .vmem S128x128 .f32)
  (arg7 : Memref sig .scVector .vmem S512x32 .f32)

/-- The accumulator after one point: row `n` takes the maximum with the point's features `p`. -/
def put (n : ℕ) (p : ℕ → F .f32) (A : Vec F S512x32 .f32) : Vec F S512x32 .f32 :=
  fun x => if (x 0).val = n then FloatOps.maximumf (A x) (p (x 1).val) else A x

/-- A row of sixteen lanes read through its rectangle. -/
theorem window_apply {R C : ℕ} {α : Type} (x : (⟨2, ![R, C]⟩ : Shape).Idx → α) (o c : ℕ) (inb) (l : Fin 16) :
    VecWindow.window (s := ⟨2, ![R, C]⟩) x ![o, c] S1x16.size inb (ix2 0 l)
      = x (ix2 ⟨o, by have := inb 0; exact this⟩ ⟨c + l.val, by have h := inb 1; change c + 16 ≤ C at h; omega⟩) := by
  unfold VecWindow.window
  congr 1
  funext a; refine Fin.ext ?_; fin_cases a
  · show o + 1 * 0 = o; omega
  · show c + 1 * l.val = c + l.val; omega

/-- The stored half row: lane by lane the maximum of what stood there and of the point's. -/
theorem pay_apply (a a' : Vec F S1x16 .f32) (l : Fin 16) : k1_pay7 a a' (ix2 0 l) = FloatOps.maximumf (a' (ix2 0 l)) (a (ix2 0 l)) := by
  have e : (Fin.cons (⟨0, Nat.one_pos⟩ : Fin 1) (LaneScatter.laneIdx (ix2 0 l)) : S1x16.Idx) = ix2 0 l := by
    funext a; refine Fin.ext ?_; fin_cases a <;> rfl
  show shapeCast S1x16 (maximumf (shapeCast S16 a' shapeCasts_S1x16_S16) (shapeCast S16 a shapeCasts_S1x16_S16)) shapeCasts_S16_S1x16 (ix2 0 l) = _
  rw [LaneScatter.cast_row_apply]
  show FloatOps.maximumf (shapeCast S16 a' shapeCasts_S1x16_S16 _) (shapeCast S16 a shapeCasts_S1x16_S16 _) = _
  rw [LaneScatter.cast_vec_apply, LaneScatter.cast_vec_apply]
  exact congrArg₂ _ (congrArg a' e) (congrArg a e)

theorem put_read (f7 : arg7.view.ty.Contents (Elt F)) (a b a' b' : Vec F S1x16 .f32) (w : BitVec 32) (hc : k1_chk1 w) (p : ℕ → F .f32)
    (ha : ∀ l : Fin 16, a (ix2 0 l) = p l.val) (hb : ∀ l : Fin 16, b (ix2 0 l) = p (16 + l.val))
    (ha' : a' = arg7.view.readAt (Elt F) (Rect.unit (s := S512x32) (k1_off8 w) S1x16.size (k1_off8_inb w hc)).toLoadRect f7)
    (hb' : b' = arg7.view.readAt (Elt F) (Rect.unit (s := S512x32) (k1_off9 w) S1x16.size (k1_off9_inb w hc)).toLoadRect f7) :
    arg7.view.read (Elt F) (arg7.view.writes (Elt F) f7
        [⟨Rect.unit (s := S512x32) (k1_off9 w) S1x16.size (k1_off9_inb w hc), k1_pay7 b b'⟩,
         ⟨Rect.unit (s := S512x32) (k1_off8 w) S1x16.size (k1_off8_inb w hc), k1_pay7 a a'⟩])
      = put w.toNat p (arg7.view.read (Elt F) f7) := by
  subst ha' hb'
  have e8 : k1_off8 w = ![w.toNat, 0] := rfl
  have e9 : k1_off9 w = ![w.toNat, 16] := rfl
  have r8 := View.readAt_unit (Val := Elt F) arg7.view f7 (s := S512x32) (size := S1x16.size) (k1_off8_inb w hc) e8 (e8 ▸ k1_off8_inb w hc)
  have r9 := View.readAt_unit (Val := Elt F) arg7.view f7 (s := S512x32) (size := S1x16.size) (k1_off9_inb w hc) e9 (e9 ▸ k1_off9_inb w hc)
  rw [r8, r9]
  funext x
  rw [View.read_writes_cons_unit _ _ _ _ _ _ e9, View.read_writes_cons_unit _ _ _ _ _ _ e8]
  have hw : w.toNat < 512 := by have := hc.1 0; exact this
  by_cases hr : (x 0).val = w.toNat
  · by_cases hl : (x 1).val < 16
    · rw [dif_neg (fun h => by have := (h 1).1; change 16 ≤ (x 1).val at this; omega), dif_pos (fun a => by
        fin_cases a
        · show w.toNat ≤ (x 0).val ∧ (x 0).val < w.toNat + 1; omega
        · show 0 ≤ (x 1).val ∧ (x 1).val < 0 + 16; omega)]
      rw [show ∀ h, Rect.unitLocal (s := S512x32) (off := ![w.toNat, 0]) (size := S1x16.size) x h = ix2 0 ⟨(x 1).val, hl⟩ from fun h => by
        funext a; refine Fin.ext ?_; fin_cases a
        · show (x 0).val - w.toNat = 0; omega
        · show (x 1).val - 0 = (x 1).val; omega]
      rw [pay_apply, ha, put, if_pos hr, window_apply]
      congr 2
      funext a; refine Fin.ext ?_; fin_cases a
      · show w.toNat = (x 0).val; omega
      · show 0 + (x 1).val = (x 1).val; omega
    · have hl' : (x 1).val < 32 := (x 1).isLt
      have hl2 : (x 1).val - 16 < 16 := by omega
      rw [dif_pos (fun a => by
        fin_cases a
        · show w.toNat ≤ (x 0).val ∧ (x 0).val < w.toNat + 1; omega
        · show 16 ≤ (x 1).val ∧ (x 1).val < 16 + 16; omega)]
      rw [show ∀ h, Rect.unitLocal (s := S512x32) (off := ![w.toNat, 16]) (size := S1x16.size) x h = ix2 0 ⟨(x 1).val - 16, hl2⟩ from fun h => by
        funext a; refine Fin.ext ?_; fin_cases a
        · show (x 0).val - w.toNat = 0; omega
        · show (x 1).val - 16 = (x 1).val - 16; omega]
      rw [pay_apply, hb, put, if_pos hr, window_apply]
      have e : 16 + ((x 1).val - 16) = (x 1).val := by omega
      refine congrArg₂ _ (congrArg _ ?_) (congrArg p e)
      funext a; refine Fin.ext ?_; fin_cases a
      · show w.toNat = (x 0).val; omega
      · show 16 + ((x 1).val - 16) = (x 1).val; omega
  · rw [dif_neg (fun h => by have := h 0; change w.toNat ≤ (x 0).val ∧ (x 0).val < w.toNat + 1 at this; omega),
      dif_neg (fun h => by have := h 0; change w.toNat ≤ (x 0).val ∧ (x 0).val < w.toNat + 1 at this; omega), put, if_neg hr]
    rfl

theorem run_point (q : PosShare TreeShare) (t : Fin k1_t2_loop.trips) (v : IVec S16 32) (j : Fin 16) (hv : ∀ x, (v x).toNat < 512) (p : ℕ → F .f32)
    (f6 : arg6.view.ty.Contents (Elt F)) (f7 : arg7.view.ty.Contents (Elt F))
    (hp : ∀ l : Fin 32, arg6.view.read (Elt F) f6 (ix2 ⟨4 * t.val + j.val / 4, by have := lt_of_lt_of_eq t.isLt trips_t2; omega⟩ ⟨32 * (j.val % 4) + l.val, by omega⟩) = p l.val) :
    iprop(raw (F := F) (V d (cV i) (jV i)) arg6 q f6 ∗ raw (F := F) (V d (cV i) (jV i)) arg7 fullShare f7)
      ⊢ wp frame (wpE (defs₀ (F := F)) 𝒱₀ (V d (cV i) (jV i)) none) Set.univ (point (F := F) i arg6 arg7 t v j)
          fun _ => iprop(raw (F := F) (V d (cV i) (jV i)) arg6 q f6
            ∗ ∃ f7', raw (F := F) (V d (cV i) (jV i)) arg7 fullShare f7' ∗ (⌜arg7.view.read (Elt F) f7' = put (v (ix1 j)).toNat p (arg7.view.read (Elt F) f7)⌝ : sProp 𝕄)) := by
  have hc : k1_chk1 (word v j) := chk_of_lt (by rw [word_eq]; exact hv _)
  unfold point
  iintro ⟨H6, H7⟩
  sl_exec
  sl_step
  isplitl [H6]; · iexact H6
  iexists _
  isplitl [H7]; · iexact H7
  ipureintro
  rw [← word_eq v j]
  refine put_read arg7 f7 _ _ _ _ (word v j) hc p (fun l => ?_) (fun l => ?_) rfl rfl
  · rw [View.readAt_unit _ _ _ (rowOff_eq t j _) (rowOff_eq t j _ ▸ rowOff_inb t j 0), window_apply]
    exact hp ⟨l.val, by omega⟩
  · rw [View.readAt_unit _ _ _ (rowOff_eq t j _) (rowOff_eq t j _ ▸ rowOff_inb t j 16), window_apply]
    refine Eq.trans (congrArg _ ?_) (hp ⟨16 + l.val, by omega⟩)
    funext a; refine Fin.ext ?_; fin_cases a
    · rfl
    · show 32 * (j.val % 4) + 16 + l.val = 32 * (j.val % 4) + (16 + l.val); omega

/-- The points of a list, one after another. -/
theorem run_points (q : PosShare TreeShare) (t : Fin k1_t2_loop.trips) (v : IVec S16 32) (hv : ∀ x, (v x).toNat < 512) (p : ℕ → ℕ → F .f32)
    (f6 : arg6.view.ty.Contents (Elt F))
    (hp : ∀ (j : Fin 16) (l : Fin 32), arg6.view.read (Elt F) f6 (ix2 ⟨4 * t.val + j.val / 4, by have := lt_of_lt_of_eq t.isLt trips_t2; omega⟩ ⟨32 * (j.val % 4) + l.val, by omega⟩) = p j.val l.val)
    (L : List (Fin 16)) : ∀ (f7 : arg7.view.ty.Contents (Elt F)),
    iprop(raw (F := F) (V d (cV i) (jV i)) arg6 q f6 ∗ raw (F := F) (V d (cV i) (jV i)) arg7 fullShare f7)
      ⊢ wp frame (wpE (defs₀ (F := F)) 𝒱₀ (V d (cV i) (jV i)) none) Set.univ (points (F := F) i arg6 arg7 t v L)
          fun _ => iprop(raw (F := F) (V d (cV i) (jV i)) arg6 q f6
            ∗ ∃ f7', raw (F := F) (V d (cV i) (jV i)) arg7 fullShare f7'
              ∗ (⌜arg7.view.read (Elt F) f7' = L.foldl (fun A j => put (v (ix1 j)).toNat (p j.val) A) (arg7.view.read (Elt F) f7)⌝ : sProp 𝕄)) := by
  induction L with
  | nil =>
    intro f7
    iintro ⟨H6, H7⟩
    unfold points
    sl_step
    isplitl [H6]; · iexact H6
    iexists f7
    isplitl [H7]; · iexact H7
    ipureintro; rfl
  | cons j L ih =>
    intro f7
    unfold points
    rw [wp_bind]
    iintro ⟨H6, H7⟩
    iapply (wp_wand_r frame (wpE (defs₀ (F := F)) 𝒱₀ (V d (cV i) (jV i)) none) Set.univ)
    isplitl [H6 H7]
    · iapply (run_point d i arg6 arg7 q t v j hv (p j.val) f6 f7 (hp j))
      isplitl [H6] <;> iassumption
    iintro %_ ⟨H6, %f7', H7, %h⟩
    iapply (wp_wand_r frame (wpE (defs₀ (F := F)) 𝒱₀ (V d (cV i) (jV i)) none) Set.univ)
    isplitl [H6 H7]
    · iapply (ih f7')
      isplitl [H6] <;> iassumption
    iintro %_ ⟨H6, %f7'', H7, %h'⟩
    isplitl [H6]; · iexact H6
    iexists f7''
    isplitl [H7]; · iexact H7
    ipureintro
    rw [h', h]; rfl

/-- The accumulator after the first `n` points, from `z` everywhere. -/
def acc (z : F .f32) (seg : ℕ → ℕ) (pt : ℕ → ℕ → F .f32) : ℕ → Vec F S512x32 .f32
  | 0 => fun _ => z
  | n + 1 => put (seg n) (pt n) (acc z seg pt n)

/-- The segment numbers of the staged list. -/
def SegOK (f5 : arg5.view.ty.Contents (Elt F)) (seg : ℕ → ℕ) : Prop :=
  ∀ n : Fin 2048, (arg5.view.read (Elt F) f5 (ix1 n) : BitVec 32).toNat = seg n.val ∧ seg n.val < 512

/-- The staged rows hold the 512 points from `base` on, four to a row. -/
def RowsOK (f6 : arg6.view.ty.Contents (Elt F)) (base : ℕ) (pt : ℕ → ℕ → F .f32) : Prop :=
  ∀ (r : Fin 128) (c : Fin 128), arg6.view.read (Elt F) f6 (ix2 r c) = pt (base + (4 * r.val + c.val / 32)) (c.val % 32)

/-- Between two groups: the list and the rows as staged, the accumulator after the points so far. -/
def Inv (z : F .f32) (seg : ℕ → ℕ) (pt : ℕ → ℕ → F .f32) (q5 q6 : PosShare TreeShare) (f5 : arg5.view.ty.Contents (Elt F)) (f6 : arg6.view.ty.Contents (Elt F)) (n : ℕ) : sProp 𝕄 :=
  iprop(raw (F := F) (V d (cV i) (jV i)) arg5 q5 f5 ∗ raw (F := F) (V d (cV i) (jV i)) arg6 q6 f6
    ∗ ∃ f7, raw (F := F) (V d (cV i) (jV i)) arg7 fullShare f7 ∗ (⌜arg7.view.read (Elt F) f7 = acc z seg pt n⌝ : sProp 𝕄))

/-- One group. -/
theorem run_group (z : F .f32) (seg : ℕ → ℕ) (pt : ℕ → ℕ → F .f32) (q5 q6 : PosShare TreeShare) (f5 : arg5.view.ty.Contents (Elt F)) (f6 : arg6.view.ty.Contents (Elt F))
    (base : ℕ) (hbase : base + 512 ≤ 2048) (hs : SegOK (F := F) arg5 f5 seg) (hr : RowsOK arg6 f6 base pt)
    (o : Fin 1 → ℕ) (ho : ∀ a, o a + S16.size a ≤ S2048.size a) (t : Fin k1_t2_loop.trips) (heq : o = ![base + 16 * t.val]) :
    Inv d i arg5 arg6 arg7 z seg pt q5 q6 f5 f6 (base + 16 * t.val)
      ⊢ wp frame (wpE (defs₀ (F := F)) 𝒱₀ (V d (cV i) (jV i)) none) Set.univ (group (F := F) i arg5 arg6 arg7 o ho t)
          fun _ => Inv d i arg5 arg6 arg7 z seg pt q5 q6 f5 f6 (base + 16 * (t.val + 1)) := by
  have ht := lt_of_lt_of_eq t.isLt trips_t2
  unfold Inv group
  iintro ⟨H5, H6, %f7, H7, %hf⟩
  generalize hP : points (F := F) i arg6 arg7 t = P
  sl_exec
  subst hP
  have hv (j : Fin 16) : (k1_pay5 (F := F) (arg5.view.readAt (Elt F) (Rect.unit (s := S2048) o S16.size ho).toLoadRect f5) (ix1 j)).toNat = seg (base + 16 * t.val + j.val)
      ∧ seg (base + 16 * t.val + j.val) < 512 := by
    have h := hs ⟨base + 16 * t.val + j.val, by omega⟩
    refine ⟨Eq.trans ?_ h.1, h.2⟩
    refine congrArg BitVec.toNat ?_
    unfold k1_pay5
    show shapeCast S16 _ _ _ = _
    rw [shapeCast_self]
    subst heq
    refine congrArg (arg5.view.read (Elt F) f5) ?_
    funext a; refine Fin.ext ?_
    obtain rfl : a = 0 := Subsingleton.elim _ _
    show base + 16 * t.val + 1 * j.val = base + 16 * t.val + j.val
    omega
  iapply (wp_wand_r frame (wpE (defs₀ (F := F)) 𝒱₀ (V d (cV i) (jV i)) none) Set.univ)
  isplitl [H6 H7]
  · iapply (run_points d i arg6 arg7 q6 t _ (fun x => by rw [eq_ix1 x]; exact lt_of_eq_of_lt (hv (x 0)).1 (hv (x 0)).2) (fun j => pt (base + 16 * t.val + j)) f6 (fun j l => by
      rw [hr]
      congr 1
      · show base + (4 * (4 * t.val + j.val / 4) + (32 * (j.val % 4) + l.val) / 32) = base + 16 * t.val + j.val; omega
      · show (32 * (j.val % 4) + l.val) % 32 = l.val; omega) _ f7)
    isplitl [H6] <;> iassumption
  iintro %_ ⟨H6, %f7', H7, %h⟩
  isplitl [H5]; · iexact H5
  isplitl [H6]; · iexact H6
  iexists f7'
  isplitl [H7]; · iexact H7
  ipureintro
  rw [h, hf]
  simp only [hv]
  rfl

end Cert.Proof.Segmax
-- ==== Proof.Loops.lean ====
/-
  The two loops around the accumulation: the one that fills the accumulator with the fill value, and the one that packs
  four of its rows into each row of the buffer that is copied out.
-/
module

public import proofs.«01_k».proof.Proof.Base
public import proofs.«01_k».proof.Proof.Tile
public import Idealize.ShloMosaic.Lib.VecWindow
public import Idealize.ShloMosaic.Lib.LaneScatter.Fold
public import Idealize.ShloMosaic.Lib.LaneScatter.Casts

@[expose] public section

set_option maxRecDepth 16384

noncomputable section

namespace Cert.Proof.Segmax

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (i : grid1.Coords) (arg2 : Memref sig .scVector .hbm S32x512x128 .f32) (harg2 : arg2.IsWhole) (arg3 : Memref sig .scVector .hbm S8192 .i32) (harg3 : arg3.IsWhole) (arg4 : Memref sig .scVector .hbm S32x128x128 .f32) (harg4 : arg4.IsWhole) (arg5 : Memref sig .scVector .vmem S2048 .i32) (harg5 : arg5.IsWhole) (arg6 : Memref sig .scVector .vmem S128x128 .f32) (harg6 : arg6.IsWhole) (arg7 : Memref sig .scVector .vmem S512x32 .f32) (harg7 : arg7.IsWhole) (arg8 : Memref sig .scVector .vmem S128x128 .f32) (harg8 : arg8.IsWhole) (r0 r1 r2 r3 r4 r5 : DmaSems sig S_)

/-- The fill value. -/
def fillVal : F .f32 := Named.named κ "neg" 0xFF61B1E6#32

/-- The first `n` rows of the accumulator filled. -/
def FillInv (n : ℕ) : sProp 𝕄 :=
  iprop(∃ f7, raw (F := F) (V d (cV i) (jV i)) arg7 fullShare f7
    ∗ (⌜∀ x : S512x32.Idx, (x 0).val < n → arg7.view.read (Elt F) f7 x = fillVal⌝ : sProp 𝕄))

theorem trips_t1 : k1_t1_loop.trips = 512 := by decide +kernel
theorem trips_t6 : k1_t6_loop.trips = 128 := by decide +kernel

/-- The sixteen lanes from `c` on of row `r`, as a set of places. -/
theorem mem_half {R C : ℕ} (r c : ℕ) (inb) (x : (⟨2, ![R, C]⟩ : Shape).Idx) :
    x ∈ (Rect.unit (s := ⟨2, ![R, C]⟩) ![r, c] S1x16.size inb).set ↔ (x 0).val = r ∧ c ≤ (x 1).val ∧ (x 1).val < c + 16 := by
  rw [Rect.mem_set_unit]
  constructor
  · intro h
    have h0 := h 0; have h1 := h 1
    change r ≤ (x 0).val ∧ (x 0).val < r + 1 at h0
    change c ≤ (x 1).val ∧ (x 1).val < c + 16 at h1
    omega
  · rintro ⟨h0, h1⟩ a
    fin_cases a
    · show r ≤ (x 0).val ∧ (x 0).val < r + 1; omega
    · exact h1

theorem mem_half_of {R C : ℕ} {r c : ℕ} {o : Fin 2 → ℕ} (ho : o = ![r, c]) (inb) (x : (⟨2, ![R, C]⟩ : Shape).Idx) :
    x ∈ (Rect.unit (s := ⟨2, ![R, C]⟩) o S1x16.size inb).set ↔ (x 0).val = r ∧ c ≤ (x 1).val ∧ (x 1).val < c + 16 := by
  subst ho
  exact mem_half r c inb x

theorem run_fill (t : Fin k1_t1_loop.trips) (c : BitVec 32) :
    FillInv (F := F) d i arg7 t.val
      ⊢ wp frame (wpE (defs₀ (F := F)) 𝒱₀ (V d (cV i) (jV i)) none) Set.univ
          (k1_t1_body (F := F) i arg2 harg2 arg3 harg3 arg4 harg4 arg5 harg5 arg6 harg6 arg7 harg7 arg8 harg8 r0 r1 r2 r3 r4 r5 t c)
          fun _ => FillInv (F := F) d i arg7 (t.val + 1) := by
  unfold FillInv k1_t1_body
  iintro ⟨%f7, H7, %hf⟩
  sl_exec
  sl_step
  iexists _
  isplitl [H7]; · iexact H7
  ipureintro
  intro x hx
  by_cases h : (x 0).val < t.val
  · rw [View.read_writes_apply_of_forall_not_mem]
    · exact hf x h
    · intro p hp
      simp only [List.mem_cons, List.not_mem_nil, or_false] at hp
      rcases hp with rfl | rfl
      · rw [mem_half_of (k1_off2_eq t)]; omega
      · rw [mem_half_of (k1_off1_eq t)]; omega
  · refine View.read_writes_apply_of_pieces (Val := Elt F) (e := .f32) _ _ (fun _ => (fillVal (F := F) : Elt F .f32)) _ ?_ x ?_
    · intro p hp
      simp only [List.mem_cons, List.not_mem_nil, or_false] at hp
      rcases hp with rfl | rfl <;> exact fun _ => rfl
    · have h1 : (x 1).val < 32 := (x 1).isLt
      by_cases hh : (x 1).val < 16
      · exact ⟨_, List.mem_cons_of_mem _ List.mem_cons_self, (mem_half_of (k1_off1_eq t) (k1_off1_inb t) x).2 (by omega)⟩
      · exact ⟨_, List.mem_cons_self, (mem_half_of (k1_off2_eq t) (k1_off2_inb t) x).2 (by omega)⟩

/-- What row `r`, column `c` of the packed buffer is of the accumulator. -/
def packed (A : S512x32.Idx → F .f32) (r c : Fin 128) : F .f32 :=
  A (ix2 ⟨4 * r.val + c.val / 32, by omega⟩ ⟨c.val % 32, by omega⟩)

/-- Sixteen lanes loaded from the accumulator and stored at column `c` of row `r` are what belongs there. -/
theorem pack_piece (f7 : arg7.view.ty.Contents (Elt F)) {o so : Fin 2 → ℕ} (r c rr h : ℕ) (ho : o = ![r, c]) (hs : so = ![rr, h])
    (hrr : rr = 4 * r + c / 32) (hh : h = c % 32) (hc : c % 16 = 0) (inb) (sinb)
    (x : S1x16.Idx) :
    shapeCast S1x16 (shapeCast S16 (View.readAt (Elt F) arg7.view (Rect.unit (s := S512x32) so S1x16.size sinb).toLoadRect f7)
        shapeCasts_S1x16_S16) shapeCasts_S16_S1x16 x
      = (fun y : S128x128.Idx => packed (F := F) (arg7.view.read (Elt F) f7) (y 0) (y 1))
          ((Rect.unit (s := S128x128) o S1x16.size inb).emb x) := by
  subst ho hs
  rw [shapeCast_shapeCast]
  show arg7.view.read (Elt F) f7 _ = arg7.view.read (Elt F) f7 _
  congr 1
  have h0 : (x 0).val = 0 := by have := (x 0).isLt; change _ < 1 at this; omega
  have h1 : (x 1).val < 16 := (x 1).isLt
  funext a
  apply Fin.ext
  fin_cases a
  · show rr + 1 * (x 0).val = 4 * (r + 1 * (x 0).val) + (c + 1 * (x 1).val) / 32; omega
  · show h + 1 * (x 1).val = (c + 1 * (x 1).val) % 32; omega

/-- The first `n` rows of the packed buffer hold the accumulator's first `4 n` rows, four to a row. -/
def PackInv (f7 : arg7.view.ty.Contents (Elt F)) (n : ℕ) : sProp 𝕄 :=
  iprop(raw (F := F) (V d (cV i) (jV i)) arg7 fullShare f7 ∗ ∃ f8, raw (F := F) (V d (cV i) (jV i)) arg8 fullShare f8
    ∗ (⌜∀ x : S128x128.Idx, (x 0).val < n → arg8.view.read (Elt F) f8 x
        = packed (F := F) (arg7.view.read (Elt F) f7) (x 0) (x 1)⌝ : sProp 𝕄))

theorem run_pack (f7 : arg7.view.ty.Contents (Elt F)) (t : Fin k1_t6_loop.trips) (c : BitVec 32) :
    PackInv (F := F) d i arg7 arg8 f7 t.val
      ⊢ wp frame (wpE (defs₀ (F := F)) 𝒱₀ (V d (cV i) (jV i)) none) Set.univ
          (k1_t6_body (F := F) i arg2 harg2 arg3 harg3 arg4 harg4 arg5 harg5 arg6 harg6 arg7 harg7 arg8 harg8 r0 r1 r2 r3 r4 r5 t c)
          fun _ => PackInv (F := F) d i arg7 arg8 f7 (t.val + 1) := by
  unfold PackInv k1_t6_body
  simp only [k1_part41_eq_skeleton]
  unfold k1_part41_skel
  iintro ⟨H7, %f8, H8, %hf⟩
  sl_exec
  sl_step
  isplitl [H7]; · iexact H7
  iexists _
  isplitl [H8]; · iexact H8
  ipureintro
  intro x hx
  by_cases h : (x 0).val < t.val
  · rw [View.read_writes_apply_of_forall_not_mem]
    · exact hf x h
    · intro p hp
      simp only [List.mem_cons, List.not_mem_nil, or_false] at hp
      rcases hp with rfl | rfl | rfl | rfl | rfl | rfl | rfl | rfl
      · rw [mem_half_of (k1_off277_eq t)]; omega
      · rw [mem_half_of (k1_off276_eq t)]; omega
      · rw [mem_half_of (k1_off275_eq t)]; omega
      · rw [mem_half_of (k1_off274_eq t)]; omega
      · rw [mem_half_of (k1_off273_eq t)]; omega
      · rw [mem_half_of (k1_off272_eq t)]; omega
      · rw [mem_half_of (k1_off271_eq t)]; omega
      · rw [mem_half_of (k1_off269_eq t)]; omega
  · refine View.read_writes_apply_of_pieces (Val := Elt F) (e := .f32) _ _ (fun y : S128x128.Idx => (packed (F := F) (arg7.view.read (Elt F) f7) (y 0) (y 1) : Elt F .f32)) _ ?_ x ?_
    · intro p hp
      simp only [List.mem_cons, List.not_mem_nil, or_false] at hp
      rcases hp with rfl | rfl | rfl | rfl | rfl | rfl | rfl | rfl
      · exact pack_piece arg7 f7 t.val 112 (4 * t.val + 3) 16 (k1_off277_eq t) (k1_off270_eq t 3) (by omega) (by omega) (by omega) (k1_off277_inb t) (k1_off270_inb t 3)
      · exact pack_piece arg7 f7 t.val 96 (4 * t.val + 3) 0 (k1_off276_eq t) (k1_off268_eq t 3) (by omega) (by omega) (by omega) (k1_off276_inb t) (k1_off268_inb t 3)
      · exact pack_piece arg7 f7 t.val 80 (4 * t.val + 2) 16 (k1_off275_eq t) (k1_off270_eq t 2) (by omega) (by omega) (by omega) (k1_off275_inb t) (k1_off270_inb t 2)
      · exact pack_piece arg7 f7 t.val 64 (4 * t.val + 2) 0 (k1_off274_eq t) (k1_off268_eq t 2) (by omega) (by omega) (by omega) (k1_off274_inb t) (k1_off268_inb t 2)
      · exact pack_piece arg7 f7 t.val 48 (4 * t.val + 1) 16 (k1_off273_eq t) (k1_off270_eq t 1) (by omega) (by omega) (by omega) (k1_off273_inb t) (k1_off270_inb t 1)
      · exact pack_piece arg7 f7 t.val 32 (4 * t.val + 1) 0 (k1_off272_eq t) (k1_off268_eq t 1) (by omega) (by omega) (by omega) (k1_off272_inb t) (k1_off268_inb t 1)
      · exact pack_piece arg7 f7 t.val 16 (4 * t.val + 0) 16 (k1_off271_eq t) (k1_off270_eq t 0) (by omega) (by omega) (by omega) (k1_off271_inb t) (k1_off270_inb t 0)
      · exact pack_piece arg7 f7 t.val 0 (4 * t.val + 0) 0 (k1_off269_eq t) (k1_off268_eq t 0) (by omega) (by omega) (by omega) (k1_off269_inb t) (k1_off268_inb t 0)
    · have h1 : (x 1).val < 128 := (x 1).isLt
      have hx0 : (x 0).val = t.val := by omega
      simp only [List.exists_mem_cons_iff, List.not_mem_nil, false_and, exists_false, or_false]
      rw [mem_half_of (k1_off277_eq t), mem_half_of (k1_off276_eq t), mem_half_of (k1_off275_eq t), mem_half_of (k1_off274_eq t), mem_half_of (k1_off273_eq t), mem_half_of (k1_off272_eq t), mem_half_of (k1_off271_eq t), mem_half_of (k1_off269_eq t)]
      omega

end Cert.Proof.Segmax
-- ==== Proof.Body.lean ====
/-
  The task of one vector subcore: the list and the four stagings of its points fetched, the accumulator filled, the 2048
  points put into it, its rows packed and written out. The result is stated as a function of the two arrays read.
-/
module

public import proofs.«01_k».proof.Proof.Base
public import proofs.«01_k».proof.Proof.Loops
public import Idealize.ShloMosaic.Lib.ValueLayout
public import Idealize.ShloMosaic.Lib.VecWindow
public import Idealize.ShloMosaic.Lib.LaneScatter.Fold
public import Idealize.ShloMosaic.Lib.LaneScatter.Casts

@[expose] public section

set_option maxRecDepth 16384

noncomputable section

namespace Cert.Proof.Segmax

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (i : grid1.Coords) (arg2 : Memref sig .scVector .hbm S32x512x128 .f32) (harg2 : arg2.IsWhole) (arg3 : Memref sig .scVector .hbm S8192 .i32) (harg3 : arg3.IsWhole) (arg4 : Memref sig .scVector .hbm S32x128x128 .f32) (harg4 : arg4.IsWhole) (arg5 : Memref sig .scVector .vmem S2048 .i32) (harg5 : arg5.IsWhole) (arg6 : Memref sig .scVector .vmem S128x128 .f32) (harg6 : arg6.IsWhole) (arg7 : Memref sig .scVector .vmem S512x32 .f32) (harg7 : arg7.IsWhole) (arg8 : Memref sig .scVector .vmem S128x128 .f32) (harg8 : arg8.IsWhole) (r0 r1 r2 r3 r4 r5 : DmaSems sig S_)

theorem acc_zero (z : F .f32) (seg : ℕ → ℕ) (pt : ℕ → ℕ → F .f32) (x : S512x32.Idx) : acc z seg pt 0 x = z := rfl

attribute [local irreducible] acc

/-- The segment numbers a task reads: those of its graph. -/
def segOf (fs : Vec F S8192 .i32) (n : ℕ) : ℕ :=
  if h : (2 * (i 1).val + (i 0).val) / 8 * 2048 + n < 8192 then (fs (ix1 ⟨_, h⟩) : BitVec 32).toNat else 0

/-- The features a task reads: four points to a row, thirty-two columns each. -/
def ptOf (fh : Vec F S32x512x128 .f32) (n l : ℕ) : F .f32 :=
  if h : 2 * (i 1).val + (i 0).val < 32 ∧ n / 4 < 512 ∧ 32 * (n % 4) + l < 128 then
    fh (ix3 ⟨_, h.1⟩ ⟨_, h.2.1⟩ ⟨_, h.2.2⟩) else fillVal

theorem off3_eq : ∀ i : grid1.Coords, k1_off3 i = ![(2 * (i 1).val + (i 0).val) / 8 * 2048] := by decide +kernel

/-- Block `wid` of the result, as the task addresses it. -/
abbrev outK (i : grid1.Coords) : Memref sig .scVector .hbm S128x128 .f32 :=
  (arg4.slice (Rect.unit (s := S32x128x128) (k1_off278 i) S1x128x128.size (k1_off278_inb i)) (fun _ => rfl)).squeeze S128x128 squeezes_S1x128x128_S128x128

/-- What a task leaves in its block: the accumulator after all its points, packed. -/
def OutOK (f2 : arg2.view.ty.Contents (Elt F)) (f3 : arg3.view.ty.Contents (Elt F)) (f : arg4.view.ty.Contents (Elt F)) : Prop :=
  ∀ x : S128x128.Idx, (outK arg4 i).view.read (Elt F) f x
    = packed (F := F) (acc fillVal (segOf i (arg3.view.read (Elt F) f3)) (ptOf i (arg2.view.read (Elt F) f2)) 2048) (x 0) (x 1)

/-- A buffer overwritten whole reads what was written. -/
theorem read_written {κ : Kind} {sp : Space} {s : Shape} {e : EltTy} (v : View sig κ sp s e) (f : v.ty.Contents (Elt F)) (w : s.Idx → Elt F e)
    (L : List (View.Piece (Elt F) s e)) : v.read (Elt F) (v.writes (Elt F) f (⟨Rect.whole s, w⟩ :: L)) = w := by
  funext x
  have h := View.read_writes_cons_emb (Val := Elt F) v f (Rect.whole s) w L x
  rwa [Rect.emb_whole_apply] at h

theorem singleton_eq {a b : ℕ} (h : a = b) : (![a] : Fin 1 → ℕ) = ![b] := h ▸ rfl

theorem wid_lt : 2 * (i 1).val + (i 0).val < 32 := by
  have h0 : (i 0).val < 2 := (i 0).isLt
  have h1 : (i 1).val < 16 := (i 1).isLt
  omega

/-- The slice of the list a task stages holds its segment numbers. -/
theorem segOK_of (f3 : arg3.view.ty.Contents (Elt F)) (g5 : arg5.view.ty.Contents (Elt F))
    (hseg : ∀ j : S8192.Idx, (arg3.view.read (Elt F) f3 j : BitVec 32).toNat < 407)
    (h : arg5.view.read (Elt F) g5
      = (arg3.slice (Rect.unit (s := S8192) (k1_off3 i) S2048.size (k1_off3_inb i)) (fun _ => rfl)).view.read (Elt F) f3) :
    SegOK (F := F) arg5 g5 (segOf i (arg3.view.read (Elt F) f3)) := by
  intro n
  have hw := wid_lt i
  have hn : (2 * (i 1).val + (i 0).val) / 8 * 2048 + n.val < 8192 := by omega
  have e : (arg5.view.read (Elt F) g5 (ix1 n) : BitVec 32) = arg3.view.read (Elt F) f3 (ix1 ⟨_, hn⟩) := by
    rw [h]
    show arg3.view.read (Elt F) f3 _ = _
    congr 1
    funext a
    apply Fin.ext
    fin_cases a
    show k1_off3 i 0 + 1 * n.val = _
    rw [off3_eq]
    show (2 * (i 1).val + (i 0).val) / 8 * 2048 + 1 * n.val = _
    rw [one_mul]; rfl
  rw [segOf, dif_pos hn, e]
  exact ⟨rfl, (hseg _).trans (by omega)⟩

/-- The slice of the features a task stages holds 512 of its points. -/
theorem rowsOK_of (f2 : arg2.view.ty.Contents (Elt F)) (g6 : arg6.view.ty.Contents (Elt F)) (g : ℕ) (hg : g < 4) (o : Fin 3 → ℕ) (ho : ∀ a, o a + S1x128x128.size a ≤ S32x512x128.size a)
    (heq : o = ![2 * (i 1).val + (i 0).val, 128 * g, 0])
    (h : arg6.view.read (Elt F) g6
      = ((arg2.slice (Rect.unit (s := S32x512x128) o S1x128x128.size ho) (fun _ => rfl)).squeeze S128x128 squeezes_S1x128x128_S128x128).view.read (Elt F) f2) :
    RowsOK (F := F) arg6 g6 (512 * g) (ptOf i (arg2.view.read (Elt F) f2)) := by
  subst heq
  intro r c
  have hw := wid_lt i
  have h1 : (512 * g + (4 * r.val + c.val / 32)) / 4 = 128 * g + r.val := by omega
  have h2 : 32 * ((512 * g + (4 * r.val + c.val / 32)) % 4) + c.val % 32 = c.val := by omega
  rw [h, ptOf, dif_pos ⟨hw, by omega, by omega⟩]
  show arg2.view.read (Elt F) f2 ((Rect.unit (s := S32x512x128) _ S1x128x128.size ho).emb (Shape.reshapeEquiv squeezes_S1x128x128_S128x128.numel_eq (ix2 r c))) = _
  congr 1
  rw [show Shape.reshapeEquiv squeezes_S1x128x128_S128x128.numel_eq (ix2 r c) = ix3 (⟨0, Nat.one_pos⟩ : Fin 1) r c from
    ValueIdx.reshapeEquiv_ix2_1ab _ r c]
  funext a
  apply Fin.ext
  fin_cases a
  · show 2 * (i 1).val + (i 0).val + 1 * 0 = 2 * (i 1).val + (i 0).val; omega
  · show 128 * g + 1 * r.val = (512 * g + (4 * r.val + c.val / 32)) / 4; omega
  · show 0 + 1 * c.val = 32 * ((512 * g + (4 * r.val + c.val / 32)) % 4) + c.val % 32; omega

abbrev cell (r : DmaSems sig S_) : GSem nD τ sig := (V d (cV i) (jV i), .dma r.sem)

set_option maxHeartbeats 800000 in
theorem run_body (q2 q3 : PosShare TreeShare) (f2 : arg2.view.ty.Contents (Elt F)) (f3 : arg3.view.ty.Contents (Elt F)) (f4 : arg4.view.ty.Contents (Elt F))
    (hseg : ∀ j : S8192.Idx, (arg3.view.read (Elt F) f3 j : BitVec 32).toNat < 407)
    (O : CellTallies nD τ sig (HIx 1)) (W : Waits sig (HIx 1)) (hO : ∀ g, O g none = 0) :
    iprop(levAts (K (F := F)).L (K (F := F)).lev
        ∗ raw (F := F) (V d (cV i) (jV i)) arg2 q2 f2 ∗ raw (F := F) (V d (cV i) (jV i)) arg3 q3 f3
        ∗ raw (F := F) (V d (cV i) (jV i)) (outK arg4 i) fullShare f4
        ∗ (∃ f5, raw (F := F) (V d (cV i) (jV i)) arg5 fullShare f5) ∗ (∃ f6, raw (F := F) (V d (cV i) (jV i)) arg6 fullShare f6)
        ∗ (∃ f7, raw (F := F) (V d (cV i) (jV i)) arg7 fullShare f7) ∗ (∃ f8, raw (F := F) (V d (cV i) (jV i)) arg8 fullShare f8)
        ∗ semVal (cell d i r0) 0 ∗ semVal (cell d i r1) 0 ∗ semVal (cell d i r2) 0 ∗ semVal (cell d i r3) 0 ∗ semVal (cell d i r4) 0 ∗ semVal (cell d i r5) 0
        ∗ owes (V d (cV i) (jV i)) O W)
      ⊢ wp frame (wpE (defs₀ (F := F)) 𝒱₀ (V d (cV i) (jV i)) none) Set.univ
          (cc1__sc_segmax_body (F := F) i arg2 harg2 arg3 harg3 arg4 harg4 arg5 harg5 arg6 harg6 arg7 harg7 arg8 harg8 r0 r1 r2 r3 r4 r5)
          fun _ => iprop(raw (F := F) (V d (cV i) (jV i)) arg2 q2 f2 ∗ raw (F := F) (V d (cV i) (jV i)) arg3 q3 f3
            ∗ (∃ f, raw (F := F) (V d (cV i) (jV i)) (outK arg4 i) fullShare f
                ∗ (⌜OutOK i arg2 arg3 arg4 f2 f3 f⌝ : sProp 𝕄))
            ∗ (∃ f5, raw (F := F) (V d (cV i) (jV i)) arg5 fullShare f5) ∗ (∃ f6, raw (F := F) (V d (cV i) (jV i)) arg6 fullShare f6)
            ∗ (∃ f7, raw (F := F) (V d (cV i) (jV i)) arg7 fullShare f7) ∗ (∃ f8, raw (F := F) (V d (cV i) (jV i)) arg8 fullShare f8)
            ∗ semVal (cell d i r0) 0 ∗ semVal (cell d i r1) 0 ∗ semVal (cell d i r2) 0 ∗ semVal (cell d i r3) 0 ∗ semVal (cell d i r4) 0 ∗ semVal (cell d i r5) 0
            ∗ ∃ W', ⌜∀ p ∈ W', p ∈ W ∨ p.2 = none⌝ ∗ owes (V d (cV i) (jV i)) O W') := by
  rw [cc1__sc_segmax_body_eq_skeleton]
  unfold cc1__sc_segmax_body_skel
  rw [k1_part42_eq_skeleton, k1_part43_eq_skeleton]
  unfold k1_part42_skel k1_part43_skel
  simp only [bind_assoc]
  iintro ⟨#Hlv, H2, H3, H4, ⟨%f5, H5⟩, ⟨%f6, H6⟩, ⟨%f7, H7⟩, ⟨%f8, H8⟩, S0, S1, S2, S3, S4, S5, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  sl_for (fun n _ => FillInv (F := F) d i arg7 n) $$ [H7]
  · intro t c
    exact run_fill d i arg2 harg2 arg3 harg3 arg4 harg4 arg5 harg5 arg6 harg6 arg7 harg7 arg8 harg8 r0 r1 r2 r3 r4 r5 t c
  · unfold FillInv
    iexists f7
    isplitl [H7]; · iexact H7
    ipureintro
    intro x hx; omega
  iintro %c1 HI
  unfold FillInv
  icases HI with ⟨%g7, H7, %hg7⟩
  sl_exec
  have hs : SegOK (F := F) arg5 _ (segOf i (arg3.view.read (Elt F) f3)) :=
    segOK_of i arg3 arg5 f3 (arg5.view.writes (Elt F) arg5.view.junk [⟨Rect.whole S2048, run_body.sl.dma0 i arg3 f3⟩]) hseg (read_written _ _ _ _)
  have h0 : arg7.view.read (Elt F) g7 = acc fillVal (segOf i (arg3.view.read (Elt F) f3)) (ptOf i (arg2.view.read (Elt F) f2)) (0 + 16 * 0) :=
    funext fun x => (hg7 x (lt_of_lt_of_eq (x 0).isLt trips_t1.symm)).trans (acc_zero _ _ _ x).symm
  sl_for (fun n _ => Inv (F := F) d i arg5 arg6 arg7 fillVal (segOf i (arg3.view.read (Elt F) f3)) (ptOf i (arg2.view.read (Elt F) f2)) fullShare fullShare
      (arg5.view.writes (Elt F) arg5.view.junk [⟨Rect.whole S2048, run_body.sl.dma0 i arg3 f3⟩])
      (arg6.view.writes (Elt F) arg6.view.junk [⟨Rect.whole S128x128, run_body.sl.dma0_1 i arg2 f2⟩]) (0 + 16 * n)) $$ [H5 H6 H7]
  · intro t c
    unfold run_body.sl.prog.body_2
    rw [t2_eq]
    exact run_group d i arg5 arg6 arg7 fillVal _ _ fullShare fullShare _ _ 0 (by omega) hs
      (rowsOK_of i arg2 arg6 f2 _ 0 (by omega) (k1_off4 i) (k1_off4_inb i) (k1_off4_eq i) (read_written _ _ _ _)) _ _ t
      ((k1_off5_eq t).trans (singleton_eq (by omega)))
  · unfold Inv
    isplitl [H5]; · iexact H5
    isplitl [H6]; · iexact H6
    iexists _
    isplitl [H7]; · iexact H7
    ipureintro
    exact h0
  iintro %c2 HI
  unfold Inv
  icases HI with ⟨H5, H6, %g7_0, H7, %h1⟩
  rw [show Scf.trips k1_t2_loop.lb k1_t2_loop.ub k1_t2_loop.st = 32 from trips_t2,
    show 0 + 16 * 32 = 512 + 16 * 0 from rfl] at h1
  sl_exec
  sl_for (fun n _ => Inv (F := F) d i arg5 arg6 arg7 fillVal (segOf i (arg3.view.read (Elt F) f3)) (ptOf i (arg2.view.read (Elt F) f2)) fullShare fullShare
      (arg5.view.writes (Elt F) arg5.view.junk [⟨Rect.whole S2048, run_body.sl.dma0 i arg3 f3⟩])
      (arg6.view.writes (Elt F) arg6.view.junk [⟨Rect.whole S128x128, run_body.sl.dma0_2 i arg2 f2⟩, ⟨Rect.whole S128x128, run_body.sl.dma0_1 i arg2 f2⟩]) (512 + 16 * n)) $$ [H5 H6 H7]
  · intro t c
    unfold run_body.sl.prog.body_3
    rw [t3_eq]
    exact run_group d i arg5 arg6 arg7 fillVal _ _ fullShare fullShare _ _ 512 (by omega) hs
      (rowsOK_of i arg2 arg6 f2 _ 1 (by omega) (k1_off70 i) (k1_off70_inb i) (k1_off70_eq i) (read_written _ _ _ _)) _ _ t
      ((k1_off71_eq t).trans (singleton_eq (by omega)))
  · unfold Inv
    isplitl [H5]; · iexact H5
    isplitl [H6]; · iexact H6
    iexists _
    isplitl [H7]; · iexact H7
    ipureintro
    exact h1
  iintro %c3 HI
  unfold Inv
  icases HI with ⟨H5, H6, %g7_1, H7, %h2⟩
  rw [show Scf.trips k1_t3_loop.lb k1_t3_loop.ub k1_t3_loop.st = 32 from trips_t2,
    show 512 + 16 * 32 = 1024 + 16 * 0 from rfl] at h2
  sl_exec
  sl_for (fun n _ => Inv (F := F) d i arg5 arg6 arg7 fillVal (segOf i (arg3.view.read (Elt F) f3)) (ptOf i (arg2.view.read (Elt F) f2)) fullShare fullShare
      (arg5.view.writes (Elt F) arg5.view.junk [⟨Rect.whole S2048, run_body.sl.dma0 i arg3 f3⟩])
      (arg6.view.writes (Elt F) arg6.view.junk [⟨Rect.whole S128x128, run_body.sl.dma0_3 i arg2 f2⟩, ⟨Rect.whole S128x128, run_body.sl.dma0_2 i arg2 f2⟩, ⟨Rect.whole S128x128, run_body.sl.dma0_1 i arg2 f2⟩]) (1024 + 16 * n)) $$ [H5 H6 H7]
  · intro t c
    unfold run_body.sl.prog.body_4
    rw [t4_eq]
    exact run_group d i arg5 arg6 arg7 fillVal _ _ fullShare fullShare _ _ 1024 (by omega) hs
      (rowsOK_of i arg2 arg6 f2 _ 2 (by omega) (k1_off136 i) (k1_off136_inb i) (k1_off136_eq i) (read_written _ _ _ _)) _ _ t
      ((k1_off137_eq t).trans (singleton_eq (by omega)))
  · unfold Inv
    isplitl [H5]; · iexact H5
    isplitl [H6]; · iexact H6
    iexists _
    isplitl [H7]; · iexact H7
    ipureintro
    exact h2
  iintro %c4 HI
  unfold Inv
  icases HI with ⟨H5, H6, %g7_2, H7, %h3⟩
  rw [show Scf.trips k1_t4_loop.lb k1_t4_loop.ub k1_t4_loop.st = 32 from trips_t2,
    show 1024 + 16 * 32 = 1536 + 16 * 0 from rfl] at h3
  sl_exec
  sl_for (fun n _ => Inv (F := F) d i arg5 arg6 arg7 fillVal (segOf i (arg3.view.read (Elt F) f3)) (ptOf i (arg2.view.read (Elt F) f2)) fullShare fullShare
      (arg5.view.writes (Elt F) arg5.view.junk [⟨Rect.whole S2048, run_body.sl.dma0 i arg3 f3⟩])
      (arg6.view.writes (Elt F) arg6.view.junk [⟨Rect.whole S128x128, run_body.sl.dma0_4 i arg2 f2⟩, ⟨Rect.whole S128x128, run_body.sl.dma0_3 i arg2 f2⟩, ⟨Rect.whole S128x128, run_body.sl.dma0_2 i arg2 f2⟩, ⟨Rect.whole S128x128, run_body.sl.dma0_1 i arg2 f2⟩]) (1536 + 16 * n)) $$ [H5 H6 H7]
  · intro t c
    unfold run_body.sl.prog.body_5
    rw [t5_eq]
    exact run_group d i arg5 arg6 arg7 fillVal _ _ fullShare fullShare _ _ 1536 (by omega) hs
      (rowsOK_of i arg2 arg6 f2 _ 3 (by omega) (k1_off202 i) (k1_off202_inb i) (k1_off202_eq i) (read_written _ _ _ _)) _ _ t
      ((k1_off203_eq t).trans (singleton_eq (by omega)))
  · unfold Inv
    isplitl [H5]; · iexact H5
    isplitl [H6]; · iexact H6
    iexists _
    isplitl [H7]; · iexact H7
    ipureintro
    exact h3
  iintro %c5 HI
  unfold Inv
  icases HI with ⟨H5, H6, %g7_3, H7, %h4⟩
  rw [show Scf.trips k1_t5_loop.lb k1_t5_loop.ub k1_t5_loop.st = 32 from trips_t2,
    show 1536 + 16 * 32 = 2048 from rfl] at h4
  sl_exec
  sl_for (fun n _ => PackInv (F := F) d i arg7 arg8 g7_3 n) $$ [H7 H8]
  · intro t c
    exact run_pack d i arg2 harg2 arg3 harg3 arg4 harg4 arg5 harg5 arg6 harg6 arg7 harg7 arg8 harg8 r0 r1 r2 r3 r4 r5 g7_3 t c
  · unfold PackInv
    isplitl [H7]; · iexact H7
    iexists _
    isplitl [H8]; · iexact H8
    ipureintro
    intro x hx; omega
  iintro %c6 HI
  unfold PackInv
  icases HI with ⟨H7, %g8, H8, %h8⟩
  sl_exec
  sl_step
  isplitl [H2]; · iexact H2
  isplitl [H3]; · iexact H3
  isplitl [H4]
  · iexists _
    isplitl [H4]; · iexact H4
    ipureintro
    intro x
    rw [read_written]
    exact (h8 x (lt_of_lt_of_eq (x 0).isLt trips_t6.symm)).trans (congrArg (fun A => packed A (x 0) (x 1)) h4)
  isplitl [H5]; · iexists _; iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexact S5
  iexists _; isplitr
  swap; · iexact HO
  ipureintro; intro p hp
  simp only [Finset.mem_insert] at hp
  rcases hp with hp | hp | hp | hp | hp | hp | hp
  all_goals first | exact .inl hp | exact .inr (hp ▸ rfl)

end Cert.Proof.Segmax
-- ==== Proof.Task.lean ====
/-
  The SparseCore call as the launch theorem takes it: what the handshakes carry, the obligation of each task, and how the
  call's operands are dealt to the two SparseCores and their thirty-two tasks and gathered again.
-/
module

public import proofs.«01_k».proof.Proof.Body

@[expose] public section

set_option maxRecDepth 16384

noncomputable section

namespace Cert.Proof.Segmax

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

attribute [local irreducible] acc

theorem nCore_zero : (K (F := F)).nCore 0 = 2 := rfl
theorem nSub_zero : (K (F := F)).nSub 0 = 16 := rfl

/-- The features, the segment numbers and the packed result, as the TensorCore names them. -/
abbrev hLoc (d : Dev nD) : Loc nD τ sig := (SparseCore.T d).loc main_v21
abbrev sLoc (d : Dev nD) : Loc nD τ sig := (SparseCore.T d).loc main_v2
abbrev oLoc (d : Dev nD) : Loc nD τ sig := (SparseCore.T d).loc main_v22

local notation "hV" => (Memref.whole Cert.KernelIdeal.main_v21_scv : Memref Cert.KernelIdeal.sig Kind.scVector Space.hbm Cert.KernelIdeal.S32x512x128 EltTy.f32)
local notation "sV" => (Memref.whole Cert.KernelIdeal.main_v2_scv : Memref Cert.KernelIdeal.sig Kind.scVector Space.hbm Cert.KernelIdeal.S8192 EltTy.i32)
local notation "oV" => (Memref.whole Cert.KernelIdeal.main_v22_scv : Memref Cert.KernelIdeal.sig Kind.scVector Space.hbm Cert.KernelIdeal.S32x128x128 EltTy.f32)

/-! ## The blocks of the result -/

/-- The coordinates of a task in the grid. -/
def coordsV (c : Fin (grid1.bound 0)) (s : Fin (grid1.bound 1)) : grid1.Coords :=
  fun | 0 => c | 1 => s | ⟨_ + 2, h⟩ => absurd h (Nat.not_lt.2 (Nat.le_add_left _ _))

theorem bound_zero : grid1.bound 0 = 2 := rfl
theorem bound_one : grid1.bound 1 = 16 := rfl

/-- The task that writes block `w`: block `2 s + c` is tile `s`'s of SparseCore `c`. -/
def taskOf (w : Fin 32) : grid1.Coords :=
  coordsV ⟨w.val % 2, by rw [bound_zero]; omega⟩ ⟨w.val / 2, by rw [bound_one]; omega⟩

theorem taskOf_eq (i : grid1.Coords) (h : 2 * (i 1).val + (i 0).val < 32) : taskOf ⟨2 * (i 1).val + (i 0).val, h⟩ = i := by
  have h0 : (i 0).val < 2 := (i 0).isLt
  have h1 : (i 1).val < 16 := (i 1).isLt
  funext a
  fin_cases a
  · apply Fin.ext; show (2 * (i 1).val + (i 0).val) % 2 = (i 0).val; omega
  · apply Fin.ext; show (2 * (i 1).val + (i 0).val) / 2 = (i 1).val; omega

/-- The packed result as a function of the segment numbers and the features. -/
def packedOut (fs : Vec F S8192 .i32) (fh : Vec F S32x512x128 .f32) : Vec F S32x128x128 .f32 := fun x =>
  packed (F := F) (acc fillVal (segOf (taskOf (x 0)) fs) (ptOf (taskOf (x 0)) fh) 2048) (x 1) (x 2)

/-- The elements of block `w`. -/
def blkSet (w : ℕ) : Finset S32x128x128.Idx := Finset.univ.filter fun x => (x 0).val = w
/-- The elements of the blocks of SparseCore `c`. -/
def halfSet (c : ℕ) : Finset S32x128x128.Idx := Finset.univ.filter fun x => (x 0).val % 2 = c

theorem mem_blkSet {w : ℕ} {x : S32x128x128.Idx} : x ∈ blkSet w ↔ (x 0).val = w := by simp [blkSet]
theorem mem_halfSet {c : ℕ} {x : S32x128x128.Idx} : x ∈ halfSet c ↔ (x 0).val % 2 = c := by simp [halfSet]

theorem blk_disjoint (c : ℕ) : ∀ i ∈ (Finset.univ : Finset (Fin 16)), ∀ j ∈ (Finset.univ : Finset (Fin 16)), i ≠ j →
    Disjoint (blkSet (2 * i.val + c)) (blkSet (2 * j.val + c)) := fun i _ j _ h =>
  Finset.disjoint_left.mpr fun x hi hj => h (Fin.ext (by have := (mem_blkSet.mp hi).symm.trans (mem_blkSet.mp hj); omega))

theorem blk_cover (c : Fin 2) : (Finset.univ : Finset (Fin 16)).biUnion (fun i => blkSet (2 * i.val + c.val)) = halfSet c.val := by
  ext x
  have hx : (x 0).val < 32 := (x 0).isLt
  have hc := c.isLt
  simp only [Finset.mem_biUnion, Finset.mem_univ, true_and, mem_blkSet, mem_halfSet]
  constructor
  · rintro ⟨i, hi⟩; omega
  · intro h; exact ⟨⟨(x 0).val / 2, by omega⟩, by show (x 0).val = 2 * ((x 0).val / 2) + c.val; omega⟩

theorem half_disjoint : ∀ i ∈ (Finset.univ : Finset (Fin 2)), ∀ j ∈ (Finset.univ : Finset (Fin 2)), i ≠ j →
    Disjoint (halfSet i.val) (halfSet j.val) := fun i _ j _ h =>
  Finset.disjoint_left.mpr fun x hi hj => h (Fin.ext ((mem_halfSet.mp hi).symm.trans (mem_halfSet.mp hj)))

theorem half_cover : (Finset.univ : Finset (Fin 2)).biUnion (fun c => halfSet c.val) = Finset.univ := by
  ext x
  simp only [Finset.mem_biUnion, Finset.mem_univ, true_and, mem_halfSet, iff_true]
  exact ⟨⟨(x 0).val % 2, by omega⟩, rfl⟩

theorem set_outK (i : grid1.Coords) : (outK oV i).view.set = blkSet (2 * (i 1).val + (i 0).val) := by
  show (((oV).view.slice (Rect.unit (s := S32x128x128) (k1_off278 i) S1x128x128.size (k1_off278_inb i))).reshape S128x128
    squeezes_S1x128x128_S128x128.numel_eq).set = _
  rw [View.set_reshape, View.set_slice_whole]
  ext x
  rw [Rect.mem_set_unit, mem_blkSet, k1_off278_eq]
  have h1 : (x 1).val < 128 := (x 1).isLt
  have h2 : (x 2).val < 128 := (x 2).isLt
  constructor
  · intro h
    have := h 0
    simp at this
    omega
  · intro h a
    fin_cases a
    · show 2 * (i 1).val + (i 0).val ≤ (x 0).val ∧ (x 0).val < 2 * (i 1).val + (i 0).val + 1; omega
    · show 0 ≤ (x 1).val ∧ (x 1).val < 0 + 128; omega
    · show 0 ≤ (x 2).val ∧ (x 2).val < 0 + 128; omega

/-- What a task leaves in its block is the packed result there. -/
theorem out_agree (i : grid1.Coords) (fh : Vec F S32x512x128 .f32) (fs : Vec F S8192 .i32) (f : Vec F S32x128x128 .f32)
    (h : OutOK i hV sV oV fh fs f) : ∀ x ∈ blkSet (2 * (i 1).val + (i 0).val), f x = packedOut fs fh x := by
  intro x hx
  have hw := mem_blkSet.mp hx
  have e := h (ix2 (x 1) (x 2))
  have ex : (outK oV i).view.emb (ix2 (x 1) (x 2)) = x := by
    show (Rect.unit (s := S32x128x128) (k1_off278 i) S1x128x128.size (k1_off278_inb i)).emb
      (Shape.reshapeEquiv squeezes_S1x128x128_S128x128.numel_eq (ix2 (x 1) (x 2))) = x
    rw [show Shape.reshapeEquiv squeezes_S1x128x128_S128x128.numel_eq (ix2 (x 1) (x 2)) = ix3 (⟨0, Nat.one_pos⟩ : Fin 1) (x 1) (x 2) from
      ValueIdx.reshapeEquiv_ix2_1ab _ (x 1) (x 2)]
    funext a
    apply Fin.ext
    fin_cases a
    · show k1_off278 i 0 + 1 * 0 = (x 0).val; rw [k1_off278_eq, hw]; rfl
    · show k1_off278 i 1 + 1 * (x 1).val = (x 1).val; rw [k1_off278_eq]; show 0 + 1 * (x 1).val = _; omega
    · show k1_off278 i 2 + 1 * (x 2).val = (x 2).val; rw [k1_off278_eq]; show 0 + 1 * (x 2).val = _; omega
  have er : (outK oV i).view.read (Elt F) f (ix2 (x 1) (x 2)) = f x := by
    rw [View.read_apply, ex]; rfl
  have et : taskOf (x 0) = i := by
    have : x 0 = ⟨2 * (i 1).val + (i 0).val, wid_lt i⟩ := Fin.ext hw
    rw [this]; exact taskOf_eq i _
  rw [← er, e, packedOut, et]
  rfl

/-! ## Shares of an array all the tasks read -/

/-- The share of one in two readers. -/
abbrev half (q : PosShare TreeShare) (c : Fin 2) : PosShare TreeShare := if c.val = 0 then q.left else q.right

/-- An array held at a share is held by two readers at its halves. -/
theorem pts_half {ℓ : Loc nD τ sig} (f : Buf (Elt F) ℓ) (q : PosShare TreeShare) :
    (ℓ ↦{q} f : sProp 𝕄) = bigSep Finset.univ fun c : Fin 2 => ℓ ↦{half q c} f := by
  rw [bigSep_univ_two]
  exact BI.Entails.antisymm (pointsTo_share (PosShare.mem_left_op_right q)).1 (pointsTo_share (PosShare.mem_left_op_right q)).2

/-- The share of one in sixteen readers: a half of a half of a half of a half. -/
abbrev sixteenth (q : PosShare TreeShare) (i : Fin 16) : PosShare TreeShare :=
  half (half (half (half q ⟨i.val / 8, by omega⟩) ⟨i.val / 4 % 2, by omega⟩) ⟨i.val / 2 % 2, by omega⟩) ⟨i.val % 2, by omega⟩

/-- Sixteen readers by four bits. -/
def bits16 : ((Fin 2 × Fin 2) × Fin 2) × Fin 2 ≃ Fin 16 where
  toFun x := ⟨8 * x.1.1.1.val + 4 * x.1.1.2.val + 2 * x.1.2.val + x.2.val, by omega⟩
  invFun i := (((⟨i.val / 8, by omega⟩, ⟨i.val / 4 % 2, by omega⟩), ⟨i.val / 2 % 2, by omega⟩), ⟨i.val % 2, by omega⟩)
  left_inv x := by
    obtain ⟨⟨⟨a, b⟩, c⟩, e⟩ := x
    simp only [Prod.mk.injEq, Fin.ext_iff]
    refine ⟨⟨⟨?_, ?_⟩, ?_⟩, ?_⟩ <;> omega
  right_inv i := by apply Fin.ext; dsimp only; omega

theorem pts_sixteenth {ℓ : Loc nD τ sig} (f : Buf (Elt F) ℓ) (q : PosShare TreeShare) :
    (ℓ ↦{q} f : sProp 𝕄) = bigSep Finset.univ fun i : Fin 16 => ℓ ↦{sixteenth q i} f := by
  rw [bigSep_univ_equiv bits16, bigSep_univ_prod, bigSep_univ_prod, bigSep_univ_prod, pts_half f q]
  refine bigSep_congr fun a _ => ?_
  rw [pts_half f]
  refine bigSep_congr fun b _ => ?_
  rw [pts_half f]
  refine bigSep_congr fun c _ => ?_
  rw [pts_half f]
  refine bigSep_congr fun e _ => ?_
  have h := bits16.left_inv (((a, b), c), e)
  have h1 := congrArg (fun x => x.1.1.1) h
  have h2 := congrArg (fun x => x.1.1.2) h
  have h3 := congrArg (fun x => x.1.2) h
  have h4 := congrArg (fun x => x.2) h
  show _ = (ℓ ↦{half (half (half (half q (bits16.invFun (bits16 (((a, b), c), e))).1.1.1) (bits16.invFun (bits16 (((a, b), c), e))).1.1.2)
    (bits16.invFun (bits16 (((a, b), c), e))).1.2) (bits16.invFun (bits16 (((a, b), c), e))).2} f : sProp 𝕄)
  rw [show bits16.invFun (bits16 (((a, b), c), e)) = (((a, b), c), e) from h]

/-! ## What the handshakes carry -/

-- the features, the segment numbers, and what the result's array holds before the call
variable (Hc : (d : Dev nD) → Buf (Elt F) (hLoc d)) (Sg : (d : Dev nD) → Buf (Elt F) (sLoc d)) (Oi : (d : Dev nD) → Buf (Elt F) (oLoc d))

/-- What the call leaves in the result's array. -/
def Oc (d : Dev nD) : Buf (Elt F) (oLoc d) := packedOut (F := F) (Sg d) (Hc d)

/-- A task's part of the operands: a share of each array read, its block of the result at `f`. -/
abbrev taskPts (d : Dev nD) (c : Fin 2) (i : Fin 16) (f : Buf (Elt F) (oLoc d)) : sProp 𝕄 :=
  iprop((hLoc d ↦{sixteenth (half fullShare c) i} Hc d) ∗ (sLoc d ↦{sixteenth (half fullShare c) i} Sg d)
    ∗ oLoc d ↦[blkSet (2 * i.val + c.val)]{fullShare} f)
/-- A SparseCore's part. -/
abbrev corePts (d : Dev nD) (c : Fin 2) (f : Buf (Elt F) (oLoc d)) : sProp 𝕄 :=
  iprop((hLoc d ↦{half fullShare c} Hc d) ∗ (sLoc d ↦{half fullShare c} Sg d) ∗ oLoc d ↦[halfSet c.val]{fullShare} f)

/-- The handshakes carry the SparseCore's part to its sequencer and the task's part to the task, and both back with the
    result's elements as the call leaves them. -/
def P : (K (F := F)).Pay (nD := nD) (Val := Elt F) (Name := ℕ) (U := UU) where
  st := fun q d c => match q with | 0 => corePts Hc Sg d (Fin.cast nCore_zero c) (Oi d)
  dn := fun q d c => match q with | 0 => corePts Hc Sg d (Fin.cast nCore_zero c) (Oc Hc Sg d)
  go := fun q d c i => match q with | 0 => taskPts Hc Sg d (Fin.cast nCore_zero c) (Fin.cast nSub_zero i) (Oi d)
  td := fun q d c i => match q with | 0 => taskPts Hc Sg d (Fin.cast nCore_zero c) (Fin.cast nSub_zero i) (Oc Hc Sg d)
  x := fun _ _ => iprop(emp)

instance P_storable : (P (F := F) Hc Sg Oi).IsStorable where
  st q d c := match q with
    | 0 => (inferInstance : BI.Storable (upEmb : UEmb _ 𝕄) (corePts Hc Sg d (Fin.cast nCore_zero c) (Oi d)))
  dn q d c := match q with
    | 0 => (inferInstance : BI.Storable (upEmb : UEmb _ 𝕄) (corePts Hc Sg d (Fin.cast nCore_zero c) (Oc Hc Sg d)))
  go q d c i := match q with
    | 0 => (inferInstance : BI.Storable (upEmb : UEmb _ 𝕄) (taskPts Hc Sg d (Fin.cast nCore_zero c) (Fin.cast nSub_zero i) (Oi d)))
  td q d c i := match q with
    | 0 => (inferInstance : BI.Storable (upEmb : UEmb _ 𝕄) (taskPts Hc Sg d (Fin.cast nCore_zero c) (Fin.cast nSub_zero i) (Oc Hc Sg d)))

/-! ## Dealing and gathering -/

theorem core_tasks (d : Dev nD) (c : Fin 2) (f : Buf (Elt F) (oLoc d)) :
    corePts Hc Sg d c f = bigSep Finset.univ fun i : Fin 16 => taskPts Hc Sg d c i f := by
  unfold corePts taskPts
  rw [bigSep_sep', bigSep_sep', ← pts_sixteenth, ← pts_sixteenth,
    ← pointsTo_biUnion Finset.univ (ℓ := oLoc d) (fun i : Fin 16 => blkSet (2 * i.val + c.val)) (blk_disjoint c.val), blk_cover]

theorem all_cores (d : Dev nD) (f : Buf (Elt F) (oLoc d)) :
    (iprop((hLoc d ↦{fullShare} Hc d) ∗ (sLoc d ↦{fullShare} Sg d) ∗ oLoc d ↦{fullShare} f) : sProp 𝕄)
      = bigSep Finset.univ fun c : Fin 2 => corePts Hc Sg d c f := by
  unfold corePts
  rw [bigSep_sep', bigSep_sep', ← pts_half, ← pts_half,
    ← pointsTo_biUnion Finset.univ (ℓ := oLoc d) (fun c : Fin 2 => halfSet c.val) half_disjoint, half_cover]
  try rfl

theorem st_eq (d : Dev nD) : (bigSep Finset.univ fun c : Fin ((K (F := F)).nCore 0) => (P Hc Sg Oi).st 0 d c)
    = iprop((hLoc d ↦{fullShare} Hc d) ∗ (sLoc d ↦{fullShare} Sg d) ∗ oLoc d ↦{fullShare} Oi d) :=
  (all_cores Hc Sg d (Oi d)).symm
theorem dn_eq (d : Dev nD) : (bigSep Finset.univ fun c : Fin ((K (F := F)).nCore 0) => (P Hc Sg Oi).dn 0 d c)
    = iprop((hLoc d ↦{fullShare} Hc d) ∗ (sLoc d ↦{fullShare} Sg d) ∗ oLoc d ↦{fullShare} Oc Hc Sg d) :=
  (all_cores Hc Sg d (Oc Hc Sg d)).symm

theorem vecSplit : (K (F := F)).VecSplit' (P Hc Sg Oi) 0 := by
  intro d c
  show corePts Hc Sg d (Fin.cast nCore_zero c) (Oi d) ⊢ |={Set.univ}=> iprop(
      (bigSep Finset.univ fun i : Fin 16 => taskPts Hc Sg d (Fin.cast nCore_zero c) i (Oi d))
      ∗ ((bigSep Finset.univ fun i : Fin 16 => taskPts Hc Sg d (Fin.cast nCore_zero c) i (Oc Hc Sg d))
          -∗ corePts Hc Sg d (Fin.cast nCore_zero c) (Oc Hc Sg d)))
  rw [core_tasks, core_tasks]
  iintro H; imodintro
  isplitl [H]; · iexact H
  iintro H; iexact H

/-! ## The task -/

section Tile

variable (d : Dev nD) (i : grid1.Coords)

theorem cells_ne : ∀ a b : Fin 6, a ≠ b →
    (SemLoc.dma ((![cc1_scoped0, cc1_scoped1, cc1_scoped2, cc1_scoped3, cc1_scoped4, cc1_scoped5] : Fin 6 → DmaSems sig S_) a).sem : SemLoc sig)
      ≠ SemLoc.dma ((![cc1_scoped0, cc1_scoped1, cc1_scoped2, cc1_scoped3, cc1_scoped4, cc1_scoped5] : Fin 6 → DmaSems sig S_) b).sem := by decide

theorem cell_ne {r r' : DmaSems sig S_} (h : (SemLoc.dma r.sem : SemLoc sig) ≠ SemLoc.dma r'.sem) : cell d i r ≠ cell d i r' :=
  fun e => h (congrArg Prod.snd e)

/-- The six cells of the task are the first of the subcore's own. -/
theorem sems_six : ∃ R : sProp 𝕄, (ownSems0 (V d (cV i) (jV i)) : sProp 𝕄)
      = iprop(semVal (cell d i cc1_scoped0) 0 ∗ semVal (cell d i cc1_scoped1) 0 ∗ semVal (cell d i cc1_scoped2) 0
        ∗ semVal (cell d i cc1_scoped3) 0 ∗ semVal (cell d i cc1_scoped4) 0 ∗ semVal (cell d i cc1_scoped5) 0 ∗ R) := by
  have m : ∀ r : DmaSems sig S_, (SemLoc.dma r.sem : SemLoc sig).isScoped .scVector = true → cell d i r ∈ ownCells (V d (cV i) (jV i)) :=
    fun r hr => mem_ownCells.mpr ⟨rfl, hr⟩
  apply Exists.intro
  unfold SparseCore.Cfg.ownSems0
  rw [SparseCore.bigSep_erase' (m cc1_scoped0 (by decide)),
    SparseCore.bigSep_erase' (i := cell d i cc1_scoped1) (by
      simp only [Finset.mem_erase]; exact ⟨cell_ne d i (cells_ne 1 0 (by decide)), m _ (by decide)⟩),
    SparseCore.bigSep_erase' (i := cell d i cc1_scoped2) (by
      simp only [Finset.mem_erase]; exact ⟨cell_ne d i (cells_ne 2 1 (by decide)), cell_ne d i (cells_ne 2 0 (by decide)), m _ (by decide)⟩),
    SparseCore.bigSep_erase' (i := cell d i cc1_scoped3) (by
      simp only [Finset.mem_erase]
      exact ⟨cell_ne d i (cells_ne 3 2 (by decide)), cell_ne d i (cells_ne 3 1 (by decide)), cell_ne d i (cells_ne 3 0 (by decide)), m _ (by decide)⟩),
    SparseCore.bigSep_erase' (i := cell d i cc1_scoped4) (by
      simp only [Finset.mem_erase]
      exact ⟨cell_ne d i (cells_ne 4 3 (by decide)), cell_ne d i (cells_ne 4 2 (by decide)), cell_ne d i (cells_ne 4 1 (by decide)),
        cell_ne d i (cells_ne 4 0 (by decide)), m _ (by decide)⟩),
    SparseCore.bigSep_erase' (i := cell d i cc1_scoped5) (by
      simp only [Finset.mem_erase]
      exact ⟨cell_ne d i (cells_ne 5 4 (by decide)), cell_ne d i (cells_ne 5 3 (by decide)), cell_ne d i (cells_ne 5 2 (by decide)),
        cell_ne d i (cells_ne 5 1 (by decide)), cell_ne d i (cells_ne 5 0 (by decide)), m _ (by decide)⟩)]

abbrev bufAt (b : Ref sig .scVector) : sProp 𝕄 := iprop(∃ f, (V d (cV i) (jV i)).loc b ↦{fullShare} f)

/-- The four scratch buffers are the first of the subcore's own. -/
theorem bufs_four : ∃ R : sProp 𝕄, (ownBufs (V d (cV i) (jV i)) : sProp 𝕄)
      = iprop(bufAt (F := F) d i cc1_scratch0 ∗ bufAt (F := F) d i cc1_scratch1 ∗ bufAt (F := F) d i cc1_scratch2 ∗ bufAt (F := F) d i cc1_scratch3 ∗ R) := by
  have n : ∀ {a b : Ref sig .scVector}, a ≠ b → (Proc.scVector (cV i) (jV i)).devRef a ≠ (Proc.scVector (cV i) (jV i)).devRef b :=
    fun h e => h (Proc.devRef_injective _ e)
  apply Exists.intro
  unfold SparseCore.Cfg.ownBufs
  rw [SparseCore.bigSep_erase' (SparseCore.Cfg.mem_ownRefs_of_owner (p := Proc.scVector (cV i) (jV i)) (b := (Proc.scVector (cV i) (jV i)).devRef cc1_scratch0) rfl),
    SparseCore.bigSep_erase' (i := (Proc.scVector (cV i) (jV i)).devRef cc1_scratch1) (by
      simp only [Finset.mem_erase]
      exact ⟨n (by decide), SparseCore.Cfg.mem_ownRefs_of_owner rfl⟩),
    SparseCore.bigSep_erase' (i := (Proc.scVector (cV i) (jV i)).devRef cc1_scratch2) (by
      simp only [Finset.mem_erase]
      exact ⟨n (by decide), n (by decide), SparseCore.Cfg.mem_ownRefs_of_owner rfl⟩),
    SparseCore.bigSep_erase' (i := (Proc.scVector (cV i) (jV i)).devRef cc1_scratch3) (by
      simp only [Finset.mem_erase]
      exact ⟨n (by decide), n (by decide), n (by decide), SparseCore.Cfg.mem_ownRefs_of_owner rfl⟩)]

theorem raw_whole (thr : Thread nD τ) (b : Ref sig thr.2.kind) (q : PosShare TreeShare) (f : Buf (Elt F) (thr.loc b)) :
    (raw (F := F) thr (Memref.whole b) q f : sProp 𝕄) = thr.loc b ↦{q} f := by
  show ((Memref.whole b).view.loc thr ↦[(Memref.whole b).view.set]{q} f : sProp 𝕄) = _
  rw [show (Memref.whole b).view.set = Finset.univ from View.set_whole _]

/-- The run of one task on the program's arrays and scratch. -/
theorem tile_body (c : Fin 2) (s : Fin 16) (hc : (i 0).val = c.val) (hs : (i 1).val = s.val)
    (hseg : ∀ (d : Dev nD) (j : S8192.Idx), (Sg d j : BitVec 32).toNat < 407)
    (O : CellTallies nD τ sig (HIx 1)) (W : Waits sig (HIx 1)) (hO : ∀ g, O g none = 0) :
    iprop(levAts (K (F := F)).L (K (F := F)).lev ∗ emp ∗ taskPts Hc Sg d c s (Oi d)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc1__sc_segmax_body (F := F) i hV (Memref.isWhole_whole _) sV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scoped0 cc1_scoped1 cc1_scoped2 cc1_scoped3 cc1_scoped4 cc1_scoped5)
          fun _ => iprop(taskPts Hc Sg d c s (Oc Hc Sg d)
            ∗ scopedBufs (V d (cV i) (jV i)) ∗ scopedSems0 (V d (cV i) (jV i))
            ∗ ∃ W', ⌜∀ p ∈ W', p ∈ W ∨ p.2 = none ∨ p.2 = some (0 : Fin 1)⌝ ∗ owes (V d (cV i) (jV i)) O W') := by
  obtain ⟨RS, hRS⟩ := sems_six (F := F) d i
  obtain ⟨RB, hRB⟩ := bufs_four (F := F) d i
  have ho : ∀ f : Buf (Elt F) (oLoc d), (raw (F := F) (V d (cV i) (jV i)) (outK oV i) fullShare f : sProp 𝕄)
      = oLoc d ↦[blkSet (2 * s.val + c.val)]{fullShare} f := fun f => by
    show ((outK oV i).view.loc (V d (cV i) (jV i)) ↦[(outK oV i).view.set]{fullShare} f : sProp 𝕄) = _
    rw [set_outK, hc, hs]
  rw [(K (F := F)).scopedBufs_V kfacts d (cV i) (jV i), SparseCore.Cfg.scopedSems0_V (Val := Elt F) d (cV i) (jV i), hRS, hRB]
  iintro ⟨Hlv, -, ⟨Hh, Hs, Ho⟩, ⟨⟨%f0, B0⟩, ⟨%f1, B1⟩, ⟨%f2, B2⟩, ⟨%f3, B3⟩, HB⟩, ⟨S0, S1, S2, S3, S4, S5, HS⟩, HO⟩
  ihave H0 := (Entails.of_eq (raw_whole (F := F) (V d (cV i) (jV i)) main_v21_scv _ _).symm) $$ Hh
  ihave H1 := (Entails.of_eq (raw_whole (F := F) (V d (cV i) (jV i)) main_v2_scv _ _).symm) $$ Hs
  ihave H2 := (Entails.of_eq (ho _).symm) $$ Ho
  ihave H3 := (Entails.of_eq (raw_whole (F := F) (V d (cV i) (jV i)) cc1_scratch0 _ _).symm) $$ B0
  ihave H4 := (Entails.of_eq (raw_whole (F := F) (V d (cV i) (jV i)) cc1_scratch1 _ _).symm) $$ B1
  ihave H5 := (Entails.of_eq (raw_whole (F := F) (V d (cV i) (jV i)) cc1_scratch2 _ _).symm) $$ B2
  ihave H6 := (Entails.of_eq (raw_whole (F := F) (V d (cV i) (jV i)) cc1_scratch3 _ _).symm) $$ B3
  ihave Hwp := (run_body (F := F) d i hV (Memref.isWhole_whole _) sV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scoped0 cc1_scoped1 cc1_scoped2 cc1_scoped3 cc1_scoped4 cc1_scoped5
            (sixteenth (half fullShare c) s) (sixteenth (half fullShare c) s) (Hc d) (Sg d) (Oi d) (hseg d) O W hO)
    $$ [Hlv H0 H1 H2 H3 H4 H5 H6 S0 S1 S2 S3 S4 S5 HO]
  · isplitl [Hlv]; · iexact Hlv
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [S0]; · iexact S0
    isplitl [S1]; · iexact S1
    isplitl [S2]; · iexact S2
    isplitl [S3]; · iexact S3
    isplitl [S4]; · iexact S4
    isplitl [S5]; · iexact S5
    iexact HO
  iapply (wp_wand _ _ _) $$ Hwp
  iintro %a ⟨H0, H1, ⟨%f, H2, %hf⟩, ⟨%g3, H3⟩, ⟨%g4, H4⟩, ⟨%g5, H5⟩, ⟨%g6, H6⟩, S0, S1, S2, S3, S4, S5, %W', %hW', HO⟩
  have hag := out_agree i (Hc d) (Sg d) f hf
  rw [hc, hs] at hag
  isplitl [H0 H1 H2]
  · isplitl [H0]; · iapply (Entails.of_eq (raw_whole (F := F) (V d (cV i) (jV i)) main_v21_scv _ _)); iexact H0
    isplitl [H1]; · iapply (Entails.of_eq (raw_whole (F := F) (V d (cV i) (jV i)) main_v2_scv _ _)); iexact H1
    iapply (Entails.of_eq ((ho f).trans (pointsTo_congr (ℓ := oLoc d) hag))); iexact H2
  isplitl [H3 H4 H5 H6 HB]
  · isplitl [H3]; · iexists _; iapply (Entails.of_eq (raw_whole (F := F) (V d (cV i) (jV i)) cc1_scratch0 _ _)); iexact H3
    isplitl [H4]; · iexists _; iapply (Entails.of_eq (raw_whole (F := F) (V d (cV i) (jV i)) cc1_scratch1 _ _)); iexact H4
    isplitl [H5]; · iexists _; iapply (Entails.of_eq (raw_whole (F := F) (V d (cV i) (jV i)) cc1_scratch2 _ _)); iexact H5
    isplitl [H6]; · iexists _; iapply (Entails.of_eq (raw_whole (F := F) (V d (cV i) (jV i)) cc1_scratch3 _ _)); iexact H6
    iexact HB
  isplitl [S0 S1 S2 S3 S4 S5 HS]
  · isplitl [S0]; · iexact S0
    isplitl [S1]; · iexact S1
    isplitl [S2]; · iexact S2
    isplitl [S3]; · iexact S3
    isplitl [S4]; · iexact S4
    isplitl [S5]; · iexact S5
    iexact HS
  iexists W'; isplitr
  · ipureintro; exact fun p hp => (hW' p hp).imp_right Or.inl
  · iexact HO

/-! ## The obligation -/

theorem defs₀_vector (c : Fin τ.nSC) (s : Fin τ.nSub) :
    defs₀ (F := F) (.scVector c s) 1 ()
      = SparseCore.onTile hcore1 hsub1 (fun c s => cc1__sc_segmax_body (F := F) (coordsV c s)
          hV (Memref.isWhole_whole _) sV (Memref.isWhole_whole _) oV (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scoped0 cc1_scoped1 cc1_scoped2 cc1_scoped3 cc1_scoped4 cc1_scoped5) ⟨⟩ c s := rfl

/-- Each task of the call runs from its part of the operands to its part with its block of the result written. -/
theorem tileObl (hseg : ∀ (d : Dev nD) (j : S8192.Idx), (Sg d j : BitVec 32).toNat < 407) :
    (K (F := F)).TileObl (D (F := F)) 𝒱 (P Hc Sg Oi) (Sum.inl none) 0 := by
  intro d c i O W hO _ _
  simp only [show (P Hc Sg Oi).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body Hc Sg Oi d (coordsV ⟨_, hci.1⟩ ⟨_, hci.2⟩) (Fin.cast nCore_zero c) (Fin.cast nSub_zero i) rfl rfl hseg O W hO

end Tile

end Cert.Proof.Segmax

end
-- ==== Proof.Host.lean ====
/-
  The host operations of @main around its three calls, and what every buffer of the device holds between them.
-/
module

public import proofs.«01_k».proof.Proof.Region
public import proofs.«01_k».proof.Proof.Task

@[expose] public section

set_option maxRecDepth 16384

noncomputable section

namespace Cert.Proof.Host

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The host operations before the first call. -/
abbrev ops0 : List (HloOp τ sig (Elt F)) :=
  [ StableHlo.unary main_arg0 main_v0 ((extractStridedSlice S4x2048x12 ![0, 0, 0] · slices_S4x2048x13_S4x2048x12_0_0_0) : (⟨S4x2048x13, .f32⟩ : BufTy).Contents (Elt F) → (⟨S4x2048x12, .f32⟩ : BufTy).Contents (Elt F)),
    StableHlo.reshape main_v0 main_v1 (rfl : (.f32 : EltTy) = .f32) shapeCasts_S4x2048x12_S8192x12,
    StableHlo.reshape main_arg1 main_v2 (rfl : (.i32 : EltTy) = .i32) shapeCasts_S4x2048_S8192,
    StableHlo.unary main_arg3 main_v3 ((extractStridedSlice S4x407x407 ![0, 0, 0] · slices_S4x407x814_S4x407x407_0_0_0) : (⟨S4x407x814, .f32⟩ : BufTy).Contents (Elt F) → (⟨S4x407x407, .f32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_v3 : StableHlo.TRef sig ⟨S4x407x407, .f32⟩) main_call0.v0 main_call0.v1 (fun x v => pad S4x512x512 ![0, 0, 0] ![0, 105, 105] ![0, 0, 0] x v pads_S4x407x407_S4x512x512_000_01050_01050 h_S_),
    StableHlo.unary main_arg3 main_v5 ((extractStridedSlice S4x407x407 ![0, 0, 407] · slices_S4x407x814_S4x407x407_0_0_407) : (⟨S4x407x814, .f32⟩ : BufTy).Contents (Elt F) → (⟨S4x407x407, .f32⟩ : BufTy).Contents (Elt F)),
    StableHlo.nullary main_c_0 (constantI S_ 32 0#32),
    StableHlo.TRef.unary (.of main_c_0 : StableHlo.TRef sig ⟨S_, .i32⟩) main_call1.v0 (sitofp .f32),
    StableHlo.TRef.binary (.of main_v5 : StableHlo.TRef sig ⟨S4x407x407, .f32⟩) main_call1.v0 main_call1.v1 (fun x v => pad S4x512x512 ![0, 0, 0] ![0, 105, 105] ![0, 0, 0] x v pads_S4x407x407_S4x512x512_000_01050_01050 h_S_),
    StableHlo.binary main_arg7 main_arg8 main_v7 ((fun a b => concatenate S512x1024 1 [⟨S512x512, a⟩, ⟨S512x512, b⟩] concatenates_S512x512_S512x512_S512x1024_d1) : (⟨S512x512, .f32⟩ : BufTy).Contents (Elt F) → (⟨S512x512, .f32⟩ : BufTy).Contents (Elt F) → (⟨S512x1024, .f32⟩ : BufTy).Contents (Elt F)),
    StableHlo.unary main_v7 main_v8 ((truncf .bf16 · bitsLt_bf16_f32) : (⟨S512x1024, .f32⟩ : BufTy).Contents (Elt F) → (⟨S512x1024, .bf16⟩ : BufTy).Contents (Elt F)),
    StableHlo.binary main_arg9 main_arg10 main_v9 ((fun a b => concatenate S1536x1024 1 [⟨S1536x512, a⟩, ⟨S1536x512, b⟩] concatenates_S1536x512_S1536x512_S1536x1024_d1) : (⟨S1536x512, .f32⟩ : BufTy).Contents (Elt F) → (⟨S1536x512, .f32⟩ : BufTy).Contents (Elt F) → (⟨S1536x1024, .f32⟩ : BufTy).Contents (Elt F)),
    StableHlo.unary main_v9 main_v10 ((truncf .bf16 · bitsLt_bf16_f32) : (⟨S1536x1024, .f32⟩ : BufTy).Contents (Elt F) → (⟨S1536x1024, .bf16⟩ : BufTy).Contents (Elt F)),
    StableHlo.unary main_arg11 main_v11 ((truncf .bf16 · bitsLt_bf16_f32) : (⟨S1536x512, .f32⟩ : BufTy).Contents (Elt F) → (⟨S1536x512, .bf16⟩ : BufTy).Contents (Elt F)),
    StableHlo.unary main_arg12 main_v12 ((extractStridedSlice S512x512 ![0, 0] · slices_S774x512_S512x512_0_0) : (⟨S774x512, .f32⟩ : BufTy).Contents (Elt F) → (⟨S512x512, .f32⟩ : BufTy).Contents (Elt F)),
    StableHlo.unary main_v12 main_v13 ((truncf .bf16 · bitsLt_bf16_f32) : (⟨S512x512, .f32⟩ : BufTy).Contents (Elt F) → (⟨S512x512, .bf16⟩ : BufTy).Contents (Elt F)),
    StableHlo.unary main_arg12 main_v14 ((extractStridedSlice S262x512 ![512, 0] · slices_S774x512_S262x512_512_0) : (⟨S774x512, .f32⟩ : BufTy).Contents (Elt F) → (⟨S262x512, .f32⟩ : BufTy).Contents (Elt F)),
    StableHlo.nullary main_c_1 (constantI S_ 32 0#32),
    StableHlo.TRef.unary (.of main_c_1 : StableHlo.TRef sig ⟨S_, .i32⟩) main_call2.v0 (sitofp .f32),
    StableHlo.TRef.binary (.of main_v14 : StableHlo.TRef sig ⟨S262x512, .f32⟩) main_call2.v0 main_call2.v1 (fun x v => pad S512x512 ![0, 0] ![250, 0] ![0, 0] x v pads_S262x512_S512x512_02500_000 h_S_),
    StableHlo.unary main_v15 main_v16 ((truncf .bf16 · bitsLt_bf16_f32) : (⟨S512x512, .f32⟩ : BufTy).Contents (Elt F) → (⟨S512x512, .bf16⟩ : BufTy).Contents (Elt F)),
    StableHlo.unary main_arg13 main_v17 ((truncf .bf16 · bitsLt_bf16_f32) : (⟨S512x1024, .f32⟩ : BufTy).Contents (Elt F) → (⟨S512x1024, .bf16⟩ : BufTy).Contents (Elt F))]

/-- Those between the first call and the SparseCore call. -/
abbrev ops1 : List (HloOp τ sig (Elt F)) :=
  [ StableHlo.reshape main_v18 main_v19 (rfl : (.f32 : EltTy) = .f32) shapeCasts_S8192x256_S4x2048x8x32,
    StableHlo.unary main_v19 main_v20 ((transpose S4x8x2048x32 [0, 2, 1, 3] · transposes_S4x2048x8x32_S4x8x2048x32_0_2_1_3) : (⟨S4x2048x8x32, .f32⟩ : BufTy).Contents (Elt F) → (⟨S4x8x2048x32, .f32⟩ : BufTy).Contents (Elt F)),
    StableHlo.reshape main_v20 main_v21 (rfl : (.f32 : EltTy) = .f32) shapeCasts_S4x8x2048x32_S32x512x128]

/-- Those between the SparseCore call and the last call. -/
abbrev ops2 : List (HloOp τ sig (Elt F)) :=
  [ StableHlo.reshape main_v22 main_v23 (rfl : (.f32 : EltTy) = .f32) shapeCasts_S32x128x128_S4x8x512x32,
    StableHlo.unary main_v23 main_v24 ((transpose S4x512x8x32 [0, 2, 1, 3] · transposes_S4x8x512x32_S4x512x8x32_0_2_1_3) : (⟨S4x8x512x32, .f32⟩ : BufTy).Contents (Elt F) → (⟨S4x512x8x32, .f32⟩ : BufTy).Contents (Elt F)),
    StableHlo.reshape main_v24 main_v25 (rfl : (.f32 : EltTy) = .f32) shapeCasts_S4x512x8x32_S2048x256,
    StableHlo.unary main_v4 main_v26 ((truncf .bf16 · bitsLt_bf16_f32) : (⟨S4x512x512, .f32⟩ : BufTy).Contents (Elt F) → (⟨S4x512x512, .bf16⟩ : BufTy).Contents (Elt F)),
    StableHlo.unary main_v6 main_v27 ((truncf .bf16 · bitsLt_bf16_f32) : (⟨S4x512x512, .f32⟩ : BufTy).Contents (Elt F) → (⟨S4x512x512, .bf16⟩ : BufTy).Contents (Elt F))]

/-- @main as its three stretches of host operations and its three calls. -/
theorem main_eq (d : Dev nD) : main (F := F) d = (do
    StableHlo.seq ops0
    Prog.lift (.customCall (SparseCore.inner (Pipeline.entry 0)) ())
    StableHlo.seq ops1
    sc.run d 0
    StableHlo.seq ops2
    Prog.lift (.customCall (SparseCore.inner (Pipeline.entry 1)) ())
    pure ⟨⟩) := by
  simp only [main, fn_pad.body, fn_pad_0.body, ops0, ops1, ops2, StableHlo.seq, bind_assoc, pure_bind]

theorem sub0 : ∀ op ∈ (ops0 : List (HloOp τ sig (Elt F))), op.bufs ⊆ Pipeline.ucRefs τ sig :=
  fun op h => Pipeline.sub_ucRefs op (List.forall_iff_forall_mem.mp (show (ops0 : List (HloOp τ sig (Elt F))).Forall fun op => op.bufs ⊆ StableHlo.tcRefs τ sig from
    ⟨StableHlo.unary_bufs_sub .., StableHlo.reshape_bufs_sub .., StableHlo.reshape_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub ..⟩) op h)
theorem fresh0 : ∀ op ∈ (ops0 : List (HloOp τ sig (Elt F))), op.fresh = ∅ :=
  List.forall_iff_forall_mem.mp (show (ops0 : List (HloOp τ sig (Elt F))).Forall fun op => op.fresh = ∅ from ⟨rfl, rfl, rfl, rfl, rfl, rfl, rfl, rfl, rfl, rfl, rfl, rfl, rfl, rfl, rfl, rfl, rfl, rfl, rfl, rfl, rfl, rfl, rfl, rfl⟩)
theorem sub1 : ∀ op ∈ (ops1 : List (HloOp τ sig (Elt F))), op.bufs ⊆ Pipeline.ucRefs τ sig :=
  fun op h => Pipeline.sub_ucRefs op (List.forall_iff_forall_mem.mp (show (ops1 : List (HloOp τ sig (Elt F))).Forall fun op => op.bufs ⊆ StableHlo.tcRefs τ sig from
    ⟨StableHlo.reshape_bufs_sub .., StableHlo.unary_bufs_sub .., StableHlo.reshape_bufs_sub ..⟩) op h)
theorem fresh1 : ∀ op ∈ (ops1 : List (HloOp τ sig (Elt F))), op.fresh = ∅ :=
  List.forall_iff_forall_mem.mp (show (ops1 : List (HloOp τ sig (Elt F))).Forall fun op => op.fresh = ∅ from ⟨rfl, rfl, rfl⟩)
theorem sub2 : ∀ op ∈ (ops2 : List (HloOp τ sig (Elt F))), op.bufs ⊆ Pipeline.ucRefs τ sig :=
  fun op h => Pipeline.sub_ucRefs op (List.forall_iff_forall_mem.mp (show (ops2 : List (HloOp τ sig (Elt F))).Forall fun op => op.bufs ⊆ StableHlo.tcRefs τ sig from
    ⟨StableHlo.reshape_bufs_sub .., StableHlo.unary_bufs_sub .., StableHlo.reshape_bufs_sub .., StableHlo.unary_bufs_sub .., StableHlo.unary_bufs_sub ..⟩) op h)
theorem fresh2 : ∀ op ∈ (ops2 : List (HloOp τ sig (Elt F))), op.fresh = ∅ :=
  List.forall_iff_forall_mem.mp (show (ops2 : List (HloOp τ sig (Elt F))).Forall fun op => op.fresh = ∅ from ⟨rfl, rfl, rfl, rfl, rfl⟩)

end Cert.Proof.Host

end
-- ==== Proof.Launch.lean ====
/-
  @main on the TensorCore from the launch to the end: three stretches of host operations and three calls over every buffer of the device
  held at a valuation; the launch theorem at it; what the program leaves in every buffer.
-/
module

public import proofs.«01_k».proof.Proof.Host
public import Idealize.ShloMosaic.Lib.Pipeline.Launch

@[expose] public section

set_option maxRecDepth 16384

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)
open Cert.Proof.Host
open Idealize.ShloMosaic.Tactic

variable {F : FTy → Type} [FloatOps F] [Named F]

local notation "𝕄" => MT nD τ sig (HIx 1) (Elt F) ℕ UU ℕ

/-! ## The buffers' contents through @main -/

variable (m : (ℓ : Loc nD τ sig) → Buf (Elt F) ℓ) (ρ : Dev nD → PrngReg)

abbrev hRef : DevRef τ sig := Proc.devRef .tc main_v21
abbrev sRef : DevRef τ sig := Proc.devRef .tc main_v2
abbrev oRef : DevRef τ sig := Proc.devRef .tc main_v22

/-- At the launch; -/
def V0 (d : Dev nD) : Valuation τ sig (Elt F) := fun b => m (d, b)
/-- at the point-feature call; -/
def V1 (d : Dev nD) : Valuation τ sig (Elt F) := after ops0 (V0 m d)
/-- after it; -/
def V2 (d : Dev nD) : Valuation τ sig (Elt F) := Region.left (V1 m) 0 0 d
/-- at the SparseCore call; -/
def V3 (d : Dev nD) : Valuation τ sig (Elt F) := after ops1 (V2 m d)
/-- after it; -/
def V4 (d : Dev nD) : Valuation τ sig (Elt F) :=
  Function.update (V3 m d) oRef (Segmax.packedOut (F := F) (V3 m d sRef) (V3 m d hRef))
/-- at the graph call; -/
def V5 (d : Dev nD) : Valuation τ sig (Elt F) := after ops2 (V4 m d)
/-- at the end. -/
def V6 (d : Dev nD) : Valuation τ sig (Elt F) := Region.left (V5 m) 1 1 d

/-- What the SparseCore call is paid with. -/
abbrev P : (K (F := F)).Pay (nD := nD) (Val := Elt F) (Name := ℕ) (U := UU) :=
  Segmax.P (F := F) (fun d => V3 m d hRef) (fun d => V3 m d sRef) (fun d => V3 m d oRef)

/-! ## One TensorCore call -/

theorem phinj : Function.Injective (Pipeline.cellOf (nD := nD) (τ := τ) (Pipeline.pin (pcfgs (F := F)) Region.adm)) :=
  (Region.kit (F := F) 0).cellOf_inj Region.adm

/-- The ghost state of pipeline `p` on device `d`. -/
abbrev ghost (p : Fin 2) (d : Dev nD) : sProp 𝕄 :=
  iprop(Pipeline.cellsGhost (Pipeline.pin (pcfgs (F := F)) Region.adm) EP p d ∗ Pipeline.toksInit (Pipeline.pin (pcfgs (F := F)) Region.adm) EP p d)

theorem region_pre (V : Dev nD → Valuation τ sig (Elt F)) (n : ℕ) (p : Fin 2) (d : Dev nD) :
    iprop(held (d.tc : Thread nD τ) (Pipeline.ucRefs τ sig) (V d) ∗ Region.debts (F := F) n d) ⊢ (Region.region V n p).pre d := .rfl
theorem region_post (V : Dev nD → Valuation τ sig (Elt F)) (n : ℕ) (p : Fin 2) (d : Dev nD) :
    (Region.region V n p).post d
      ⊢ iprop(held (d.tc : Thread nD τ) (Pipeline.ucRefs τ sig) (Region.left V n p d) ∗ Region.debts (F := F) n d) := .rfl

/-- A TensorCore call between SparseCore calls: from the boundary and every buffer at `V d`, to `Region.left`. -/
theorem region_step [∀ e, Nonempty (Elt F e)] (V : Dev nD → Valuation τ sig (Elt F)) (n : ℕ) (p : Fin 2) (d : Dev nD) :
    iprop((K (F := F)).tcSt EH d n ∗ levAts (K (F := F)).L (K (F := F)).lev ∗ ghost p d ∗ boundary (d.tc : Thread nD τ)
        ∗ held (d.tc : Thread nD τ) (Pipeline.ucRefs τ sig) (V d))
      ⊢ wp frame (wpE ((K (F := F)).defs (D (F := F))) 𝒱 (d.tc : Thread nD τ) none) Set.univ
          (Prog.lift (.customCall (SparseCore.inner (Pipeline.entry p)) ()))
          fun _ => iprop((K (F := F)).tcSt EH d n ∗ boundary (d.tc : Thread nD τ)
            ∗ held (d.tc : Thread nD τ) (Pipeline.ucRefs τ sig) (Region.left V n p d)) := by
  refine BIBase.Entails.trans ?_ ((K (F := F)).wp_liftProg (D (F := F)) 𝒱 (d.tc : Thread nD τ) Set.univ none (Prog.lift (.customCall (Pipeline.entry p) ())) _)
  refine BIBase.Entails.trans ?_ (Pipeline.RegionSeg.wp (pcfgs (F := F)) Region.adm (Region.pdats V n) none phinj EP defs₀ 𝒱₀ (K (F := F)).L (K (F := F)).lev
    (Region.region V n p) d none (fun _ h => nomatch h) _ _)
  unfold SparseCore.Cfg.tcSt
  iintro ⟨⟨HO, Hat⟩, Hlev, ⟨Hc, Ht⟩, Hb, Hh⟩
  isplitl [Hat]
  · iintro ⟨Hb, Hpost⟩
    rw [wp_ret]; imodintro
    ihave Hpost' := (region_post V n p d) $$ Hpost
    icases Hpost' with ⟨Hh, HO⟩
    isplitl [HO Hat]
    · isplitl [HO]; · iexact HO
      iexact Hat
    isplitl [Hb]; · iexact Hb
    iexact Hh
  isplitl [Hb]; · iexact Hb
  isplitl [HO Hh]
  · iapply (region_pre V n p d)
    isplitl [Hh]; · iexact Hh
    iexact HO
  isplitl [Hlev]; · iexact Hlev
  isplitl [Hc]; · iexact Hc
  iexact Ht

/-! ## The SparseCore call -/

/-- The three arrays of the SparseCore call out of all the buffers. -/
theorem held_three (d : Dev nD) (V : Valuation τ sig (Elt F)) :
    (held (d.tc : Thread nD τ) (Pipeline.ucRefs τ sig) V : sProp 𝕄)
      = iprop(((Segmax.hLoc d ↦{fullShare} V hRef) ∗ (Segmax.sLoc d ↦{fullShare} V sRef) ∗ Segmax.oLoc d ↦{fullShare} V oRef)
          ∗ held (d.tc : Thread nD τ) (Pipeline.ucRefs τ sig \ {hRef, sRef, oRef}) V) := by
  rw [StableHlo.held_sub_split (d.tc : Thread nD τ) (show ({hRef, sRef, oRef} : Finset (DevRef τ sig)) ⊆ Pipeline.ucRefs τ sig by decide +kernel) V]
  congr 1
  unfold held
  rw [SparseCore.bigSep_insert' (by decide), SparseCore.bigSep_insert' (by decide), bigSep_singleton]

theorem V4_o (d : Dev nD) : V4 m d oRef = Segmax.packedOut (F := F) (V3 m d sRef) (V3 m d hRef) := Function.update_self _ _ _
theorem V4_ne (d : Dev nD) {b : DevRef τ sig} (h : b ≠ oRef) : V4 m d b = V3 m d b := Function.update_of_ne h _ _

theorem held_before (d : Dev nD) : (held (d.tc : Thread nD τ) (Pipeline.ucRefs τ sig) (after ops1 (V2 m d)) : sProp 𝕄)
    ⊢ iprop((bigSep Finset.univ fun c : Fin ((K (F := F)).nCore 0) => (P m).st 0 d c)
        ∗ held (d.tc : Thread nD τ) (Pipeline.ucRefs τ sig \ {hRef, sRef, oRef}) (V3 m d)) := by
  show (held (d.tc : Thread nD τ) (Pipeline.ucRefs τ sig) (V3 m d) : sProp 𝕄) ⊢ _
  rw [held_three, Segmax.st_eq]

theorem held_after (d : Dev nD) : iprop((bigSep Finset.univ fun c : Fin ((K (F := F)).nCore 0) => (P m).dn 0 d c)
        ∗ held (d.tc : Thread nD τ) (Pipeline.ucRefs τ sig \ {hRef, sRef, oRef}) (V3 m d))
    ⊢ (held (d.tc : Thread nD τ) (Pipeline.ucRefs τ sig) (V4 m d) : sProp 𝕄) := by
  rw [held_three, Segmax.dn_eq, V4_o, V4_ne m d (show hRef ≠ oRef by decide), V4_ne m d (show sRef ≠ oRef by decide),
    StableHlo.held_congr (d.tc : Thread nD τ) (S := Pipeline.ucRefs τ sig \ {hRef, sRef, oRef}) (V := V4 m d) (V' := V3 m d)
      (fun b hb => V4_ne m d fun e => (Finset.mem_sdiff.mp hb).2 (by rw [e]; simp))]
  exact .rfl

/-! ## @main -/

/-- A call followed by the rest of the program. -/
theorem wp_then (d : Dev nD) {β : Type} (p : Prog (TpuEff nD τ sig (Elt F) (SparseCore.Sig (ΛP (F := F)) 1) .tc) PUnit)
    (k : PUnit → Prog (TpuEff nD τ sig (Elt F) (SparseCore.Sig (ΛP (F := F)) 1) .tc) β) (Φ : sProp 𝕄) (Ψ : β → sProp 𝕄) :
    iprop(wp frame (wpE ((K (F := F)).defs (D (F := F))) 𝒱 (d.tc : Thread nD τ) none) Set.univ p (fun _ => Φ)
        ∗ (Φ -∗ wp frame (wpE ((K (F := F)).defs (D (F := F))) 𝒱 (d.tc : Thread nD τ) none) Set.univ (k ⟨⟩) Ψ))
      ⊢ wp frame (wpE ((K (F := F)).defs (D (F := F))) 𝒱 (d.tc : Thread nD τ) none) Set.univ (p >>= k) Ψ := by
  rw [wp_bind]
  iintro ⟨Hp, Hk⟩
  iapply (wp_wand_r Idealize.ShloMosaic.frame (wpE ((K (F := F)).defs (D (F := F))) 𝒱 (d.tc : Thread nD τ) none) Set.univ)
  isplitl [Hp]; · iexact Hp
  iintro %x H
  iapply Hk; iexact H

theorem wp_end (d : Dev nD) (Ψ : PUnit → sProp 𝕄) :
    Ψ ⟨⟩ ⊢ wp frame (wpE ((K (F := F)).defs (D (F := F))) 𝒱 (d.tc : Thread nD τ) none) Set.univ (pure ⟨⟩) Ψ := by
  rw [wp_pure]
  iintro H; imodintro; iexact H

/-- What @main leaves the claims: every buffer at the last valuation. -/
abbrev FIN (d : Dev nD) : sProp 𝕄 := held (d.tc : Thread nD τ) (Pipeline.ucRefs τ sig) (V6 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ (ghost 0 d ∗ ghost 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (Pipeline.ucRefs τ sig) (V0 m d) from
    Pipeline.unscopedBufs_held d (V0 m d), main_eq]
  iintro ⟨#Hctx, Hst, ⟨Hb, Hh, Hts, -⟩, Hg0, Hg1⟩
  iapply (StableHlo.wp_seq 𝒱 none Set.univ d (Pipeline.ucRefs τ sig) _ ops0 sub0 fresh0 (V0 m d)) $$ [Hb Hh]
  · isplitl [Hb] <;> iassumption
  iintro ⟨Hb, Hh⟩
  iapply (wp_then d _ _ (iprop((K (F := F)).tcSt EH d 0 ∗ boundary (d.tc : Thread nD τ) ∗ held (d.tc : Thread nD τ) (Pipeline.ucRefs τ sig) (V2 m d))) _)
  isplitl [Hst Hg0 Hb Hh]
  · iapply (region_step (V1 m) 0 0 d)
    isplitl [Hst]; · iexact Hst
    isplitr; · iapply (SparseCore.Cfg.ctx_levAts κ); iexact Hctx
    isplitl [Hg0]; · iexact Hg0
    isplitl [Hb]; · iexact Hb
    iexact Hh
  iintro ⟨Hst, Hb, Hh⟩
  iapply (StableHlo.wp_seq 𝒱 none Set.univ d (Pipeline.ucRefs τ sig) _ ops1 sub1 fresh1 (V2 m d)) $$ [Hb Hh]
  · isplitl [Hb] <;> iassumption
  iintro ⟨Hb, Hh⟩
  iapply (wp_then d _ _ (iprop((K (F := F)).tcSt EH d 1 ∗ boundary (d.tc : Thread nD τ) ∗ held (d.tc : Thread nD τ) (Pipeline.ucRefs τ sig) (V4 m d))) _)
  isplitl [Hst Hb Hh]
  · ihave Hh' := (held_before m d) $$ Hh
    icases Hh' with ⟨Hs, Hr⟩
    iapply ((K (F := F)).wp_run (D (F := F)) 𝒱 (EH := EH) (P := P m) κ d 0)
    isplitr; · iexact Hctx
    isplitl [Hst]; · iexact Hst
    isplitl [Hs]; · iexact Hs
    iintro ⟨Hst, Hdn⟩
    isplitl [Hst]; · iexact Hst
    isplitl [Hb]; · iexact Hb
    iapply (held_after m d)
    isplitl [Hdn]; · iexact Hdn
    iexact Hr
  iintro ⟨Hst, Hb, Hh⟩
  iapply (StableHlo.wp_seq 𝒱 none Set.univ d (Pipeline.ucRefs τ sig) _ ops2 sub2 fresh2 (V4 m d)) $$ [Hb Hh]
  · isplitl [Hb] <;> iassumption
  iintro ⟨Hb, Hh⟩
  iapply (wp_then d _ _ (iprop((K (F := F)).tcSt EH d 1 ∗ boundary (d.tc : Thread nD τ) ∗ held (d.tc : Thread nD τ) (Pipeline.ucRefs τ sig) (V6 m d))) _)
  isplitl [Hst Hg1 Hb Hh]
  · iapply (region_step (V5 m) 1 1 d)
    isplitl [Hst]; · iexact Hst
    isplitr; · iapply (SparseCore.Cfg.ctx_levAts κ); iexact Hctx
    isplitl [Hg1]; · iexact Hg1
    isplitl [Hb]; · iexact Hb
    iexact Hh
  iintro ⟨Hst, Hb, Hh⟩
  iapply (wp_end d)
  isplitl [Hst]; · iexact Hst
  isplitl [Hh]; · iexact Hh
  isplitl [Hb] <;> iassumption

/-! ## The launch -/

def u₀ : UU := (initOf (K (F := F)).hsCells (K (F := F)).hsToks,
  (initOf (Pipeline.cells (Pipeline.pin (pcfgs (F := F)) Region.adm) phinj) (Pipeline.launchToks (Pipeline.pin (pcfgs (F := F)) Region.adm) phinj), 1))

theorem bigSep_emp' {I : Type} (s : Finset I) : (bigSep s fun _ => iprop(emp)) = (iprop(emp) : sProp 𝕄) := bigSep_emp_const s

theorem ghost_both (d : Dev nD) : iprop((bigSep Finset.univ fun p => Pipeline.cellsGhost (Pipeline.pin (pcfgs (F := F)) Region.adm) EP p d)
      ∗ (bigSep Finset.univ fun p => Pipeline.toksInit (Pipeline.pin (pcfgs (F := F)) Region.adm) EP p d))
    ⊢ (iprop(ghost 0 d ∗ ghost 1 d) : sProp 𝕄) := by
  rw [show (Finset.univ : Finset (Fin 2)) = {0, 1} from rfl, SparseCore.bigSep_insert' (by decide), SparseCore.bigSep_insert' (by decide),
    bigSep_singleton, bigSep_singleton]
  iintro ⟨⟨H0, H1⟩, T0, T1⟩
  isplitl [H0 T0]
  · isplitl [H0]; · iexact H0
    iexact T0
  isplitl [H1]; · iexact H1
  iexact T1

theorem ghosts : iprop((bigSep Finset.univ fun d : Dev nD => bigSep Finset.univ fun p => Pipeline.cellsGhost (Pipeline.pin (pcfgs (F := F)) Region.adm) EP p d)
      ∗ (bigSep Finset.univ fun d : Dev nD => bigSep Finset.univ fun p => Pipeline.toksInit (Pipeline.pin (pcfgs (F := F)) Region.adm) EP p d))
    ⊢ (bigSep Finset.univ fun d : Dev nD => iprop(ghost 0 d ∗ ghost 1 d) : sProp 𝕄) := by
  rw [← bigSep_sep']
  exact bigSep_mono fun d _ => ghost_both d

theorem own_EP (x : UP) : (BI.own (((Emb.inl : Emb UP (UP × Counters)).trans (embR : Emb (UP × Counters) 𝕄)) x) : sProp 𝕄) ⊢ BI.own ((EP (F := F)) x) := .rfl

theorem hu₀ : (ownU (u₀ (F := F)) : sProp 𝕄)
    ⊢ |={Set.univ}=> iprop(BI.own (EH (initOf (K (F := F)).hsCells (K (F := F)).hsToks)) ∗ (bigSep Finset.univ fun d : Dev nD => iprop(ghost 0 d ∗ ghost 1 d))
        ∗ bigSep Finset.univ fun thr : Thread nD τ => bigSep Finset.univ fun q : Fin 1 => (P m).x q thr) := by
  unfold u₀
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iintro Hu
  ihave H := (ownU_pair _ _) $$ Hu
  icases H with ⟨HH, HR⟩
  ihave HR' := (own_pair_emb embR _ _) $$ HR
  icases HR' with ⟨HP, -⟩
  ihave HP' := (own_EP _) $$ HP
  imod (Pipeline.fund_ghost (Pipeline.pin (pcfgs (F := F)) Region.adm) EP phinj) $$ HP' with ⟨Hc, Ht⟩
  imodintro
  isplitl [HH]; · iexact HH
  isplitl [Hc Ht]
  · iapply ghosts
    isplitl [Hc]; · iexact Hc
    iexact Ht
  iempintro

/-- What the claims read of device `d`'s final state. -/
def fq (d : Dev nD) (s' : Phys nD τ sig (Elt F)) : Prop := ∀ b ∈ Pipeline.ucRefs τ sig, s'.mem.mem ((d, b) : Loc nD τ sig) = V6 m d b

theorem hfin (d : Dev nD) (s' : Phys nD τ sig (Elt F)) : iprop(FIN m d ∗ SI s') ⊢ (⌜fq m d s'⌝ : sProp 𝕄) := by
  refine BIBase.Entails.trans (pointsTo_read_all (Pipeline.ucRefs τ sig) (fun b => ((d, b) : Loc nD τ sig)) (fun b => V6 m d b) s') ?_
  iintro ⟨%h, -⟩
  ipureintro; exact h

/-- From a launch whose node indices are node indices, every schedule ends with every buffer at `V6` and every semaphore at zero. -/
theorem run_main [∀ e, Nonempty (Elt F e)] (hseg : ∀ (d : Dev nD) (j : S8192.Idx), (V3 m d sRef j : BitVec 32).toNat < 407) :
    θ_run (Cert.KernelIdeal.defs (F := F)) (Cert.KernelIdeal.threads (F := F)) ⟨m, fun _ => 0, ρ⟩
      (fun r => (∀ d : Dev nD, ∀ b ∈ Pipeline.ucRefs τ sig, r.2.mem ((d, b) : Loc nD τ sig) = V6 m d b) ∧ r.2.sem = fun _ => 0) :=
  haveI := Segmax.P_storable (F := F) (fun d => V3 m d hRef) (fun d => V3 m d sRef) (fun d => V3 m d oRef)
  SparseCore.Cfg.θ_run_sc_quiescent (K := K (F := F)) (D := D (F := F)) (𝒱 := 𝒱) (EH := EH) (P := P m) (A := ∅) kfacts (Sum.inl none)
    (fun q hq => match q with | 0 => nomatch hq)
    (fun q _ => match q with | 0 => Segmax.tileObl (F := F) _ _ _ hseg)
    (fun q _ => match q with | 0 => SparseCore.Cfg.VecSplit.of_plain (Segmax.vecSplit (F := F) _ _ _))
    m ρ main (fun d => iprop(ghost 0 d ∗ ghost 1 d)) (FIN m) (u₀ (F := F)) (sep_elim_left.trans (hu₀ m)) (hmain m ρ) (fq m) (hfin m) _ (fun _ h hz => ⟨h, hz⟩)

end Cert.Proof.Launch

end
-- ==== Proof.Frames.lean ====
/-
  What @main writes: no argument. The preconditions read elementwise. The two programs' frames from one run.
-/
module

public import proofs.«01_k».proof.Proof.Launch
public import Idealize.ShloMosaic.Lib.ReduceAll
public import proofs.«01_k».proof.Proof.Gen.Kernel

@[expose] public section

set_option maxRecDepth 16384

noncomputable section

namespace Cert.Proof

/-- The side conditions of `superpoints`. -/
instance superpointsFacts : Cert.Pre_superpoints.Facts where
  bcast_S_S4x2048 := by decide
  reducesTo_S4x2048_S_d0_1 := by decide
  h_S_ := by decide

end Cert.Proof

namespace Cert.Proof.Launch

open Cert.KernelIdeal Cert.KernelIdeal.Gen
open Idealize.ShloMosaic Idealize.ShloMosaic.TcCoe
open Idealize.ShloMosaic.StableHlo (held after)
open Idealize.SL.Sem
open Cert.Proof.Host

variable {F : FTy → Type} [FloatOps F] [Named F]
variable (m : (ℓ : Loc nD τ sig) → Buf (Elt F) ℓ) (ρ : Dev nD → PrngReg)

/-- What each stretch writes, in order. -/
abbrev W0 : List (Ref sig .tc) :=
  [main_v0, main_v1, main_v2, main_v3, main_c, main_call0_v0, main_v4, main_v5, main_c_0, main_call1_v0, main_v6, main_v7, main_v8, main_v9,
    main_v10, main_v11, main_v12, main_v13, main_v14, main_c_1, main_call2_v0, main_v15, main_v16, main_v17]
abbrev W1 : List (Ref sig .tc) := [main_v19, main_v20, main_v21]
abbrev W2 : List (Ref sig .tc) := [main_v23, main_v24, main_v25, main_v26, main_v27]

theorem writes0 : (ops0 : List (HloOp τ sig (Elt F))).Forall fun op => op.writes ⊆ (W0.map (Proc.devRef (τ := τ) .tc)).toFinset :=
  StableHlo.forall_writes_sub_of_map rfl
theorem writes1 : (ops1 : List (HloOp τ sig (Elt F))).Forall fun op => op.writes ⊆ (W1.map (Proc.devRef (τ := τ) .tc)).toFinset :=
  StableHlo.forall_writes_sub_of_map rfl
theorem writes2 : (ops2 : List (HloOp τ sig (Elt F))).Forall fun op => op.writes ⊆ (W2.map (Proc.devRef (τ := τ) .tc)).toFinset :=
  StableHlo.forall_writes_sub_of_map rfl

theorem out0 (w : Fin 5) : (cfg0.win w).isOut = true → Pipeline.arrRef cfg0.spec w = main_v18 := by
  fin_cases w <;> first | (intro _; rfl) | (intro h; exact absurd h (by decide))
theorem out2 (w : Fin 11) : (cfg2.win w).isOut = true → Pipeline.arrRef cfg2.spec w = main_v28 := by
  fin_cases w <;> first | (intro _; rfl) | (intro h; exact absurd h (by decide))

theorem V1_keep (d : Dev nD) (r : Ref sig .tc) (h : r ∉ W0) : V1 m d (Proc.devRef .tc r) = V0 m d (Proc.devRef .tc r) :=
  StableHlo.after_of_writes_sub ops0 _ writes0 h
theorem V2_keep (d : Dev nD) (r : Ref sig .tc) (h : r ≠ main_v18) : V2 m d (Proc.devRef .tc r) = V1 m d (Proc.devRef .tc r) :=
  Pipeline.afterRegion_keeps (Region.dat0 (V1 m) 0 d) (V1 m d) (Region.kit (F := F) 0).win.arr_inj (fun _ => rfl) r fun w e =>
    Bool.eq_false_iff.mpr fun ho => h (e.symm.trans (out0 w ho))
theorem V3_keep (d : Dev nD) (r : Ref sig .tc) (h : r ∉ W1) : V3 m d (Proc.devRef .tc r) = V2 m d (Proc.devRef .tc r) :=
  StableHlo.after_of_writes_sub ops1 _ writes1 h
theorem V4_keep (d : Dev nD) (r : Ref sig .tc) (h : r ≠ main_v22) : V4 m d (Proc.devRef .tc r) = V3 m d (Proc.devRef .tc r) :=
  V4_ne m d fun e => h (Proc.devRef_injective _ e)
theorem V5_keep (d : Dev nD) (r : Ref sig .tc) (h : r ∉ W2) : V5 m d (Proc.devRef .tc r) = V4 m d (Proc.devRef .tc r) :=
  StableHlo.after_of_writes_sub ops2 _ writes2 h
theorem V6_keep (d : Dev nD) (r : Ref sig .tc) (h : r ≠ main_v28) : V6 m d (Proc.devRef .tc r) = V5 m d (Proc.devRef .tc r) :=
  Pipeline.afterRegion_keeps (Region.dat2 (V5 m) 1 d) (V5 m d) (Region.kit (F := F) 1).win.arr_inj (fun _ => rfl) r fun w e =>
    Bool.eq_false_iff.mpr fun ho => h (e.symm.trans (out2 w ho))

/-- Everything @main writes. -/
abbrev Wall : List (Ref sig .tc) := main_v18 :: main_v22 :: main_v28 :: (W0 ++ W1 ++ W2)

/-- What @main does not write ends as launched. -/
theorem V6_launch (d : Dev nD) (r : Ref sig .tc) (h : r ∉ Wall) : V6 m d (Proc.devRef .tc r) = m ((d.tc : Thread nD τ).loc r) := by
  simp only [Wall, List.mem_cons, List.mem_append, not_or] at h
  obtain ⟨h18, h22, h28, ⟨h0, h1⟩, h2⟩ := h
  rw [V6_keep m d r h28, V5_keep m d r (by simpa [W2] using h2), V4_keep m d r h22, V3_keep m d r (by simpa [W1] using h1), V2_keep m d r h18,
    V1_keep m d r (by simpa [W0] using h0)]
  rfl

/-- The node indices the SparseCore call reads are the launch's, flattened. -/
theorem V3_seg (d : Dev nD) : V3 m d sRef = shapeCast S8192 (m ((d.tc : Thread nD τ).loc main_arg1)) shapeCasts_S4x2048_S8192 := by
  rw [V3_keep m d main_v2 (by decide), V2_keep m d main_v2 (by decide)]
  unfold V1
  after_results
  rfl

/-! ## The preconditions, elementwise -/

theorem andi_one {p q : BitVec 1} : IntOp.andi p q = 1#1 ↔ p = 1#1 ∧ q = 1#1 := by revert p q; decide

/-- A word that is at least 0 and below 407 as a signed number is below 407 as a natural one. -/
theorem lt_of_range (v : BitVec 32) (e : IntOp.andi (IntOp.cmpi .sge v 0#32) (IntOp.cmpi .slt v 407#32) = 1#1) : v.toNat < 407 := by
  have one (p : Bool) : (BitVec.ofBool p = 1#1) ↔ p = true := by cases p <;> decide
  obtain ⟨h1, h2⟩ := andi_one.mp e
  simp only [IntOp.cmpi, one, BitVec.sle_eq_decide, BitVec.slt_eq_decide, decide_eq_true_eq, BitVec.toInt_eq_toNat_cond, BitVec.toNat_ofNat,
    Nat.reducePow, Nat.reduceMod] at h1 h2
  omega

instance scalarIdx : Subsingleton Cert.Pre_superpoints.S_.Idx := ⟨fun a b => funext fun i => i.elim0⟩

/-- `superpoints` all ones: every node index is a node index. -/
theorem seg_of_superpoints {G : FTy → Type} [FloatOps G] {A0 A1 A2 A3 A4 A5 A6 A7 A8 A9 A10 A11 A12 A13}
    (h : Cert.Pre_superpoints.fn (F := G) A0 A1 A2 A3 A4 A5 A6 A7 A8 A9 A10 A11 A12 A13 = fun _ => 1#1) (i : S4x2048.Idx) : (A1 i : BitVec 32).toNat < 407 := by
  have e := congrFun h (fun i => i.elim0)
  simp only [Cert.Pre_superpoints.fn] at e
  have e' := Host.reduce_andi_all _ _ _ _ _ e i
  simp only [andi, cmpi, broadcastInDim, constantI] at e'
  exact lt_of_range _ e'

end Cert.Proof.Launch

namespace Cert.Proof

open Idealize.ShloMosaic Idealize.SL.Sem

/-- A named constant of the program as compiled is the constant of its bits. -/
instance namedBits : Named Bits := ⟨fun _ _ {φ} b => FloatOps.ofBits φ b⟩

open Cert.KernelIdeal Cert.KernelIdeal.Gen in
/-- Every schedule ends with the arguments as launched and every semaphore at zero. -/
theorem run_args {F : FTy → Type} [FloatOps F] [Named F] [∀ e, Nonempty (Elt F e)] (m : (ℓ : Loc nD τ sig) → Buf (Elt F) ℓ) (ρ : Dev nD → PrngReg)
    (hseg : ∀ (d : Dev nD) (i : S4x2048.Idx), (m ((d.tc : Thread nD τ).loc main_arg1) i : BitVec 32).toNat < 407) :
    θ_run (Cert.KernelIdeal.defs (F := F)) (Cert.KernelIdeal.threads (F := F)) ⟨m, fun _ => 0, ρ⟩
      (fun r => (∀ (d : Dev nD) (b : Ref sig .tc), (Proc.devRef .tc b : DevRef τ sig) ∈ Pipeline.ucRefs τ sig →
          r.2.mem ((d.tc : Thread nD τ).loc b) = Launch.V6 m d (Proc.devRef .tc b)) ∧ r.2.sem = fun _ => 0) :=
  (θ_run _ _ _).mono (fun _ h => ⟨fun d b hb => h.1 d _ hb, h.2⟩)
    (Launch.run_main m ρ fun d j => by rw [Launch.V3_seg]; exact hseg d _)

/-- No argument is written, and every one is an unscoped buffer. -/
theorem args_ok : ∀ r ∈ ([Cert.KernelIdeal.main_arg0, Cert.KernelIdeal.main_arg1, Cert.KernelIdeal.main_arg2, Cert.KernelIdeal.main_arg3,
      Cert.KernelIdeal.main_arg4, Cert.KernelIdeal.main_arg5, Cert.KernelIdeal.main_arg6, Cert.KernelIdeal.main_arg7, Cert.KernelIdeal.main_arg8,
      Cert.KernelIdeal.main_arg9, Cert.KernelIdeal.main_arg10, Cert.KernelIdeal.main_arg11, Cert.KernelIdeal.main_arg12, Cert.KernelIdeal.main_arg13] :
        List (Ref Cert.KernelIdeal.sig .tc)),
    r ∉ Launch.Wall ∧ (Proc.devRef .tc r : DevRef Cert.KernelIdeal.τ Cert.KernelIdeal.sig) ∈ Pipeline.ucRefs Cert.KernelIdeal.τ Cert.KernelIdeal.sig := by
  decide +kernel

open Cert.KernelIdeal in
/-- An argument at the end. -/
theorem arg_kept {F : FTy → Type} [FloatOps F] [Named F] (m : (ℓ : Loc nD τ sig) → Buf (Elt F) ℓ) (m' : (ℓ : Loc nD τ sig) → Buf (Elt F) ℓ)
    (h : ∀ (d : Dev nD) (b : Ref sig .tc), (Proc.devRef .tc b : DevRef τ sig) ∈ Pipeline.ucRefs τ sig →
      m' ((d.tc : Thread nD τ).loc b) = Launch.V6 m d (Proc.devRef .tc b)) (d : Dev nD) (r : Ref sig .tc)
    (hr : r ∉ Launch.Wall ∧ (Proc.devRef .tc r : DevRef τ sig) ∈ Pipeline.ucRefs τ sig) :
    m' ((d.tc : Thread nD τ).loc r) = m ((d.tc : Thread nD τ).loc r) :=
  (h d r hr.2).trans (Launch.V6_launch m d r hr.1)

open Cert.KernelIdeal in
/-- Two memories with the same arguments. -/
def SameArgs {F : FTy → Type} [FloatOps F] [Named F] (m m' : (ℓ : Loc nD τ sig) → Buf (Elt F) ℓ) : Prop := ∀ c : Dev nD,
  m ((c.tc : Thread nD τ).loc main_arg0) = m' ((c.tc : Thread nD τ).loc main_arg0) ∧ m ((c.tc : Thread nD τ).loc main_arg1) = m' ((c.tc : Thread nD τ).loc main_arg1) ∧ m ((c.tc : Thread nD τ).loc main_arg2) = m' ((c.tc : Thread nD τ).loc main_arg2) ∧ m ((c.tc : Thread nD τ).loc main_arg3) = m' ((c.tc : Thread nD τ).loc main_arg3) ∧ m ((c.tc : Thread nD τ).loc main_arg4) = m' ((c.tc : Thread nD τ).loc main_arg4) ∧ m ((c.tc : Thread nD τ).loc main_arg5) = m' ((c.tc : Thread nD τ).loc main_arg5) ∧ m ((c.tc : Thread nD τ).loc main_arg6) = m' ((c.tc : Thread nD τ).loc main_arg6) ∧ m ((c.tc : Thread nD τ).loc main_arg7) = m' ((c.tc : Thread nD τ).loc main_arg7) ∧ m ((c.tc : Thread nD τ).loc main_arg8) = m' ((c.tc : Thread nD τ).loc main_arg8) ∧ m ((c.tc : Thread nD τ).loc main_arg9) = m' ((c.tc : Thread nD τ).loc main_arg9) ∧ m ((c.tc : Thread nD τ).loc main_arg10) = m' ((c.tc : Thread nD τ).loc main_arg10) ∧ m ((c.tc : Thread nD τ).loc main_arg11) = m' ((c.tc : Thread nD τ).loc main_arg11) ∧ m ((c.tc : Thread nD τ).loc main_arg12) = m' ((c.tc : Thread nD τ).loc main_arg12) ∧ m ((c.tc : Thread nD τ).loc main_arg13) = m' ((c.tc : Thread nD τ).loc main_arg13)

open Cert.KernelIdeal in
/-- Every schedule ends with the arguments as launched and every semaphore at zero. -/
theorem run_frame {F : FTy → Type} [FloatOps F] [Named F] [∀ e, Nonempty (Elt F e)] (m : (ℓ : Loc nD τ sig) → Buf (Elt F) ℓ) (ρ : Dev nD → PrngReg)
    (hseg : ∀ (d : Dev nD) (i : S4x2048.Idx), (m ((d.tc : Thread nD τ).loc main_arg1) i : BitVec 32).toNat < 407) :
    θ_run (Cert.KernelIdeal.defs (F := F)) (Cert.KernelIdeal.threads (F := F)) ⟨m, fun _ => 0, ρ⟩
      (fun r => SameArgs r.2.mem m ∧ r.2.sem = fun _ => 0) :=
  (θ_run _ _ _).mono (fun r h => ⟨fun c => by
    have k := fun b hb => arg_kept m r.2.mem h.1 c b (args_ok b hb)
    exact ⟨k _ (by decide), k _ (by decide), k _ (by decide), k _ (by decide), k _ (by decide), k _ (by decide), k _ (by decide), k _ (by decide), k _ (by decide), k _ (by decide), k _ (by decide), k _ (by decide), k _ (by decide), k _ (by decide)⟩, h.2⟩) (run_args m ρ hseg)

theorem frame_ideal : Cert.quiescent_KernelIdeal := fun m ρ hpre =>
  run_frame (F := Ideal) m ρ fun d i => Launch.seg_of_superpoints (hpre d) i

end Cert.Proof

end
-- ==== Proof.FrameKernel.lean ====
/-
  The frame of the program as compiled: the two texts differ in the named constants alone, which are the constants of their bits at the
  machine's floats.
-/
module

public import proofs.«01_k».proof.Proof.Frames

@[expose] public section

set_option maxRecDepth 16384

noncomputable section

namespace Cert.Proof

open Idealize.ShloMosaic Idealize.SL.Sem

/-! ## The two texts, function by function -/

theorem mlp_eq : @Cert.Kernel.cc0__mlp_kernel Bits _ _ = @Cert.KernelIdeal.cc0__mlp_kernel Bits _ _ := rfl

set_option maxHeartbeats 8000000 in
theorem segmax_eq : @Cert.Kernel.cc1__sc_segmax_body Bits _ _ = @Cert.KernelIdeal.cc1__sc_segmax_body Bits _ _ _ := rfl

set_option maxHeartbeats 1600000 in
theorem ggnn_eq : @Cert.Kernel.cc2__ggnn_kernel Bits _ _ = @Cert.KernelIdeal.cc2__ggnn_kernel Bits _ _ _ := rfl

set_option maxHeartbeats 1600000 in
theorem main_eq : @Cert.Kernel.main Bits _ _ = @Cert.KernelIdeal.main Bits _ _ := rfl

set_option maxHeartbeats 1600000 in
/-- The kernels' labels name the same bodies in both texts. -/
theorem defs₀_eq : Cert.Kernel.defs₀ (F := Bits) = Cert.KernelIdeal.defs₀ (F := Bits) := by
  funext p ℓ a
  match p, ℓ, a with
  | .tc, 0, (t, s) => dsimp only [Cert.Kernel.defs₀, Cert.KernelIdeal.defs₀]; rw [mlp_eq]; rfl
  | .scVector c s, 1, _ => dsimp only [Cert.Kernel.defs₀, Cert.KernelIdeal.defs₀]; rw [segmax_eq]; rfl
  | .tc, 2, (t, s) => dsimp only [Cert.Kernel.defs₀, Cert.KernelIdeal.defs₀]; rw [ggnn_eq]; rfl
  | .tc, 1, _ => rfl
  | .scVector _ _, 0, _ => rfl
  | .scVector _ _, 2, _ => rfl
  | .scScalar _, 0, _ => rfl
  | .scScalar _, 1, _ => rfl
  | .scScalar _, 2, _ => rfl

set_option maxHeartbeats 1600000 in
theorem defs_eq : Cert.Kernel.defs (F := Bits) = Cert.KernelIdeal.defs (F := Bits) := by
  unfold Cert.Kernel.defs Cert.KernelIdeal.defs
  rw [defs₀_eq]; rfl

set_option maxHeartbeats 1600000 in
theorem threads_eq : Cert.Kernel.threads (F := Bits) = Cert.KernelIdeal.threads (F := Bits) := by
  unfold Cert.Kernel.threads Cert.KernelIdeal.threads
  rw [main_eq]; rfl

set_option maxHeartbeats 1600000 in
/-- The program as compiled runs to its end on every memory whose superpoints are in range, the arguments and the semaphores as they began. -/
theorem frame_kernel : Cert.quiescent_Kernel := by
  intro m ρ hpre
  rw [defs_eq, threads_eq]
  exact (θ_run Cert.KernelIdeal.defs _ _).mono (fun _ h => h)
    (run_frame (F := Bits) m ρ fun d i => Launch.seg_of_superpoints (hpre d) i)

end Cert.Proof

end
-- ==== Proof.ReferenceFrame.lean ====
/-
  The reference's frames: its host operations write no argument, and it has no semaphore.
-/
module

public import proofs.«01_k».proof.Proof.Frames
public import proofs.«01_k».proof.Proof.Gen.ReferenceIdeal.Run
public import Idealize.ShloMosaic.Lib.Quiescent

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The stretches `items` write only references of the list `W`. -/
def Within (W : List (Ref sig .tc)) (items : List (List (HloOp τ sig (Elt F)))) : Prop :=
  ∀ ops ∈ items, ops.Forall fun op => op.writes ⊆ (W.map (Proc.devRef (τ := τ) .tc)).toFinset

theorem Within.cons {W W' : List (Ref sig .tc)} {ops : List (HloOp τ sig (Elt F))} {items : List (List (HloOp τ sig (Elt F)))}
    (h : ops.Forall fun op => op.writes ⊆ (W'.map (Proc.devRef (τ := τ) .tc)).toFinset) (hW : W' ⊆ W) (hi : Within W items) : Within W (ops :: items) := by
  intro o ho
  rcases List.mem_cons.mp ho with rfl | ho
  · exact h.imp fun op hop => hop.trans fun x hx => by
      simp only [List.mem_toFinset, List.mem_map] at hx ⊢
      obtain ⟨r, hr, e⟩ := hx
      exact ⟨r, hW hr, e⟩
  · exact hi o ho

theorem Within.nil (W : List (Ref sig .tc)) : Within (F := F) W [] := fun _ h => nomatch h

/-- What the stretches do not write is kept. -/
theorem afterL_keep {W : List (Ref sig .tc)} : ∀ {items : List (List (HloOp τ sig (Elt F)))}, Within W items → ∀ (V : Valuation τ sig (Elt F)) (r : Ref sig .tc),
    r ∉ W → afterL items V (Proc.devRef .tc r) = V (Proc.devRef .tc r)
  | [], _, _, _, _ => rfl
  | ops :: rest, h, V, r, hr =>
    (afterL_keep (items := rest) (fun o ho => h o (List.mem_cons_of_mem _ ho)) _ r hr).trans
      (after_of_writes_sub ops V (h ops List.mem_cons_self) hr)

/-- What the operations after the loop write. -/
abbrev Wpost : List (Ref sig .tc) := [main_v27, main_v28, main_v29, main_v30, main_cst_5, main_v31, main_v32, main_v33, main_v34, main_v35, main_v36, main_v37, main_v38]
theorem post_writes : (hostOps0_11 : List (HloOp τ sig (Elt F))).Forall fun op => op.writes ⊆ (Wpost.map (Proc.devRef (τ := τ) .tc)).toFinset :=
  forall_writes_sub_of_map rfl

/-- Everything written before the loop, and everything written. -/
abbrev Wpre : List (Ref sig .tc) := hostOps0_W ++ hostOps0_1_W ++ hostOps0_2_W ++ hostOps0_3_W ++ hostOps0_4_W ++ hostOps0_5_W ++ hostOps0_6_W
  ++ hostOps0_7_W ++ hostOps0_8_W ++ hostOps0_9_W ++ hostOps0_10_W
abbrev Wref : List (Ref sig .tc) := Wpre ++ condOps_W ++ while0Ops0_W ++ Wpost

theorem within_pre : Within (F := F) Wpre preI :=
  .cons hostOps0_writes (by decide +kernel) (.cons hostOps0_1_writes (by decide +kernel) (.cons hostOps0_2_writes (by decide +kernel)
    (.cons hostOps0_3_writes (by decide +kernel) (.cons hostOps0_4_writes (by decide +kernel) (.cons hostOps0_5_writes (by decide +kernel)
      (.cons hostOps0_6_writes (by decide +kernel) (.cons hostOps0_7_writes (by decide +kernel) (.cons hostOps0_8_writes (by decide +kernel)
        (.cons hostOps0_9_writes (by decide +kernel) (.cons hostOps0_10_writes (by decide +kernel) (.nil _)))))))))))

theorem within_body : Within (F := F) while0Ops0_W bodyI := .cons while0Ops0_writes (List.Subset.refl _) (.nil _)
theorem within_post : Within (F := F) Wpost postI := .cons post_writes (List.Subset.refl _) (.nil _)

variable (m : (ℓ : Loc nD τ sig) → Buf (Elt F) ℓ)

/-- What the operations before the loop do not write enters the loop as launched. -/
theorem entry_keep (c : Dev nD) (r : Ref sig .tc) (h : r ∉ Wpre) : entryContents preI m c (Proc.devRef .tc r) = m ((c.tc : Thread nD τ).loc r) :=
  afterL_keep within_pre _ r h

/-- What the loop does not write leaves it as it entered. -/
theorem trip_keep (c : Dev nD) (r : Ref sig .tc) (hc : r ∉ condOps_W) (hb : r ∉ while0Ops0_W) :
    ∀ k, atK m k c (Proc.devRef .tc r) = entryContents preI m c (Proc.devRef .tc r)
  | 0 => rfl
  | k + 1 => (afterL_keep within_body _ r hb).trans ((after_of_writes_sub condOps _ condOps_writes hc).trans (trip_keep c r hc hb k))

/-- What the reference does not write ends as launched. -/
theorem final_keep (c : Dev nD) (r : Ref sig .tc) (h : r ∉ Wref) :
    finalContents condOps preI bodyI postI 10 m c (Proc.devRef .tc r) = m ((c.tc : Thread nD τ).loc r) := by
  simp only [Wref, List.mem_append, not_or] at h
  obtain ⟨⟨⟨hp, hc⟩, hb⟩, ho⟩ := h
  refine (afterL_keep within_post _ r ho).trans ?_
  refine (after_of_writes_sub condOps _ condOps_writes hc).trans ?_
  exact (trip_keep m c r hc hb 10).trans (entry_keep m c r (by simpa only [Wpre, List.mem_append, not_or] using hp))

/-- Every schedule of the reference ends with the arguments as launched and every semaphore at zero. -/
theorem run_frame [∀ e, Nonempty (Elt F e)] (ρ : Dev nD → PrngReg) :
    θ_run (defs (F := F)) (onTc (τ := τ) (main (F := F))) ⟨m, fun _ => 0, ρ⟩ (fun r => (∀ c : Dev nD, ∀ b ∈ ([main_arg0, main_arg1, main_arg2,
        main_arg3, main_arg4, main_arg5, main_arg6, main_arg7, main_arg8, main_arg9, main_arg10, main_arg11, main_arg12, main_arg13] : List (Ref sig .tc)),
      r.2.mem ((c.tc : Thread nD τ).loc b) = m ((c.tc : Thread nD τ).loc b)) ∧ r.2.sem = fun _ => 0) :=
  (θ_run _ _ _).mono (fun r h => ⟨fun c b hb =>
      have e : b ∉ Wref ∧ (Proc.devRef .tc b : DevRef τ sig).isScoped = false := by revert b; decide +kernel
      (h c b e.2).trans (final_keep m c b e.1), sem_eq_zero_of_no_sems rfl _⟩)
    (run_fold m ρ)

end Cert.Proof.Reference

namespace Cert.Proof

open Idealize.ShloMosaic Idealize.SL.Sem

/-- The reference's frame. -/
theorem frame_reference : Cert.quiescent_ReferenceIdeal := fun m ρ _ => (θ_run _ _ _).mono (fun r h => ⟨fun c => by
  have k := h.1 c
  exact ⟨k _ (by decide), k _ (by decide), k _ (by decide), k _ (by decide), k _ (by decide), k _ (by decide), k _ (by decide), k _ (by decide), k _ (by decide), k _ (by decide), k _ (by decide), k _ (by decide), k _ (by decide), k _ (by decide)⟩, h.2⟩)
  (Reference.run_frame m ρ)

end Cert.Proof

end
-- ==== Proof.Finite.lean ====
/-
  `finite_points` read elementwise, and the run of the idealized program under it.
-/
module

public import proofs.«01_k».proof.Proof.ReferenceFrame
public import Idealize.ShloMosaic.Lib.Pointwise

@[expose] public section

set_option maxRecDepth 16384

noncomputable section

namespace Cert.Proof

open Idealize.ShloMosaic Idealize.SL.Sem

/-- The side conditions of `finite_points`. -/
instance finitePointsFacts : Cert.Pre_finite_points.Facts where
  bcast_S_S4x2048 := by decide
  reducesTo_S4x2048_S_d0_1 := by decide
  h_S_ := by decide
  slices_S4x2048x13_S4x2048x12_0_0_0 := by decide
  bcast_S_S4x2048x12 := by decide
  reducesTo_S4x2048x12_S_d0_1_2 := by decide
  bcast_S_S12x64 := by decide
  reducesTo_S12x64_S_d0_1 := by decide
  bcast_S_S64x128 := by decide
  reducesTo_S64x128_S_d0_1 := by decide
  bcast_S_S128x256 := by decide
  reducesTo_S128x256_S_d0_1 := by decide

/-- Neither infinity. -/
def IsReal (x : EReal) : Prop := x ≠ ⊥ ∧ x ≠ ⊤

theorem fin_of_abs (x : Ideal .f32) (h : FloatOps.cmpf (F := Ideal) .olt (FloatOps.hostAbsf x) (FloatOps.ofBits .f32 0x7F800000#32) = 1#1) : IsReal x := by
  have one (p : Bool) : (BitVec.ofBool p = 1#1) ↔ p = true := by cases p <;> decide
  have htop : Ideal.ofBits .f32 0x7F800000#32 = ⊤ := by simp [Ideal.ofBits, Ideal.ieee]
  have h' : max (x : EReal) (-x) < ⊤ := by
    have h := h
    change BitVec.ofBool (decide (max (x : EReal) (-x) < Ideal.ofBits .f32 0x7F800000#32)) = 1#1 at h
    rw [one, decide_eq_true_eq, htop] at h; exact h
  refine ⟨fun e => ?_, fun e => ?_⟩
  · rw [e] at h'; simp at h'
  · rw [e] at h'; simp at h'

open Launch Tactic in
/-- `finite_points` all ones: every node index is a node index; the points' twelve channels and the weights of the point layers are finite. -/
theorem finite_points_reads {A0 A1 A2 A3 A4 A5 A6 A7 A8 A9 A10 A11 A12 A13}
    (h : Cert.Pre_finite_points.fn (F := Ideal) A0 A1 A2 A3 A4 A5 A6 A7 A8 A9 A10 A11 A12 A13 = fun _ => 1#1) :
    (∀ i, (A1 i : BitVec 32).toNat < 407) ∧ (∀ (b : Fin 4) (n : Fin 2048) (k : Fin 12), IsReal (A0 (ix3 b n ⟨k.val, by omega⟩))) ∧ (∀ i, IsReal (A4 i)) ∧ (∀ i, IsReal (A5 i)) ∧ ∀ i, IsReal (A6 i) := by
  have e := congrFun h (fun i => i.elim0)
  simp only [Cert.Pre_finite_points.fn, Cert.Pre_finite_points.fn_part1] at e
  obtain ⟨e, e6⟩ := andi_one.mp e
  obtain ⟨e, e5⟩ := andi_one.mp e
  obtain ⟨e, e4⟩ := andi_one.mp e
  obtain ⟨e1, e0⟩ := andi_one.mp e
  refine ⟨fun i => lt_of_range _ (Host.reduce_andi_all _ _ _ _ _ e1 i), fun b n k => ?_,
    fun i => fin_of_abs _ (Host.reduce_andi_all _ _ _ _ _ e4 i), fun i => fin_of_abs _ (Host.reduce_andi_all _ _ _ _ _ e5 i),
    fun i => fin_of_abs _ (Host.reduce_andi_all _ _ _ _ _ e6 i)⟩
  have c := fin_of_abs _ (Host.reduce_andi_all _ _ _ _ _ e0 (ix3 b n k))
  have g : extractStridedSlice Cert.Pre_finite_points.S4x2048x12 ![0, 0, 0] A0 Cert.Pre_finite_points.Facts.slices_S4x2048x13_S4x2048x12_0_0_0 (ix3 b n k)
      = A0 (ix3 b n ⟨k.val, by omega⟩) := by
    pointwise
  exact g ▸ c

/-- The idealized program's frame on finite points. -/
theorem frame_ideal_finite : Cert.quiescent_KernelIdeal_pre_finite_points := fun m ρ hpre =>
  run_frame (F := Ideal) m ρ fun d i => (finite_points_reads (hpre d)).1 i

/-- The reference's frame on finite points. -/
theorem frame_reference_finite : Cert.quiescent_ReferenceIdeal_pre_finite_points := fun m ρ _ => frame_reference m ρ trivial

end Cert.Proof

end
-- ==== Proof.KernelBlocks.lean ====
/-
  What the two TensorCore calls leave in their results' buffers, from the contents at their entries.
-/
module

public import Idealize.ShloMosaic.Lib.Pipeline.ValueKit
public import proofs.«01_k».proof.Proof.Frames

@[expose] public section

set_option maxRecDepth 16384

noncomputable section

namespace Cert.Proof.KernelBlocks

open Cert.KernelIdeal Cert.KernelIdeal.Gen
open Idealize.ShloMosaic Idealize.ShloMosaic.TcCoe
open Idealize.ShloMosaic.StableHlo (held after)
open Idealize.ShloMosaic.Tactic
open Cert.Proof.Host Cert.Proof.Launch

section Any

variable {F : FTy → Type} [FloatOps F] [Named F]
variable (m : (ℓ : Loc nD τ sig) → Buf (Elt F) ℓ)

/-- A block at the origin of its array places each index at itself. -/
theorem emb_origin {G : Pipeline.Grid} (w : Pipeline.Window sig G) (h : ∀ t a, w.index t a = 0) (t : Fin G.N) (j : (w.xblock (G.coords t)).Idx) (a) :
    ((w.rect t).emb j a).val = (j a).val :=
  Pipeline.Window.rect_emb_val_of_index_zero w t a (h t a) j

/-- What the first call leaves: the point features of its operands. -/
theorem V2_out (d : Dev nD) : V2 m d (Proc.devRef .tc main_v18)
    = Mlp.mlpOut (V1 m d (Proc.devRef .tc main_v1)) (V1 m d (Proc.devRef .tc main_arg4)) (V1 m d (Proc.devRef .tc main_arg5))
        (V1 m d (Proc.devRef .tc main_arg6)) := by
  refine (Pipeline.afterRegion_arr (Region.dat0 (V1 m) 0 d) (V1 m d) (Region.kit (F := F) 0).win.arr_inj 4).trans ?_
  refine (Region.dat0 (V1 m) 0 d).arrAt_eq_of_after_last 4 t0_0 (by decide +kernel) _ fun j => ?_
  have e0 : Region.blk0 (V1 m) d 0 t0_0 = V1 m d (Proc.devRef .tc main_v1) :=
    funext fun j => congrArg (V1 m d _) (funext fun a => Fin.ext (emb_origin win0_0 (by decide +kernel) t0_0 j a))
  have e1 : Region.blk0 (V1 m) d 1 t0_0 = V1 m d (Proc.devRef .tc main_arg4) :=
    funext fun j => congrArg (V1 m d _) (funext fun a => Fin.ext (emb_origin win0_1 (by decide +kernel) t0_0 j a))
  have e2 : Region.blk0 (V1 m) d 2 t0_0 = V1 m d (Proc.devRef .tc main_arg5) :=
    funext fun j => congrArg (V1 m d _) (funext fun a => Fin.ext (emb_origin win0_2 (by decide +kernel) t0_0 j a))
  have e3 : Region.blk0 (V1 m) d 3 t0_0 = V1 m d (Proc.devRef .tc main_arg6) :=
    funext fun j => congrArg (V1 m d _) (funext fun a => Fin.ext (emb_origin win0_3 (by decide +kernel) t0_0 j a))
  show Region.res0 (V1 m) d t0_0 _ = _
  unfold Region.res0
  rw [e0, e1, e2, e3]
  rfl

/-- What the last call leaves: at a batch, the graph network's result there. -/
theorem V6_out (d : Dev nD) (b : Fin 4) (r : Fin 1792) (p : Fin 407) (t : Fin cfg2.N) (ht : t.val = b.val) :
    V6 m d (Proc.devRef .tc main_v28) (ix3 b r p) = Region.res2 (V5 m) d t (ix3 0 r p) := by
  have e : V6 m d (Proc.devRef .tc main_v28) = fun j => Region.res2 (V5 m) d ⟨(j 0).val, (j 0).isLt⟩ (ix3 0 (j 1) (j 2)) := by
    refine (Pipeline.afterRegion_arr (Region.dat2 (V5 m) 1 d) (V5 m d) (Region.kit (F := F) 1).win.arr_inj 10).trans ?_
    refine (Region.dat2 (V5 m) 1 d).arrAt_eq_of_covers 10 _ (by decide +kernel) fun t hf y => ?_
    have hx : ∀ t : Fin cfg2.N, win2_10.index t = ![t.val, 0, 0] := by decide +kernel
    have y0 : (y 0).val = 0 := by have : (y 0).val < 1 := (y 0).isLt; omega
    have h0 : ((win2_10.rect t).emb y 0).val = t.val := by
      refine (Pipeline.Window.rect_emb_val win2_10 t y 0).trans ?_
      rw [hx]
      show t.val * 1 + (y 0).val = t.val
      omega
    have h1 : ((win2_10.rect t).emb y 1).val = (y 1).val :=
      Pipeline.Window.rect_emb_val_of_index_zero win2_10 t 1 (by rw [hx]; rfl) y
    have h2 : ((win2_10.rect t).emb y 2).val = (y 2).val :=
      Pipeline.Window.rect_emb_val_of_index_zero win2_10 t 2 (by rw [hx]; rfl) y
    show Region.res2 (V5 m) d t _ = Region.res2 (V5 m) d ⟨((win2_10.rect t).emb y 0).val, _⟩ (ix3 0 ((win2_10.rect t).emb y 1) ((win2_10.rect t).emb y 2))
    rw [show (⟨((win2_10.rect t).emb y 0).val, _⟩ : Fin cfg2.N) = t from Fin.ext h0]
    refine congrArg (Region.res2 (V5 m) d t) (funext fun a => Fin.ext ?_)
    fin_cases a
    · exact y0
    · exact h1.symm
    · exact h2.symm
  rw [e]
  refine congrArg (fun t => Region.res2 (V5 m) d t (ix3 0 r p)) (Fin.ext ht.symm)

/-- The last call's operands at a batch: the pooled features, the batch's nodes and graphs, the weights. -/
theorem res2_eq (V : Dev nD → Valuation τ sig (Elt F)) (d : Dev nD) (t : Fin cfg2.N) :
    Region.res2 V d t = Region.graphOut (grid2.coords t) (V d (Proc.devRef .tc main_v25)) (Region.blk2 V d 1 t) (Region.blk2 V d 2 t)
      (Region.blk2 V d 3 t) (V d (Proc.devRef .tc main_v8)) (V d (Proc.devRef .tc main_v10)) (V d (Proc.devRef .tc main_v11))
      (V d (Proc.devRef .tc main_v13)) (V d (Proc.devRef .tc main_v16)) (V d (Proc.devRef .tc main_v17)) :=
  Region.graphOut_congr
    (funext fun j => congrArg (V d _) (funext fun a => Fin.ext (emb_origin win2_0 (by decide +kernel) t j a)))
    rfl rfl rfl
    (funext fun j => congrArg (V d _) (funext fun a => Fin.ext (emb_origin win2_4 (by decide +kernel) t j a)))
    (funext fun j => congrArg (V d _) (funext fun a => Fin.ext (emb_origin win2_5 (by decide +kernel) t j a)))
    (funext fun j => congrArg (V d _) (funext fun a => Fin.ext (emb_origin win2_6 (by decide +kernel) t j a)))
    (funext fun j => congrArg (V d _) (funext fun a => Fin.ext (emb_origin win2_7 (by decide +kernel) t j a)))
    (funext fun j => congrArg (V d _) (funext fun a => Fin.ext (emb_origin win2_8 (by decide +kernel) t j a)))
    (funext fun j => congrArg (V d _) (funext fun a => Fin.ext (emb_origin win2_9 (by decide +kernel) t j a)))

/-- A block one batch deep places its indices in its batch. -/
theorem emb_batch {G : Pipeline.Grid} (w : Pipeline.Window sig G) (t : Fin G.N) (j : (w.xblock (G.coords t)).Idx) (a) (hk : w.kind = .blocked := by rfl) :
    ((w.rect t).emb j a).val = w.index t a * w.size a + (j a).val :=
  Pipeline.Window.rect_emb_val w t j a hk

theorem nodes_at (V : Dev nD → Valuation τ sig (Elt F)) (d : Dev nD) (t : Fin cfg2.N) (b : Fin 4) (ht : t.val = b.val) (p : Fin 407) (c : Fin 6) :
    Region.blk2 V d 1 t (ix3 0 p c) = V d (Proc.devRef .tc main_arg2) (ix3 b p c) := by
  have hx : ∀ t : Fin cfg2.N, win2_1.index t = ![t.val, 0, 0] := by decide +kernel
  refine congrArg (V d (Proc.devRef .tc main_arg2)) (funext fun a => Fin.ext ((emb_batch win2_1 t _ a).trans ?_))
  rw [hx]
  fin_cases a
  · exact (show t.val * 1 + 0 = b.val by omega)
  · exact (Nat.zero_mul _).symm ▸ Nat.zero_add _
  · exact (Nat.zero_mul _).symm ▸ Nat.zero_add _

theorem inward_at (V : Dev nD → Valuation τ sig (Elt F)) (d : Dev nD) (t : Fin cfg2.N) (b : Fin 4) (ht : t.val = b.val) (p q : Fin 512) :
    Region.blk2 V d 2 t (ix3 0 p q) = V d (Proc.devRef .tc main_v26) (ix3 b p q) := by
  have hx : ∀ t : Fin cfg2.N, win2_2.index t = ![t.val, 0, 0] := by decide +kernel
  refine congrArg (V d (Proc.devRef .tc main_v26)) (funext fun a => Fin.ext ((emb_batch win2_2 t _ a).trans ?_))
  rw [hx]
  fin_cases a
  · exact (show t.val * 1 + 0 = b.val by omega)
  · exact (Nat.zero_mul _).symm ▸ Nat.zero_add _
  · exact (Nat.zero_mul _).symm ▸ Nat.zero_add _

theorem outward_at (V : Dev nD → Valuation τ sig (Elt F)) (d : Dev nD) (t : Fin cfg2.N) (b : Fin 4) (ht : t.val = b.val) (p q : Fin 512) :
    Region.blk2 V d 3 t (ix3 0 p q) = V d (Proc.devRef .tc main_v27) (ix3 b p q) := by
  have hx : ∀ t : Fin cfg2.N, win2_3.index t = ![t.val, 0, 0] := by decide +kernel
  refine congrArg (V d (Proc.devRef .tc main_v27)) (funext fun a => Fin.ext ((emb_batch win2_3 t _ a).trans ?_))
  rw [hx]
  fin_cases a
  · exact (show t.val * 1 + 0 = b.val by omega)
  · exact (Nat.zero_mul _).symm ▸ Nat.zero_add _
  · exact (Nat.zero_mul _).symm ▸ Nat.zero_add _

end Any

end Cert.Proof.KernelBlocks

end
-- ==== Proof.Spec.lean ====
/-
  The mathematics both programs compute, as functions of extended reals over plain indices: one gated graph step, the
  fused features and their maximum over the nodes, the result, the maximum of a node's points, and the lemmas that a
  graph padded with zero columns steps like the graph itself.
-/
module

public import Idealize.ShloMosaic.Lib.Pointwise
public import Mathlib.Algebra.BigOperators.Fin

@[expose] public section

set_option maxRecDepth 16384

noncomputable section

namespace Cert.Proof.Spec

open Idealize.ShloMosaic

/-! ### Sums and maxima over a padded range -/

/-- A sum whose terms vanish from `n` on is the sum of its first `n` terms. -/
theorem sum_first {n m : ℕ} (h : n ≤ m) (f : Fin m → EReal) (hf : ∀ i : Fin m, n ≤ i.val → f i = 0) :
    ∑ i, f i = ∑ i : Fin n, f ⟨i.val, i.isLt.trans_le h⟩ := by
  obtain ⟨d, rfl⟩ := Nat.exists_eq_add_of_le h
  rw [Fin.sum_univ_add, Finset.sum_eq_zero (s := Finset.univ) (f := fun i => f (Fin.natAdd n i)), add_zero]
  · rfl
  · exact fun i _ => hf _ (by simp)

/-- A sum over `n + d` terms is the sum of the first `n` and of the last `d`. -/
theorem sum_split {n d m : ℕ} (h : m = n + d) (f : Fin m → EReal) :
    ∑ i, f i = (∑ i : Fin n, f ⟨i.val, by omega⟩) + ∑ i : Fin d, f ⟨n + i.val, by omega⟩ := by
  subst h
  rw [Fin.sum_univ_add]
  rfl

/-- The maximum of a family from the least element is its supremum. -/
theorem fold_max_eq_sup {n : ℕ} (f : Fin n → EReal) : Finset.fold max ⊥ f Finset.univ = Finset.univ.sup f := rfl

/-- A maximum whose terms are the least element from `n` on is the maximum of its first `n` terms. -/
theorem fold_first {n m : ℕ} (h : n ≤ m) (f : Fin m → EReal) (hf : ∀ i : Fin m, n ≤ i.val → f i = ⊥) :
    Finset.fold max ⊥ f Finset.univ = Finset.fold max ⊥ (fun i : Fin n => f ⟨i.val, i.isLt.trans_le h⟩) Finset.univ := by
  rw [fold_max_eq_sup, fold_max_eq_sup]
  apply le_antisymm
  · refine Finset.sup_le fun i _ => ?_
    by_cases hi : n ≤ i.val
    · rw [hf i hi]; exact bot_le
    · exact Finset.le_sup (f := fun i : Fin n => f ⟨i.val, i.isLt.trans_le h⟩) (Finset.mem_univ ⟨i.val, by omega⟩)
  · exact Finset.sup_le fun i _ => Finset.le_sup (f := f) (Finset.mem_univ _)

/-! ### One gated step of the graph network -/

variable {n : ℕ}

/-- What a node gathers along the edges of one direction: the states times a weight, summed over the row of the graph. -/
def gather (A : Fin n → Fin n → EReal) (W : Fin 512 → Fin 512 → EReal) (s : Fin n → Fin 512 → EReal) (p : Fin n) (c : Fin 512) :
    EReal :=
  ∑ q, A p q * ∑ k, s q k * W k c

/-- Three arrays of 512 columns side by side. -/
def beside (a b s : Fin n → Fin 512 → EReal) (p : Fin n) (k : Fin 1536) : EReal :=
  if h : k.val < 512 then a p ⟨k.val, h⟩
  else if h : k.val - 512 < 512 then b p ⟨k.val - 512, h⟩ else s p ⟨k.val - 512 - 512, by omega⟩

theorem beside_last (a b s : Fin n → Fin 512 → EReal) (p : Fin n) (k : Fin 1536) (h : 1024 ≤ k.val) :
    beside a b s p k = s p ⟨k.val - 512 - 512, by omega⟩ := by
  unfold beside
  rw [dif_neg (by omega), dif_neg (by omega)]

/-- A product with a weight of 1536 rows. -/
def times (x : Fin n → Fin 1536 → EReal) (W : Fin 1536 → Fin 512 → EReal) (p : Fin n) (c : Fin 512) : EReal :=
  ∑ k, x p k * W k c

/-- A gate: the logistic function of a product. -/
def gate (x : Fin n → Fin 1536 → EReal) (W : Fin 1536 → Fin 512 → EReal) (p : Fin n) (c : Fin 512) : EReal :=
  Ideal.logistic (times x W p c)

/-- The step from what is gathered: the update gate, the reset gate, the candidate state, and their mixture. -/
def mix (a o s : Fin n → Fin 512 → EReal) (Wz Wr Wh : Fin 1536 → Fin 512 → EReal) (p : Fin n) (c : Fin 512) : EReal :=
  (1 - gate (beside a o s) Wz p c) * s p c
    + gate (beside a o s) Wz p c
      * Ideal.tanh (times (beside a o fun p k => gate (beside a o s) Wr p k * s p k) Wh p c)

/-- One step of the network on the states `s`. -/
def step (Ai Ao : Fin n → Fin n → EReal) (Wi Wo : Fin 512 → Fin 512 → EReal) (Wz Wr Wh : Fin 1536 → Fin 512 → EReal)
    (s : Fin n → Fin 512 → EReal) : Fin n → Fin 512 → EReal :=
  mix (gather Ai Wi s) (gather Ao Wo s) s Wz Wr Wh

/-- The rows of the larger array that the smaller has, equal. -/
def Same {m k : ℕ} (h : n ≤ m) (big : Fin m → Fin k → EReal) (small : Fin n → Fin k → EReal) : Prop :=
  ∀ (p : Fin n) (c : Fin k), big ⟨p.val, p.isLt.trans_le h⟩ c = small p c

/-- The larger graph is the smaller one padded with zero columns, on the smaller one's rows. -/
def Padded {m : ℕ} (h : n ≤ m) (big : Fin m → Fin m → EReal) (small : Fin n → Fin n → EReal) : Prop :=
  ∀ (p : Fin n) (q : Fin m), big ⟨p.val, p.isLt.trans_le h⟩ q = if hq : q.val < n then small p ⟨q.val, hq⟩ else 0

theorem gather_same {m : ℕ} (h : n ≤ m) {A : Fin m → Fin m → EReal} {A' : Fin n → Fin n → EReal} (W : Fin 512 → Fin 512 → EReal)
    {s : Fin m → Fin 512 → EReal} {s' : Fin n → Fin 512 → EReal} (hA : Padded h A A') (hs : Same h s s') :
    Same h (gather A W s) (gather A' W s') := by
  intro p c
  unfold gather
  rw [sum_first h]
  · refine Finset.sum_congr rfl fun q _ => ?_
    rw [hA, dif_pos q.isLt]
    congr 1
    exact Finset.sum_congr rfl fun k _ => by rw [hs]
  · intro q hq
    rw [hA, dif_neg (by omega), zero_mul]

theorem beside_same {m : ℕ} (h : n ≤ m) {a b s : Fin m → Fin 512 → EReal} {a' b' s' : Fin n → Fin 512 → EReal}
    (ha : Same h a a') (hb : Same h b b') (hs : Same h s s') : Same h (beside a b s) (beside a' b' s') := by
  intro p k
  unfold beside
  simp only [ha p, hb p, hs p]

theorem times_same {m : ℕ} (h : n ≤ m) {x : Fin m → Fin 1536 → EReal} {x' : Fin n → Fin 1536 → EReal}
    (W : Fin 1536 → Fin 512 → EReal) (hx : Same h x x') : Same h (times x W) (times x' W) := by
  intro p c
  unfold times
  simp only [hx p]

theorem gate_same {m : ℕ} (h : n ≤ m) {x : Fin m → Fin 1536 → EReal} {x' : Fin n → Fin 1536 → EReal}
    (W : Fin 1536 → Fin 512 → EReal) (hx : Same h x x') : Same h (gate x W) (gate x' W) := by
  intro p c
  unfold gate
  rw [times_same h W hx p c]

theorem mix_same {m : ℕ} (h : n ≤ m) {a o s : Fin m → Fin 512 → EReal} {a' o' s' : Fin n → Fin 512 → EReal}
    (Wz Wr Wh : Fin 1536 → Fin 512 → EReal) (ha : Same h a a') (ho : Same h o o') (hs : Same h s s') :
    Same h (mix a o s Wz Wr Wh) (mix a' o' s' Wz Wr Wh) := by
  intro p c
  unfold mix
  have hb := beside_same h ha ho hs
  rw [gate_same h Wz hb p c, hs p c, times_same h Wh (beside_same h ha ho (s' := fun p k => gate (beside a' o' s') Wr p k * s' p k) ?_) p c]
  intro p k
  show gate _ Wr _ _ * s _ _ = _
  rw [gate_same h Wr hb p k, hs p k]

/-- A step on the padded graph is, on the rows of the graph, the step on the graph. -/
theorem step_same {m : ℕ} (h : n ≤ m) {Ai Ao : Fin m → Fin m → EReal} {Ai' Ao' : Fin n → Fin n → EReal}
    (Wi Wo : Fin 512 → Fin 512 → EReal) (Wz Wr Wh : Fin 1536 → Fin 512 → EReal) {s : Fin m → Fin 512 → EReal}
    {s' : Fin n → Fin 512 → EReal} (hi : Padded h Ai Ai') (ho : Padded h Ao Ao') (hs : Same h s s') :
    Same h (step Ai Ao Wi Wo Wz Wr Wh s) (step Ai' Ao' Wi Wo Wz Wr Wh s') :=
  mix_same h Wz Wr Wh (gather_same h Wi hi hs) (gather_same h Wo ho hs) hs

/-- So are all the steps. -/
theorem steps_same {m : ℕ} (h : n ≤ m) {Ai Ao : Fin m → Fin m → EReal} {Ai' Ao' : Fin n → Fin n → EReal}
    (Wi Wo : Fin 512 → Fin 512 → EReal) (Wz Wr Wh : Fin 1536 → Fin 512 → EReal) {s : Fin m → Fin 512 → EReal}
    {s' : Fin n → Fin 512 → EReal} (hi : Padded h Ai Ai') (ho : Padded h Ao Ao') (hs : Same h s s') (t : ℕ) :
    Same h ((step Ai Ao Wi Wo Wz Wr Wh)^[t] s) ((step Ai' Ao' Wi Wo Wz Wr Wh)^[t] s') := by
  induction t with
  | zero => exact hs
  | succ t ih => rw [Function.iterate_succ_apply', Function.iterate_succ_apply']; exact step_same h Wi Wo Wz Wr Wh hi ho ih

/-! ### The result of a batch -/

/-- A node's features: the 256 pooled ones, then the 6 given. -/
def feat (P : Fin 407 → Fin 256 → EReal) (N : Fin 407 → Fin 6 → EReal) (p : Fin 407) (k : Fin 262) : EReal :=
  if h : k.val < 256 then P p ⟨k.val, h⟩ else N p ⟨k.val - 256, by omega⟩

/-- The features padded with zeros to the width of the states. -/
def start (f : Fin 407 → Fin 262 → EReal) (p : Fin 407) (k : Fin 512) : EReal :=
  if h : k.val < 262 then f p ⟨k.val, h⟩ else 0

/-- The fused features: the states and the features times a weight, through tanh. -/
def fused (S : Fin 407 → Fin 512 → EReal) (f : Fin 407 → Fin 262 → EReal) (Wo : Fin 774 → Fin 512 → EReal) (p : Fin 407) (c : Fin 512) :
    EReal :=
  Ideal.tanh (∑ k : Fin 774, (if h : k.val < 512 then S p ⟨k.val, h⟩ else f p ⟨k.val - 512, by omega⟩) * Wo k c)

/-- The largest of each global feature over the nodes. -/
def largest (u : Fin 407 → Fin 512 → EReal) (Wg : Fin 512 → Fin 1024 → EReal) (c : Fin 1024) : EReal :=
  Finset.fold max ⊥ (fun p => ∑ k, u p k * Wg k c) Finset.univ

/-- The result of a batch: the global features, the fused ones, the pooled ones, a row each, over the nodes. -/
def result (S : Fin 407 → Fin 512 → EReal) (P : Fin 407 → Fin 256 → EReal) (N : Fin 407 → Fin 6 → EReal)
    (Wo : Fin 774 → Fin 512 → EReal) (Wg : Fin 512 → Fin 1024 → EReal) (r : Fin 1792) (p : Fin 407) : EReal :=
  if h : r.val < 1024 then largest (fused S (feat P N) Wo) Wg ⟨r.val, h⟩
  else if h : r.val < 1536 then fused S (feat P N) Wo p ⟨r.val - 1024, by omega⟩
  else P p ⟨r.val - 1536, by omega⟩

/-- The fused features from the two halves of the weight, the second padded with zero rows. -/
theorem fused_halves (S : Fin 407 → Fin 512 → EReal) (f : Fin 407 → Fin 262 → EReal) (Wo : Fin 774 → Fin 512 → EReal)
    (p : Fin 407) (c : Fin 512) :
    Ideal.tanh ((∑ k : Fin 512, S p k * Wo ⟨k.val, by omega⟩ c)
      + ∑ k : Fin 512, start f p k * (if h : k.val < 262 then Wo ⟨512 + k.val, by omega⟩ c else 0)) = fused S f Wo p c := by
  unfold fused
  rw [sum_split (n := 512) (d := 262) rfl, sum_first (n := 262) (m := 512) (by decide)
    (fun k : Fin 512 => start f p k * (if h : k.val < 262 then Wo ⟨512 + k.val, by omega⟩ c else 0))]
  · refine congrArg Ideal.tanh (congrArg₂ (· + ·) (Finset.sum_congr rfl fun k _ => ?_) (Finset.sum_congr rfl fun k _ => ?_))
    · rw [dif_pos k.isLt]
    · have hk : k.val < 262 := k.isLt
      have e : (⟨512 + k.val - 512, by omega⟩ : Fin 262) = k := Fin.ext (by simp)
      unfold start
      have hk' : ¬512 + k.val < 512 := by omega
      rw [dif_pos hk, dif_pos hk, dif_neg hk', e]
  · intro k hk
    rw [dif_neg (by omega), mul_zero]

/-! ### The points of a node -/

/-- The largest feature of the points of a node, zero for a node without points. -/
def pooled {l : ℕ} (seg : Fin l → ℕ) (h : Fin l → EReal) (p : ℕ) : EReal :=
  if ∃ i, seg i = p then Finset.fold max ⊥ (fun i => if seg i = p then h i else ⊥) Finset.univ else 0

/-- The maximum grows by one term at a time. -/
theorem fold_succ {l : ℕ} (f : ℕ → EReal) :
    Finset.fold max ⊥ (fun i : Fin (l + 1) => f i.val) Finset.univ = max (Finset.fold max ⊥ (fun i : Fin l => f i.val) Finset.univ) (f l) := by
  rw [fold_max_eq_sup, fold_max_eq_sup]
  apply le_antisymm
  · refine Finset.sup_le fun i _ => ?_
    by_cases h : i.val = l
    · rw [h]; exact le_max_right _ _
    · exact le_max_of_le_left (Finset.le_sup (f := fun i : Fin l => f i.val) (Finset.mem_univ ⟨i.val, by omega⟩))
  · refine max_le (Finset.sup_le fun i _ => ?_) ?_
    · exact Finset.le_sup (f := fun i : Fin (l + 1) => f i.val) (Finset.mem_univ ⟨i.val, by omega⟩)
    · exact Finset.le_sup (f := fun i : Fin (l + 1) => f i.val) (Finset.mem_univ ⟨l, by omega⟩)

/-- The maximum over a node's points is above the least element exactly when the node has a point, if no feature is the least element. -/
theorem pooled_of_max {l : ℕ} (seg : Fin l → ℕ) (h : Fin l → EReal) (p : ℕ) (hh : ∀ i, h i ≠ ⊥) :
    (if (⊥ : EReal) < Finset.fold max ⊥ (fun i => if seg i = p then h i else ⊥) Finset.univ
      then Finset.fold max ⊥ (fun i => if seg i = p then h i else ⊥) Finset.univ else 0) = pooled seg h p := by
  unfold pooled
  by_cases e : ∃ i, seg i = p
  · rw [if_pos e, if_pos]
    obtain ⟨i, hi⟩ := e
    rw [fold_max_eq_sup]
    refine lt_of_lt_of_le (bot_lt_iff_ne_bot.mpr (hh i)) ?_
    have := Finset.le_sup (f := fun i => if seg i = p then h i else ⊥) (Finset.mem_univ i)
    simpa only [hi, if_true] using this
  · rw [if_neg e, if_neg]
    rw [fold_max_eq_sup]
    have : Finset.univ.sup (fun i => if seg i = p then h i else (⊥ : EReal)) = ⊥ :=
      (Finset.sup_eq_bot_iff _ _).mpr fun i _ => if_neg fun hi => e ⟨i, hi⟩
    rw [this]; exact lt_irrefl _

/-- A count of a node's points is positive exactly when the node has a point. -/
theorem pooled_of_count {l : ℕ} (seg : Fin l → ℕ) (h : Fin l → EReal) (p : ℕ) :
    (if (0 : EReal) < ∑ i, (if seg i = p then 1 else 0)
      then Finset.fold max ⊥ (fun i => if seg i = p then h i else ⊥) Finset.univ else 0) = pooled seg h p := by
  unfold pooled
  by_cases e : ∃ i, seg i = p
  · rw [if_pos e, if_pos]
    obtain ⟨i, hi⟩ := e
    have := Finset.single_le_sum (f := fun i => if seg i = p then (1 : EReal) else 0) (fun j _ => by split_ifs <;> simp) (Finset.mem_univ i)
    refine lt_of_lt_of_le ?_ this
    simp [hi]
  · rw [if_neg e, if_neg]
    have : (∑ i, if seg i = p then (1 : EReal) else 0) = 0 := Finset.sum_eq_zero fun i _ => if_neg fun hi => e ⟨i, hi⟩
    rw [this]; exact lt_irrefl _

/-! ### The layers of a point -/

/-- A point's features: two layers with their negative part cut off, and a third. -/
def layers (x : Fin 12 → EReal) (w1 : Fin 12 → Fin 64 → EReal) (w2 : Fin 64 → Fin 128 → EReal) (w3 : Fin 128 → Fin 256 → EReal) (c : Fin 256) :
    EReal :=
  ∑ a, max (∑ b, max (∑ k, x k * w1 k b) 0 * w2 b a) 0 * w3 a c

/-- Neither infinity: the real number it is. -/
def Finite (x : EReal) : Prop := ∃ r : ℝ, x = (r : EReal)

theorem Finite.of_ne {x : EReal} (hb : x ≠ ⊥) (ht : x ≠ ⊤) : Finite x := ⟨x.toReal, (EReal.coe_toReal ht hb).symm⟩
theorem Finite.ne_bot {x : EReal} (h : Finite x) : x ≠ ⊥ := by obtain ⟨r, rfl⟩ := h; exact EReal.coe_ne_bot r
theorem Finite.zero : Finite 0 := ⟨0, rfl⟩
theorem Finite.mul {x y : EReal} (hx : Finite x) (hy : Finite y) : Finite (x * y) := by
  obtain ⟨r, rfl⟩ := hx; obtain ⟨s, rfl⟩ := hy; exact ⟨r * s, (EReal.coe_mul r s).symm⟩
theorem Finite.add {x y : EReal} (hx : Finite x) (hy : Finite y) : Finite (x + y) := by
  obtain ⟨r, rfl⟩ := hx; obtain ⟨s, rfl⟩ := hy; exact ⟨r + s, (EReal.coe_add r s).symm⟩
theorem Finite.max {x y : EReal} (hx : Finite x) (hy : Finite y) : Finite (max x y) := by
  rcases max_choice x y with h | h <;> rw [h] <;> assumption
theorem Finite.sum {l : ℕ} {f : Fin l → EReal} (h : ∀ i, Finite (f i)) : Finite (∑ i, f i) :=
  Finset.sum_induction _ Finite (fun _ _ => Finite.add) Finite.zero fun i _ => h i

/-- The features of a finite point by finite weights are finite. -/
theorem layers_finite {x : Fin 12 → EReal} {w1 : Fin 12 → Fin 64 → EReal} {w2 : Fin 64 → Fin 128 → EReal} {w3 : Fin 128 → Fin 256 → EReal}
    (hx : ∀ k, Finite (x k)) (h1 : ∀ k b, Finite (w1 k b)) (h2 : ∀ b a, Finite (w2 b a)) (h3 : ∀ a c, Finite (w3 a c)) (c : Fin 256) :
    Finite (layers x w1 w2 w3 c) :=
  .sum fun a => .mul (.max (.sum fun b => .mul (.max (.sum fun k => .mul (hx k) (h1 k b)) .zero) (h2 b a)) .zero) (h3 a c)

/-! ## The whole computation -/

variable (pts : Fin 4 → Fin 2048 → Fin 13 → EReal) (seg : Fin 4 → Fin 2048 → ℕ) (nodes : Fin 4 → Fin 407 → Fin 6 → EReal)
  (graph : Fin 4 → Fin 407 → Fin 814 → EReal) (w1 : Fin 12 → Fin 64 → EReal) (w2 : Fin 64 → Fin 128 → EReal) (w3 : Fin 128 → Fin 256 → EReal)
  (Wi Wo : Fin 512 → Fin 512 → EReal) (Wz Wr Wh : Fin 1536 → Fin 512 → EReal) (Wout : Fin 774 → Fin 512 → EReal)
  (Wg : Fin 512 → Fin 1024 → EReal)

/-- A batch's pooled features: the largest of each node's points, zero for a node without points. -/
def pool (b : Fin 4) (p : Fin 407) (c : Fin 256) : EReal :=
  pooled (seg b) (fun i => layers (fun k => pts b i ⟨k.val, by omega⟩) w1 w2 w3 c) p.val

/-- A batch's states after ten steps from the padded features, over the two halves of its graph. -/
def states (b : Fin 4) : Fin 407 → Fin 512 → EReal :=
  (step (fun p q => graph b p ⟨q.val, by omega⟩) (fun p q => graph b p ⟨407 + q.val, by omega⟩) Wi Wo Wz Wr Wh)^[10]
    (start (feat (pool pts seg w1 w2 w3 b) (nodes b)))

/-- The result at a batch, a feature and a node. -/
def answer (b : Fin 4) (r : Fin 1792) (p : Fin 407) : EReal :=
  result (states pts seg nodes graph w1 w2 w3 Wi Wo Wz Wr Wh b) (pool pts seg w1 w2 w3 b) (nodes b) Wout Wg r p

end Cert.Proof.Spec

end
-- ==== Proof.GraphValue.lean ====
/-
  The graph call's values: what one grid point stores, as the mathematics of a batch.
-/
module

public import proofs.«01_k».proof.Proof.Ggnn
public import proofs.«01_k».proof.Proof.Spec

@[expose] public section

set_option maxRecDepth 16384

noncomputable section

namespace Cert.Proof.GraphValue

open Cert.KernelIdeal Cert.KernelIdeal.Gen
open Idealize.ShloMosaic
open Cert.Proof.Spec

variable [Cert.KernelIdeal.Facts]

/-- The named constants are the least element. -/
theorem named_neg (b : BitVec (FTy.f32).bits) : (Named.named κ "neg" b : Ideal .f32) = (⊥ : EReal) := rfl
theorem named_neg_test (b : BitVec (FTy.f32).bits) : (Named.named κ "neg_test" b : Ideal .f32) = (⊥ : EReal) := rfl

theorem ofBits_neg_inf : Ideal.ofBits .f32 0xFF800000#32 = ⊥ := by simp [Ideal.ofBits, Ideal.ieee]

/-- One step of the kernel at a row and a column. -/
theorem step_apply (ai ao : Vec Ideal S1x512x512 .bf16) (wio : Vec Ideal S512x1024 .bf16) (wzr : Vec Ideal S1536x1024 .bf16)
    (wh : Vec Ideal S1536x512 .bf16) (s : Vec Ideal S512x512 .f32) (p c : Fin 512) :
    Ggnn.stepOf ai ao wio wzr wh s (ix2 p c)
      = step (fun p q => ai (ix3 0 p q)) (fun p q => ao (ix3 0 p q)) (fun k c => wio (ix2 k ⟨c.val, by omega⟩))
          (fun k c => wio (ix2 k ⟨512 + c.val, by omega⟩)) (fun k c => wzr (ix2 k ⟨c.val, by omega⟩))
          (fun k c => wzr (ix2 k ⟨512 + c.val, by omega⟩)) (fun k c => wh (ix2 k c)) (fun p c => s (ix2 p c)) p c := by
  pointwise [Ggnn.stepOf, k2_pay11, k2_pay8, k2_pay9, k2_pay10]
  unfold step mix
  refine congrArg₂ (· + ·) rfl (congrArg₂ (· * ·) rfl (congrArg Ideal.tanh (Finset.sum_congr rfl fun x _ => ?_)))
  refine congrArg₂ (· * ·) ?_ rfl
  by_cases h1 : x.val < 1024
  · rw [dif_pos h1]
    unfold beside
    by_cases h2 : x.val < 512
    · rw [dif_pos h2, dif_pos h2]; rfl
    · rw [dif_neg h2, dif_neg h2, dif_pos (by omega), dif_pos (by omega)]; rfl
  · have hx := x.isLt
    have e : (⟨x.val - 1024, by omega⟩ : Fin 512) = ⟨x.val - 512 - 512, by omega⟩ := Fin.ext (by show x.val - 1024 = x.val - 512 - 512; omega)
    rw [dif_neg h1]
    refine (congrArg (fun j : Fin 512 => gate (beside (gather (fun p q => ai (ix3 0 p q)) (fun k c => wio (ix2 k ⟨c.val, by omega⟩)) fun p c => s (ix2 p c))
      (gather (fun p q => ao (ix3 0 p q)) (fun k c => wio (ix2 k ⟨512 + c.val, by omega⟩)) fun p c => s (ix2 p c)) fun p c => s (ix2 p c))
      (fun k c => wzr (ix2 k ⟨512 + c.val, by omega⟩)) p j * s (ix2 p j)) e).trans ?_
    rw [beside_last _ _ _ p x (by omega)]

/-- The first rows and columns of the states. -/
theorem state_apply (ai ao : Vec Ideal S1x512x512 .bf16) (wio : Vec Ideal S512x1024 .bf16) (wzr : Vec Ideal S1536x1024 .bf16)
    (wh : Vec Ideal S1536x512 .bf16) (s : Vec Ideal S512x512 .f32) (n : ℕ) :
    (fun p c => Ggnn.stateOf ai ao wio wzr wh s n (ix2 p c))
      = (step (fun p q => ai (ix3 0 p q)) (fun p q => ao (ix3 0 p q)) (fun k c => wio (ix2 k ⟨c.val, by omega⟩))
          (fun k c => wio (ix2 k ⟨512 + c.val, by omega⟩)) (fun k c => wzr (ix2 k ⟨c.val, by omega⟩))
          (fun k c => wzr (ix2 k ⟨512 + c.val, by omega⟩)) (fun k c => wh (ix2 k c)))^[n] (fun p c => s (ix2 p c)) := by
  induction n with
  | zero => rfl
  | succ n ih =>
    rw [Function.iterate_succ_apply', ← ih]
    funext p c
    exact step_apply ai ao wio wzr wh _ p c

/-- The fused features of the kernel at a row and a column. -/
theorem fused_apply (wos woa : Vec Ideal S512x512 .bf16) (st ann : Vec Ideal S512x512 .f32) (p c : Fin 512) :
    k2_pay12 wos woa st ann (ix2 p c)
      = Ideal.tanh ((∑ k : Fin 512, st (ix2 p k) * wos (ix2 k c)) + ∑ k : Fin 512, ann (ix2 p k) * woa (ix2 k c)) := by
  pointwise [k2_pay12]

/-- The global features of the kernel. -/
theorem largest_apply (wos woa : Vec Ideal S512x512 .bf16) (wg : Vec Ideal S512x1024 .bf16) (st ann : Vec Ideal S512x512 .f32)
    (r : Fin 1024) (p : Fin 407) :
    k2_pay13 wos woa wg st ann (ix2 r p)
      = Finset.fold max ⊥ (fun q : Fin 407 => ∑ k, k2_pay12 wos woa st ann (ix2 ⟨q.val, by omega⟩ k) * wg (ix2 k r)) Finset.univ := by
  pointwise [k2_pay13]
  rw [ofBits_neg_inf, fold_first (n := 407) (by decide)]
  · congr 1
    funext q
    have h : IntOp.cmpi CmpIPredicate.slt (BitVec.ofNat 32 q.val) 407#32 = 1#1 := by
      have := q.isLt
      revert q; decide +kernel
    rw [h]
    rfl
  · intro q hq
    have h : IntOp.cmpi CmpIPredicate.slt (BitVec.ofNat 32 q.val) 407#32 = 0#1 := by
      revert q; decide +kernel
    rw [h]
    rfl

theorem pay1_apply (v : FVec Ideal S1024x407 .f32) (r : Fin 1024) (p : Fin 407) : k2_pay1 v (ix3 0 r p) = v (ix2 r p) := by
  pointwise [k2_pay1]

theorem pay2_apply (v : FVec Ideal S512x512 .f32) (r : Fin 512) (p : Fin 407) :
    k2_pay2 v (ix3 0 r p) = v (ix2 ⟨p.val, by omega⟩ r) := by
  pointwise [k2_pay2]

theorem pay3_apply (v : Vec Ideal S512x512 .f32) (r : Fin 256) (p : Fin 407) :
    k2_pay3 v (ix3 0 r p) = v (ix2 ⟨p.val, by omega⟩ ⟨r.val, by omega⟩) := by
  pointwise [k2_pay3]

/-- What a grid point stores, from what its operands are. -/
theorem out_apply (ann st : Vec Ideal S512x512 .f32) (wos woa : Vec Ideal S512x512 .bf16) (wg : Vec Ideal S512x1024 .bf16)
    (S : Fin 407 → Fin 512 → EReal) (P : Fin 407 → Fin 256 → EReal) (N : Fin 407 → Fin 6 → EReal)
    (Wo : Fin 774 → Fin 512 → EReal) (Wg : Fin 512 → Fin 1024 → EReal)
    (hst : ∀ (p : Fin 407) k, st (ix2 ⟨p.val, by omega⟩ k) = S p k)
    (hann : ∀ (p : Fin 407) k, ann (ix2 ⟨p.val, by omega⟩ k) = start (feat P N) p k)
    (hwos : ∀ k c, wos (ix2 k c) = Wo ⟨k.val, by omega⟩ c)
    (hwoa : ∀ k c, woa (ix2 k c) = if h : k.val < 262 then Wo ⟨512 + k.val, by omega⟩ c else 0)
    (hwg : ∀ k c, wg (ix2 k c) = Wg k c) (r : Fin 1792) (p : Fin 407) :
    Ggnn.outOf ann st wos woa wg (ix3 0 r p) = result S P N Wo Wg r p := by
  have hf : ∀ (p : Fin 407) k, k2_pay12 wos woa st ann (ix2 ⟨p.val, by omega⟩ k) = fused S (feat P N) Wo p k := by
    intro p k
    rw [fused_apply, ← fused_halves]
    simp only [hst, hann, hwos, hwoa]
  unfold Ggnn.outOf Ggnn.glue result
  have hr := r.isLt
  by_cases h1 : r.val < 1024
  · rw [dif_pos (show ((ix3 (0 : Fin 1) r p : S1x1792x407.Idx) 1).val < 1024 from h1), dif_pos h1]
    refine (pay1_apply _ ⟨r.val, h1⟩ p).trans ((largest_apply wos woa wg st ann ⟨r.val, h1⟩ p).trans ?_)
    unfold largest
    simp only [hf, hwg]
  rw [dif_neg (show ¬((ix3 (0 : Fin 1) r p : S1x1792x407.Idx) 1).val < 1024 from h1), dif_neg h1]
  by_cases h2 : r.val < 1536
  · rw [dif_pos (show ((ix3 (0 : Fin 1) r p : S1x1792x407.Idx) 1).val - 1024 < 512 from by show r.val - 1024 < 512; omega), dif_pos h2]
    exact (pay2_apply _ ⟨r.val - 1024, by omega⟩ p).trans (hf p _)
  · rw [dif_neg (show ¬((ix3 (0 : Fin 1) r p : S1x1792x407.Idx) 1).val - 1024 < 512 from by show ¬r.val - 1024 < 512; omega), dif_neg h2]
    refine (pay3_apply ann ⟨r.val - 1536, by omega⟩ p).trans ((hann p _).trans ?_)
    unfold start feat
    rw [dif_pos (show r.val - 1536 < 262 by omega), dif_pos (show r.val - 1536 < 256 by omega)]

theorem pay5_apply (v : Vec Ideal S407x256 .f32) (x : S407x256.Idx) : k2_pay5 v x = if (⊥ : EReal) < v x then v x else (0 : EReal) := by
  idx_vars x
  pointwise [k2_pay5]
  rw [named_neg_test]

theorem pay6_apply (v : Vec Ideal S1x407x6 .f32) (x : S407x6.Idx) : k2_pay6 v x = v (ix3 0 (x 0) (x 1)) := by
  idx_vars x
  pointwise [k2_pay6]

/-- The node features at a node and a column: pooled where the maximum is above the least element, then those given, then zeros. -/
theorem ann_apply (i : grid2.Coords) (A : Vec Ideal S2048x256 .f32) (N : Vec Ideal S1x407x6 .f32) (p : Fin 407) (k : Fin 512) :
    Ggnn.annOf i A N (ix2 ⟨p.val, by omega⟩ k)
      = start (feat (fun p c => if (⊥ : EReal) < A (ix2 ⟨512 * (i 0).val + p.val, by have : (i 0).val < 4 := (i 0).isLt; omega⟩ c)
            then A (ix2 ⟨512 * (i 0).val + p.val, by have : (i 0).val < 4 := (i 0).isLt; omega⟩ c) else 0)
          (fun p c => N (ix3 0 p c))) p k := by
  have hi : (i 0).val < 4 := (i 0).isLt
  have hoff : ∀ i : grid2.Coords, k2_off1 i = ![512 * (i 0).val, 0] := by decide +kernel
  have hk := k.isLt
  have hp := p.isLt
  unfold Ggnn.annOf start feat
  unfold VecWindow.put
  by_cases h1 : 256 ≤ k.val ∧ k.val < 262
  · rw [dif_pos (show ∀ a, _ from fun a => by fin_cases a; exacts [⟨Nat.zero_le _, show p.val < 0 + 407 by omega⟩, ⟨h1.1, show k.val < 256 + 6 by omega⟩]),
      dif_pos h1.2, dif_neg (show ¬k.val < 256 by omega)]
    refine (pay6_apply N _).trans (congrArg N ?_)
    refine congrArg₂ (fun (a : Fin 407) (b : Fin 6) => (ix3 0 a b : S1x407x6.Idx)) (Fin.ext ?_) (Fin.ext ?_)
    · show p.val - 0 = p.val; omega
    · show k.val - 256 = k.val - 256; rfl
  · rw [dif_neg (fun h => h1 ⟨(h 1).1, (h 1).2⟩)]
    by_cases h2 : k.val < 256
    · rw [dif_pos (show ∀ a, _ from fun a => by fin_cases a; exacts [⟨Nat.zero_le _, show p.val < 0 + 407 by omega⟩, ⟨Nat.zero_le _, show k.val < 0 + 256 by omega⟩]),
        dif_pos (show k.val < 262 by omega), dif_pos h2]
      refine (pay5_apply _ _).trans ?_
      have e : ∀ (h' : p.val < 512) (h : ∀ a : Fin S512x512.rank, (![0, 0] : Fin S512x512.rank → ℕ) a ≤ ((ix2 ⟨p.val, h'⟩ k : S512x512.Idx) a).val
          ∧ ((ix2 ⟨p.val, h'⟩ k : S512x512.Idx) a).val < (![0, 0] : Fin S512x512.rank → ℕ) a + S407x256.size a), VecWindow.window (s := S2048x256) A (k2_off1 i) S407x256.size (k2_off1_inb i)
          (Rect.unitLocal (s := S512x512) (off := ![0, 0]) (size := S407x256.size) (ix2 ⟨p.val, h'⟩ k) h)
          = A (ix2 ⟨512 * (i 0).val + p.val, by omega⟩ ⟨k.val, h2⟩) := by
        intro h' h
        refine congrArg A ?_
        funext a; refine Fin.ext ?_
        fin_cases a
        · show k2_off1 i 0 + 1 * (p.val - 0) = 512 * (i 0).val + p.val
          rw [hoff]; show 512 * (i 0).val + 1 * (p.val - 0) = _; omega
        · show k2_off1 i 1 + 1 * (k.val - 0) = k.val
          rw [hoff]; show 0 + 1 * (k.val - 0) = _; omega
      rw [e]
    · rw [dif_neg (fun h => h2 (by have := (h 1).2; change k.val < 0 + 256 at this; omega)), dif_neg (show ¬k.val < 262 by omega)]
      pointwise [k2_pay4]

end Cert.Proof.GraphValue

end
-- ==== Proof.PoolValue.lean ====
/-
  The SparseCore call's values: what stands at a node and a column of its unpacked result is the largest feature of the
  node's points, the least element for a node without points.
-/
module

public import proofs.«01_k».proof.Proof.Task
public import proofs.«01_k».proof.Proof.Spec

@[expose] public section

set_option maxRecDepth 16384

noncomputable section

namespace Cert.Proof.PoolValue

open Cert.KernelIdeal Cert.KernelIdeal.Gen
open Idealize.ShloMosaic
open Cert.Proof.Spec Cert.Proof.Segmax

/-- The accumulator after `n` points: each row the largest of the points that name it. -/
theorem acc_apply (seg : ℕ → ℕ) (pt : ℕ → ℕ → Ideal .f32) (n : ℕ) (p : Fin 512) (l : Fin 32) :
    acc (F := Ideal) (fillVal (F := Ideal)) seg pt n (ix2 p l)
      = Finset.fold max ⊥ (fun i : Fin n => if seg i.val = p.val then (pt i.val l.val : EReal) else ⊥) Finset.univ := by
  induction n with
  | zero => rfl
  | succ n ih =>
    refine Eq.trans ?_ (fold_succ (l := n) (fun i => if seg i = p.val then (pt i l.val : EReal) else ⊥)).symm
    rw [← ih]
    show put (seg n) (pt n) (acc fillVal seg pt n) (ix2 p l) = _
    unfold put
    by_cases h : p.val = seg n
    · refine (if_pos h).trans ?_
      rw [if_pos h.symm]; rfl
    · have h' : ¬seg n = p.val := fun e => h e.symm
      refine (if_neg h).trans ?_
      rw [if_neg h']
      exact (max_eq_left bot_le).symm

variable [Cert.KernelIdeal.Facts]

/-- The packed result at a block, a row and a column. -/
theorem packed_apply (fs : Vec Ideal S8192 .i32) (fh : Vec Ideal S32x512x128 .f32) (w : Fin 32) (r c : Fin 128) :
    packedOut (F := Ideal) fs fh (ix3 w r c)
      = Finset.fold max ⊥ (fun n : Fin 2048 => if (fs (ix1 ⟨w.val / 8 * 2048 + n.val, by omega⟩) : BitVec 32).toNat = 4 * r.val + c.val / 32
          then (fh (ix3 w ⟨n.val / 4, by omega⟩ ⟨32 * (n.val % 4) + c.val % 32, by omega⟩) : EReal) else ⊥) Finset.univ := by
  have hw : 2 * ((taskOf w) 1).val + ((taskOf w) 0).val = w.val := by
    show 2 * (w.val / 2) + w.val % 2 = w.val; omega
  refine (acc_apply _ _ 2048 ⟨4 * r.val + c.val / 32, by omega⟩ ⟨c.val % 32, by omega⟩).trans ?_
  congr 1
  funext n
  have hs : segOf (F := Ideal) (taskOf w) fs n.val = (fs (ix1 ⟨w.val / 8 * 2048 + n.val, by omega⟩) : BitVec 32).toNat := by
    unfold segOf
    simp only [hw]
    rw [dif_pos (by omega)]
  have hp : ptOf (F := Ideal) (taskOf w) fh n.val (c.val % 32) = fh (ix3 w ⟨n.val / 4, by omega⟩ ⟨32 * (n.val % 4) + c.val % 32, by omega⟩) := by
    unfold ptOf
    simp only [hw]
    rw [dif_pos (by omega)]
  show (if segOf (F := Ideal) (taskOf w) fs n.val = 4 * r.val + c.val / 32 then ptOf (F := Ideal) (taskOf w) fh n.val (c.val % 32) else ⊥) = _
  rw [hs, hp]

/-- The call between its two rearrangements: the points' features packed, and the result unpacked, at batch `b`, node `p`, column `c`. -/
theorem unpacked_apply (fs : Vec Ideal S8192 .i32) (X : Vec Ideal S8192x256 .f32) (b : Fin 4) (p : Fin 512) (c : Fin 256) :
    shapeCast S2048x256 (transpose S4x512x8x32 [0, 2, 1, 3] (shapeCast S4x8x512x32
        (packedOut (F := Ideal) fs (shapeCast S32x512x128 (transpose S4x8x2048x32 [0, 2, 1, 3] (shapeCast S4x2048x8x32 X
          shapeCasts_S8192x256_S4x2048x8x32) transposes_S4x2048x8x32_S4x8x2048x32_0_2_1_3) shapeCasts_S4x8x2048x32_S32x512x128))
        shapeCasts_S32x128x128_S4x8x512x32) transposes_S4x8x512x32_S4x512x8x32_0_2_1_3) shapeCasts_S4x512x8x32_S2048x256
        (ix2 ⟨512 * b.val + p.val, by omega⟩ c)
      = Finset.fold max ⊥ (fun n : Fin 2048 => if (fs (ix1 ⟨b.val * 2048 + n.val, by omega⟩) : BitVec 32).toNat = p.val
          then (X (ix2 ⟨b.val * 2048 + n.val, by omega⟩ c) : EReal) else ⊥) Finset.univ := by
  have hp := p.isLt
  have hc := c.isLt
  have e1 : ∀ P : S32x128x128.Idx → EReal, shapeCast S2048x256 (transpose S4x512x8x32 [0, 2, 1, 3] (shapeCast S4x8x512x32 P
        shapeCasts_S32x128x128_S4x8x512x32) transposes_S4x8x512x32_S4x512x8x32_0_2_1_3) shapeCasts_S4x512x8x32_S2048x256
        (ix2 ⟨512 * b.val + p.val, by omega⟩ c) = P (ix3 ⟨b.val * 8 + c.val / 32, by omega⟩ ⟨p.val / 4, by omega⟩ ⟨p.val % 4 * 32 + c.val % 32, by omega⟩) := by
    intro P
    pointwise
  have e2 : ∀ (w : Fin 32) (r : Fin 512) (k : Fin 128), shapeCast S32x512x128 (transpose S4x8x2048x32 [0, 2, 1, 3] (shapeCast S4x2048x8x32 X
          shapeCasts_S8192x256_S4x2048x8x32) transposes_S4x2048x8x32_S4x8x2048x32_0_2_1_3) shapeCasts_S4x8x2048x32_S32x512x128 (ix3 w r k)
      = X (ix2 ⟨w.val / 8 * 2048 + (r.val * 4 + k.val / 32), by omega⟩ ⟨w.val % 8 * 32 + k.val % 32, by omega⟩) := by
    intro w r k
    pointwise
  rw [e1, packed_apply]
  congr 1
  funext n
  rw [e2]
  have hn := n.isLt
  have g1 : (b.val * 8 + c.val / 32) / 8 = b.val := by omega
  have g2 : 4 * (p.val / 4) + (p.val % 4 * 32 + c.val % 32) / 32 = p.val := by omega
  have x1 : (⟨(b.val * 8 + c.val / 32) / 8 * 2048 + n.val, by omega⟩ : Fin 8192) = ⟨b.val * 2048 + n.val, by omega⟩ := Fin.ext (by dsimp only; omega)
  have x2 : (⟨(b.val * 8 + c.val / 32) / 8 * 2048 + (n.val / 4 * 4 + (32 * (n.val % 4) + (p.val % 4 * 32 + c.val % 32) % 32) / 32), by omega⟩ : Fin 8192)
      = ⟨b.val * 2048 + n.val, by omega⟩ := Fin.ext (by dsimp only; omega)
  have x3 : (⟨(b.val * 8 + c.val / 32) % 8 * 32 + (32 * (n.val % 4) + (p.val % 4 * 32 + c.val % 32) % 32) % 32, by omega⟩ : Fin 256) = c :=
    Fin.ext (by dsimp only; omega)
  dsimp only
  rw [g2, x1, x2, x3]

end Cert.Proof.PoolValue

end
-- ==== Proof.KernelValue.lean ====
/-
  The kernel's result at a batch, a feature and a node: the specification's answer on the launch's arguments.
-/
module

public import proofs.«01_k».proof.Proof.Finite
public import proofs.«01_k».proof.Proof.KernelBlocks
public import proofs.«01_k».proof.Proof.GraphValue
public import proofs.«01_k».proof.Proof.PoolValue

@[expose] public section

set_option maxRecDepth 16384

noncomputable section

namespace Cert.Proof.KernelValue

open Cert.KernelIdeal Cert.KernelIdeal.Gen
open Idealize.ShloMosaic Idealize.ShloMosaic.TcCoe
open Idealize.ShloMosaic.StableHlo (held after)
open Idealize.ShloMosaic.Tactic
open Cert.Proof.Host Cert.Proof.Launch Cert.Proof.Spec Cert.Proof.KernelBlocks

variable (m : (ℓ : Loc nD τ sig) → Buf (Elt Ideal) ℓ) (d : Dev nD)

/-- A buffer of the device at the launch. -/
abbrev at0 (r : Ref sig .tc) : Buf (Elt Ideal) ((d.tc : Thread nD τ).loc r) := m ((d.tc : Thread nD τ).loc r)

theorem word_zero : (FloatOps.sitofp (F := Ideal) FTy.f32 0#32 : EReal) = 0 := by
  show (((0#32 : BitVec 32).toInt : ℝ) : EReal) = 0
  simp

/-! ## The host's arrays before the calls -/

theorem points_at (q : Fin 8192) (k : Fin 12) : V1 m d (Proc.devRef .tc main_v1) (ix2 q k)
    = at0 m d main_arg0 (ix3 ⟨q.val / 2048, by omega⟩ ⟨q.val % 2048, by omega⟩ ⟨k.val, by omega⟩) := by
  unfold V1
  after_results
  pointwise
  rfl

theorem wio_at (k : Fin 512) (c : Fin 1024) : V1 m d (Proc.devRef .tc main_v8) (ix2 k c)
    = if h : c.val < 512 then at0 m d main_arg7 (ix2 k ⟨c.val, h⟩) else at0 m d main_arg8 (ix2 k ⟨c.val - 512, by omega⟩) := by
  unfold V1
  after_results
  pointwise
  rfl

theorem wzr_at (k : Fin 1536) (c : Fin 1024) : V1 m d (Proc.devRef .tc main_v10) (ix2 k c)
    = if h : c.val < 512 then at0 m d main_arg9 (ix2 k ⟨c.val, h⟩) else at0 m d main_arg10 (ix2 k ⟨c.val - 512, by omega⟩) := by
  unfold V1
  after_results
  pointwise
  rfl

theorem wh_at (k : Fin 1536) (c : Fin 512) : V1 m d (Proc.devRef .tc main_v11) (ix2 k c) = at0 m d main_arg11 (ix2 k c) := by
  unfold V1
  after_results
  pointwise
  rfl

theorem wos_at (k : Fin 512) (c : Fin 512) : V1 m d (Proc.devRef .tc main_v13) (ix2 k c) = at0 m d main_arg12 (ix2 ⟨k.val, by omega⟩ c) := by
  unfold V1
  after_results
  pointwise
  rfl

theorem woa_at (k : Fin 512) (c : Fin 512) : V1 m d (Proc.devRef .tc main_v16) (ix2 k c)
    = if h : k.val < 262 then at0 m d main_arg12 (ix2 ⟨512 + k.val, by omega⟩ c) else (0 : EReal) := by
  have e : V1 m d (Proc.devRef .tc main_v16) = truncf (F := Ideal) .bf16 (pad S512x512 ![0, 0] ![250, 0] ![0, 0]
      (extractStridedSlice S262x512 ![512, 0] (at0 m d main_arg12) slices_S774x512_S262x512_512_0) (sitofp (F := Ideal) .f32 (constantI S_ 32 0#32))
      pads_S262x512_S512x512_02500_000 h_S_) bitsLt_bf16_f32 := by
    unfold V1
    after_results
    rfl
  rw [e]
  pointwise
  rw [word_zero]

theorem wg_at (k : Fin 512) (c : Fin 1024) : V1 m d (Proc.devRef .tc main_v17) (ix2 k c) = at0 m d main_arg13 (ix2 k c) := by
  unfold V1
  after_results
  pointwise
  rfl

theorem inward_entry (b : Fin 4) (p q : Fin 512) : V1 m d (Proc.devRef .tc main_v4) (ix3 b p q)
    = if h : p.val < 407 ∧ q.val < 407 then at0 m d main_arg3 (ix3 b ⟨p.val, h.1⟩ ⟨q.val, by omega⟩) else (0 : EReal) := by
  have e : V1 m d (Proc.devRef .tc main_v4) = pad S4x512x512 ![0, 0, 0] ![0, 105, 105] ![0, 0, 0]
      (extractStridedSlice S4x407x407 ![0, 0, 0] (at0 m d main_arg3) slices_S4x407x814_S4x407x407_0_0_0) (sitofp (F := Ideal) .f32 (constantI S_ 32 0#32))
      pads_S4x407x407_S4x512x512_000_01050_01050 h_S_ := by
    unfold V1
    after_results
    rfl
  rw [e]
  pointwise
  rw [word_zero]

theorem outward_entry (b : Fin 4) (p q : Fin 512) : V1 m d (Proc.devRef .tc main_v6) (ix3 b p q)
    = if h : p.val < 407 ∧ q.val < 407 then at0 m d main_arg3 (ix3 b ⟨p.val, h.1⟩ ⟨407 + q.val, by omega⟩) else (0 : EReal) := by
  have e : V1 m d (Proc.devRef .tc main_v6) = pad S4x512x512 ![0, 0, 0] ![0, 105, 105] ![0, 0, 0]
      (extractStridedSlice S4x407x407 ![0, 0, 407] (at0 m d main_arg3) slices_S4x407x814_S4x407x407_0_0_407) (sitofp (F := Ideal) .f32 (constantI S_ 32 0#32))
      pads_S4x407x407_S4x512x512_000_01050_01050 h_S_ := by
    unfold V1
    after_results
    rfl
  rw [e]
  pointwise
  rw [word_zero]

/-! ## What the last call reads -/

/-- What no later stretch or call writes is at the last call what the first stretch left. -/
theorem V5_first (r : Ref sig .tc) (h2 : r ∉ W2) (h22 : r ≠ main_v22) (h1 : r ∉ W1) (h18 : r ≠ main_v18) :
    V5 m d (Proc.devRef .tc r) = V1 m d (Proc.devRef .tc r) := by
  rw [V5_keep m d r h2, V4_keep m d r h22, V3_keep m d r h1, V2_keep m d r h18]

theorem V1_arg (r : Ref sig .tc) (h : r ∉ W0) : V1 m d (Proc.devRef .tc r) = at0 m d r := V1_keep m d r h

theorem V5_inward (b : Fin 4) (p q : Fin 512) : V5 m d (Proc.devRef .tc main_v26) (ix3 b p q) = V1 m d (Proc.devRef .tc main_v4) (ix3 b p q) := by
  rw [← V2_keep m d main_v4 (by decide), ← V3_keep m d main_v4 (by decide), ← V4_keep m d main_v4 (by decide)]
  unfold V5
  after_results
  pointwise

theorem V5_outward (b : Fin 4) (p q : Fin 512) : V5 m d (Proc.devRef .tc main_v27) (ix3 b p q) = V1 m d (Proc.devRef .tc main_v6) (ix3 b p q) := by
  rw [← V2_keep m d main_v6 (by decide), ← V3_keep m d main_v6 (by decide), ← V4_keep m d main_v6 (by decide)]
  unfold V5
  after_results
  pointwise

/-- The point features at a row and a column. -/
theorem feature_at (q : Fin 8192) (c : Fin 256) : V2 m d (Proc.devRef .tc main_v18) (ix2 q c)
    = layers (fun k => at0 m d main_arg0 (ix3 ⟨q.val / 2048, by omega⟩ ⟨q.val % 2048, by omega⟩ ⟨k.val, by omega⟩)) (fun k b => at0 m d main_arg4 (ix2 k b))
        (fun b a => at0 m d main_arg5 (ix2 b a)) (fun a c => at0 m d main_arg6 (ix2 a c)) c := by
  rw [V2_out, V1_arg m d main_arg4 (by decide), V1_arg m d main_arg5 (by decide), V1_arg m d main_arg6 (by decide)]
  unfold Mlp.mlpOut
  pointwise [k0_pay3]
  have hq := q.isLt
  have hrow : ∀ k : Fin 12, Mlp.rowsOf (V1 m d (Proc.devRef .tc main_v1)) (q.val / 512) (ix2 ⟨q.val % 512, by omega⟩ k)
      = at0 m d main_arg0 (ix3 ⟨q.val / 2048, by omega⟩ ⟨q.val % 2048, by omega⟩ ⟨k.val, by omega⟩) := by
    intro k
    rw [← points_at]
    unfold Mlp.rowsOf
    refine (dif_pos (show _ < 8192 by show 512 * (q.val / 512) + q.val % 512 < 8192; omega)).trans (congrArg (V1 m d (Proc.devRef .tc main_v1)) ?_)
    refine congrArg (fun r : Fin 8192 => ix2 r k) (Fin.ext ?_)
    show 512 * (q.val / 512) + q.val % 512 = q.val
    omega
  simp only [hrow]
  rfl

/-- The accumulated maxima at a batch, a node and a column. -/
theorem largest_at (b : Fin 4) (p : Fin 512) (c : Fin 256) : V5 m d (Proc.devRef .tc main_v25) (ix2 ⟨512 * b.val + p.val, by omega⟩ c)
    = Finset.fold max ⊥ (fun n : Fin 2048 => if (at0 m d main_arg1 (ix2 b n) : BitVec 32).toNat = p.val
        then layers (fun k => at0 m d main_arg0 (ix3 b n ⟨k.val, by omega⟩)) (fun k b => at0 m d main_arg4 (ix2 k b))
          (fun b a => at0 m d main_arg5 (ix2 b a)) (fun a c => at0 m d main_arg6 (ix2 a c)) c else ⊥) Finset.univ := by
  have e : V5 m d (Proc.devRef .tc main_v25) = shapeCast S2048x256 (transpose S4x512x8x32 [0, 2, 1, 3] (shapeCast S4x8x512x32
        (Segmax.packedOut (F := Ideal) (V3 m d sRef) (shapeCast S32x512x128 (transpose S4x8x2048x32 [0, 2, 1, 3] (shapeCast S4x2048x8x32
          (V2 m d (Proc.devRef .tc main_v18)) shapeCasts_S8192x256_S4x2048x8x32) transposes_S4x2048x8x32_S4x8x2048x32_0_2_1_3) shapeCasts_S4x8x2048x32_S32x512x128))
        shapeCasts_S32x128x128_S4x8x512x32) transposes_S4x8x512x32_S4x512x8x32_0_2_1_3) shapeCasts_S4x512x8x32_S2048x256 := by
    have h : V3 m d hRef = shapeCast S32x512x128 (transpose S4x8x2048x32 [0, 2, 1, 3] (shapeCast S4x2048x8x32
          (V2 m d (Proc.devRef .tc main_v18)) shapeCasts_S8192x256_S4x2048x8x32) transposes_S4x2048x8x32_S4x8x2048x32_0_2_1_3) shapeCasts_S4x8x2048x32_S32x512x128 := by
      unfold V3
      after_results
      rfl
    rw [← h, ← V4_o]
    unfold V5
    after_results
    rfl
  rw [e, PoolValue.unpacked_apply, V3_seg]
  congr 1
  funext n
  rw [feature_at]
  have hs : shapeCast S8192 (m ((d.tc : Thread nD τ).loc main_arg1)) shapeCasts_S4x2048_S8192 (ix1 ⟨b.val * 2048 + n.val, by omega⟩)
      = at0 m d main_arg1 (ix2 b n) := by
    pointwise
  rw [hs]
  have hn := n.isLt
  have x1 : (⟨(b.val * 2048 + n.val) / 2048, by omega⟩ : Fin 4) = b := Fin.ext (by dsimp only; omega)
  have x2 : (⟨(b.val * 2048 + n.val) % 2048, by omega⟩ : Fin 2048) = n := Fin.ext (by dsimp only; omega)
  dsimp only
  rw [x1, x2]

/-! ## The result -/

/-- With finite points and weights of the point layers, the kernel's result is the specification's answer on its arguments. -/
theorem result_at (h0 : ∀ (b : Fin 4) (n : Fin 2048) (k : Fin 12), IsReal (at0 m d main_arg0 (ix3 b n ⟨k.val, by omega⟩))) (h4 : ∀ i, IsReal (at0 m d main_arg4 i)) (h5 : ∀ i, IsReal (at0 m d main_arg5 i))
    (h6 : ∀ i, IsReal (at0 m d main_arg6 i)) (b : Fin 4) (r : Fin 1792) (p : Fin 407) :
    V6 m d (Proc.devRef .tc main_v28) (ix3 b r p)
      = answer (fun b i k => at0 m d main_arg0 (ix3 b i k)) (fun b i => (at0 m d main_arg1 (ix2 b i) : BitVec 32).toNat)
          (fun b p k => at0 m d main_arg2 (ix3 b p k)) (fun b p q => at0 m d main_arg3 (ix3 b p q)) (fun k b => at0 m d main_arg4 (ix2 k b))
          (fun b a => at0 m d main_arg5 (ix2 b a)) (fun a c => at0 m d main_arg6 (ix2 a c)) (fun k c => at0 m d main_arg7 (ix2 k c))
          (fun k c => at0 m d main_arg8 (ix2 k c)) (fun k c => at0 m d main_arg9 (ix2 k c)) (fun k c => at0 m d main_arg10 (ix2 k c))
          (fun k c => at0 m d main_arg11 (ix2 k c)) (fun k c => at0 m d main_arg12 (ix2 k c)) (fun k c => at0 m d main_arg13 (ix2 k c)) b r p := by
  have hN : cfg2.N = 4 := by decide +kernel
  obtain ⟨t, ht⟩ : ∃ t : Fin cfg2.N, t.val = b.val := ⟨⟨b.val, by rw [hN]; exact b.isLt⟩, rfl⟩
  have hc : ∀ t : Fin cfg2.N, ((grid2.coords t) 0).val = t.val := by decide +kernel
  have hfin : ∀ (b : Fin 4) (n : Fin 2048) (c : Fin 256), layers (fun k => at0 m d main_arg0 (ix3 b n ⟨k.val, by omega⟩))
      (fun k b => at0 m d main_arg4 (ix2 k b)) (fun b a => at0 m d main_arg5 (ix2 b a)) (fun a c => at0 m d main_arg6 (ix2 a c)) c ≠ ⊥ := fun b n c =>
    (layers_finite (fun k => .of_ne (h0 b n k).1 (h0 b n k).2) (fun k b => .of_ne (h4 _).1 (h4 _).2) (fun b a => .of_ne (h5 _).1 (h5 _).2)
      (fun a c => .of_ne (h6 _).1 (h6 _).2) c).ne_bot
  have hann : ∀ (p : Fin 407) (k : Fin 512), Ggnn.annOf (grid2.coords t) (V5 m d (Proc.devRef .tc main_v25)) (Region.blk2 (V5 m) d 1 t) (ix2 ⟨p.val, by omega⟩ k)
      = start (feat (pool (fun b i k => at0 m d main_arg0 (ix3 b i k)) (fun b i => (at0 m d main_arg1 (ix2 b i) : BitVec 32).toNat)
          (fun k b => at0 m d main_arg4 (ix2 k b)) (fun b a => at0 m d main_arg5 (ix2 b a)) (fun a c => at0 m d main_arg6 (ix2 a c)) b)
          (fun p k => at0 m d main_arg2 (ix3 b p k))) p k := by
    intro p k
    refine (GraphValue.ann_apply _ _ _ p k).trans ?_
    refine congrFun (congrFun (congrArg start (congrArg₂ feat (funext fun p => funext fun c => ?_) (funext fun p => funext fun c => ?_))) p) k
    · have e : (⟨512 * ((grid2.coords t) 0).val + p.val, by have : ((grid2.coords t) 0).val < 4 := ((grid2.coords t) 0).isLt; omega⟩ : Fin 2048)
          = ⟨512 * b.val + (⟨p.val, by omega⟩ : Fin 512).val, by dsimp only; omega⟩ := Fin.ext (by dsimp only; rw [hc, ht])
      rw [e, largest_at]
      exact pooled_of_max (fun n => (at0 m d main_arg1 (ix2 b n) : BitVec 32).toNat) _ p.val fun n => hfin b n c
    · rw [nodes_at (V5 m) d t b ht, V5_first m d main_arg2 (by decide) (by decide) (by decide) (by decide), V1_arg m d main_arg2 (by decide)]
  rw [V6_out m d b r p t ht, res2_eq, V5_first m d main_v8 (by decide) (by decide) (by decide) (by decide),
    V5_first m d main_v10 (by decide) (by decide) (by decide) (by decide), V5_first m d main_v11 (by decide) (by decide) (by decide) (by decide),
    V5_first m d main_v13 (by decide) (by decide) (by decide) (by decide), V5_first m d main_v16 (by decide) (by decide) (by decide) (by decide),
    V5_first m d main_v17 (by decide) (by decide) (by decide) (by decide)]
  unfold Region.graphOut answer
  refine GraphValue.out_apply _ _ _ _ _ _ _ _ _ _ (fun p k => ?_) hann (wos_at m d) (woa_at m d) (wg_at m d) r p
  have hstep := congrFun (congrFun (GraphValue.state_apply (Region.blk2 (V5 m) d 2 t) (Region.blk2 (V5 m) d 3 t) (V1 m d (Proc.devRef .tc main_v8))
    (V1 m d (Proc.devRef .tc main_v10)) (V1 m d (Proc.devRef .tc main_v11))
    (Ggnn.annOf (grid2.coords t) (V5 m d (Proc.devRef .tc main_v25)) (Region.blk2 (V5 m) d 1 t)) 10) ⟨p.val, by omega⟩) k
  refine hstep.trans ?_
  have hWi : (fun (k c : Fin 512) => V1 m d (Proc.devRef .tc main_v8) (ix2 k ⟨c.val, by omega⟩)) = fun k c => at0 m d main_arg7 (ix2 k c) :=
    funext fun k => funext fun c => (wio_at m d k _).trans (dif_pos c.isLt)
  have hWo : (fun (k c : Fin 512) => V1 m d (Proc.devRef .tc main_v8) (ix2 k ⟨512 + c.val, by omega⟩)) = fun k c => at0 m d main_arg8 (ix2 k c) :=
    funext fun k => funext fun c => (wio_at m d k _).trans ((dif_neg (show ¬512 + c.val < 512 by omega)).trans
      (congrArg (fun c => at0 m d main_arg8 (ix2 k c)) (Fin.ext (Nat.add_sub_cancel_left 512 c.val))))
  have hWz : (fun (k : Fin 1536) (c : Fin 512) => V1 m d (Proc.devRef .tc main_v10) (ix2 k ⟨c.val, by omega⟩)) = fun k c => at0 m d main_arg9 (ix2 k c) :=
    funext fun k => funext fun c => (wzr_at m d k _).trans (dif_pos c.isLt)
  have hWr : (fun (k : Fin 1536) (c : Fin 512) => V1 m d (Proc.devRef .tc main_v10) (ix2 k ⟨512 + c.val, by omega⟩)) = fun k c => at0 m d main_arg10 (ix2 k c) :=
    funext fun k => funext fun c => (wzr_at m d k _).trans ((dif_neg (show ¬512 + c.val < 512 by omega)).trans
      (congrArg (fun c => at0 m d main_arg10 (ix2 k c)) (Fin.ext (Nat.add_sub_cancel_left 512 c.val))))
  have hWh : (fun (k : Fin 1536) (c : Fin 512) => V1 m d (Proc.devRef .tc main_v11) (ix2 k c)) = fun k c => at0 m d main_arg11 (ix2 k c) :=
    funext fun k => funext fun c => wh_at m d k c
  rw [hWi, hWo, hWz, hWr, hWh]
  unfold states
  refine steps_same (n := 407) (m := 512) (by decide) _ _ _ _ _ (fun p q => ?_) (fun p q => ?_) (fun p c => ?_) 10 p k
  · rw [KernelBlocks.inward_at (V5 m) d t b ht, V5_inward, inward_entry]
    by_cases hq : q.val < 407
    · rw [dif_pos ⟨p.isLt, hq⟩, dif_pos hq]
    · rw [dif_neg fun h => hq h.2, dif_neg hq]
  · rw [KernelBlocks.outward_at (V5 m) d t b ht, V5_outward, outward_entry]
    by_cases hq : q.val < 407
    · rw [dif_pos ⟨p.isLt, hq⟩, dif_pos hq]
    · rw [dif_neg fun h => hq h.2, dif_neg hq]
  · exact hann p c

end Cert.Proof.KernelValue

end
-- ==== Proof.ReferenceValue.lean ====
/-
  The reference's result at a batch, a feature and a node: the specification's answer on the launch's arguments.
-/
module

public import proofs.«01_k».proof.Proof.ReferenceFrame
public import proofs.«01_k».proof.Proof.Spec
public import Idealize.ShloMosaic.Lib.Pointwise

@[expose] public section

set_option maxRecDepth 16384

noncomputable section

namespace Cert.Proof.ReferenceValue

open Cert.ReferenceIdeal Cert.ReferenceIdeal.Gen Cert.ReferenceIdeal.Value
open Idealize.ShloMosaic Idealize.ShloMosaic.TcCoe Idealize.ShloMosaic.StableHlo Idealize.ShloMosaic.Tactic
open Cert.Proof.Spec Cert.Proof.Reference

/-! ## One trip of the loop -/

section Trip

variable (V : Valuation τ sig (Elt Ideal))

/-- The states the trip reads, at a batch. -/
abbrev now (b : Fin 4) (p : Fin 407) (c : Fin 512) : EReal := V (Proc.devRef .tc main_v26_8) (ix3 b p c)

/-- What a trip gathers along the inward edges. -/
theorem gather_in (b : Fin 4) (p : Fin 407) (c : Fin 512) : res_main_while0b_v40 V (ix3 b p c)
    = gather (fun p q => V (Proc.devRef .tc main_v26_1) (ix3 b p q)) (fun k c => V (Proc.devRef .tc main_v26_0) (ix2 k c)) (now V b) p c := by
  pointwise [res_main_while0b_v40]
  rfl

/-- What a trip gathers along the outward edges. -/
theorem gather_out (b : Fin 4) (p : Fin 407) (c : Fin 512) : res_main_while0b_v42 V (ix3 b p c)
    = gather (fun p q => V (Proc.devRef .tc main_v26_3) (ix3 b p q)) (fun k c => V (Proc.devRef .tc main_v26_2) (ix2 k c)) (now V b) p c := by
  pointwise [res_main_while0b_v42]
  rfl

/-- The two gathered arrays and the states beside each other. -/
theorem beside_at (b : Fin 4) (p : Fin 407) (k : Fin 1536) : res_main_while0b_v43 V (ix3 b p k)
    = beside (fun p c => res_main_while0b_v40 V (ix3 b p c)) (fun p c => res_main_while0b_v42 V (ix3 b p c)) (now V b) p k := by
  pointwise [res_main_while0b_v43]
  rfl

/-- The update gate. -/
theorem update_at (b : Fin 4) (p : Fin 407) (c : Fin 512) : res_main_while0b_v50 V (ix3 b p c)
    = gate (fun p k => res_main_while0b_v43 V (ix3 b p k)) (fun k c => V (Proc.devRef .tc main_v26_4) (ix2 k c)) p c := by
  pointwise [res_main_while0b_v50]
  rfl

/-- The states times the reset gate. -/
theorem reset_at (K : FVec Ideal S4x407x1536 .f32) (W : FVec Ideal S1536x512 .f32) (H : FVec Ideal S4x407x512 .f32) (b : Fin 4) (p : Fin 407) (c : Fin 512) :
    (mulf (Host.divf (broadcastInDim S4x407x512 ![] bcast_S_S4x407x512 (constant S_ .f32 0x3F800000#32))
      (addf (broadcastInDim S4x407x512 ![] bcast_S_S4x407x512 (constant S_ .f32 0x3F800000#32)) (Host.exp (Host.negf
        (Host.dotGeneral (φ₁ := .f32) (φ₂ := .f32) dot_S4x407x1536_S1536x512_S4x407x512_2_0_01_1_n_n none K W))))) H) (ix3 b p c)
    = gate (fun p k => K (ix3 b p k)) (fun k c => W (ix2 k c)) p c * H (ix3 b p c) := by
  pointwise
  rfl

/-- The new states: the old ones and the candidates, weighed by the update gate. -/
theorem mix_at (G R u v U : FVec Ideal S4x407x512 .f32) (Wh : FVec Ideal S1536x512 .f32) (b : Fin 4) (p : Fin 407) (c : Fin 512) :
    (addf (mulf (subf (broadcastInDim S4x407x512 ![] bcast_S_S4x407x512 (constant S_ .f32 0x3F800000#32)) U) G)
      (mulf U (Host.tanh (Host.dotGeneral (φ₁ := .f32) (φ₂ := .f32) dot_S4x407x1536_S1536x512_S4x407x512_2_0_01_1_n_n none (concatenate S4x407x1536 2
        [⟨S4x407x512, u⟩, ⟨S4x407x512, v⟩, ⟨S4x407x512, R⟩] concatenates_S4x407x512_S4x407x512_S4x407x512_S4x407x1536_d2) Wh)))) (ix3 b p c)
    = (1 - U (ix3 b p c)) * G (ix3 b p c) + U (ix3 b p c) * Ideal.tanh (times (beside (fun p c => u (ix3 b p c)) (fun p c => v (ix3 b p c))
        fun p c => R (ix3 b p c)) (fun k c => Wh (ix2 k c)) p c) := by
  pointwise
  rfl

/-- One trip takes the states of each batch one step on. -/
theorem trip_at (b : Fin 4) (p : Fin 407) (c : Fin 512) : afterL bodyI V (Proc.devRef .tc main_v26_8) (ix3 b p c)
    = step (fun p q => V (Proc.devRef .tc main_v26_1) (ix3 b p q)) (fun p q => V (Proc.devRef .tc main_v26_3) (ix3 b p q))
        (fun k c => V (Proc.devRef .tc main_v26_0) (ix2 k c)) (fun k c => V (Proc.devRef .tc main_v26_2) (ix2 k c))
        (fun k c => V (Proc.devRef .tc main_v26_4) (ix2 k c)) (fun k c => V (Proc.devRef .tc main_v26_5) (ix2 k c))
        (fun k c => V (Proc.devRef .tc main_v26_6) (ix2 k c)) (now V b) p c := by
  rw [trip_main_v26_8]
  have hi : (fun p c => res_main_while0b_v40 V (ix3 b p c)) = _ := funext fun p => funext fun c => gather_in V b p c
  have ho : (fun p c => res_main_while0b_v42 V (ix3 b p c)) = _ := funext fun p => funext fun c => gather_out V b p c
  have hb : (fun p k => res_main_while0b_v43 V (ix3 b p k)) = _ := funext fun p => funext fun k => beside_at V b p k
  refine (mix_at (V (Proc.devRef .tc main_v26_8)) _ (res_main_while0b_v40 V) (res_main_while0b_v42 V) (res_main_while0b_v50 V)
    (V (Proc.devRef .tc main_v26_6)) b p c).trans ?_
  have hr : (fun p c => _) = _ := funext fun p => funext fun c =>
    reset_at (res_main_while0b_v43 V) (V (Proc.devRef .tc main_v26_5)) (V (Proc.devRef .tc main_v26_8)) b p c
  rw [hr, update_at, hb, hi, ho]
  rfl

end Trip

/-! ## What enters the loop -/

section Entry

variable (A0 : FVec Ideal S4x2048x13 .f32) (A1 : Vec Ideal S4x2048 .i32) (A2 : FVec Ideal S4x407x6 .f32) (A4 : FVec Ideal S12x64 .f32)
  (A5 : FVec Ideal S64x128 .f32) (A6 : FVec Ideal S128x256 .f32)

/-- The points' features. -/
def featuresOf : FVec Ideal S4x2048x256 .f32 :=
  Host.dotGeneral (φ₁ := .f32) (φ₂ := .f32) dot_S4x2048x128_S128x256_S4x2048x256_2_0_01_1_n_n none
    (maximumf (Host.dotGeneral (φ₁ := .f32) (φ₂ := .f32) dot_S4x2048x64_S64x128_S4x2048x128_2_0_01_1_n_n none
      (maximumf (Host.dotGeneral (φ₁ := .f32) (φ₂ := .f32) dot_S4x2048x12_S12x64_S4x2048x64_2_0_01_1_n_n none
          (extractStridedSlice S4x2048x12 ![0, 0, 0] A0 slices_S4x2048x13_S4x2048x12_0_0_0) A4)
        (broadcastInDim S4x2048x64 ![] bcast_S_S4x2048x64 (constant S_ .f32 0x00000000#32))) A5)
      (broadcastInDim S4x2048x128 ![] bcast_S_S4x2048x128 (constant S_ .f32 0x00000000#32))) A6

/-- Which points name which nodes. -/
def memberOf : Vec Ideal S4x2048x407 .i1 :=
  cmpi .eq (broadcastInDim S4x2048x407 ![0, 1, 2] bcast_S4x2048x1_S4x2048x407_0_1_2 (broadcastInDim S4x2048x1 ![0, 1] bcast_S4x2048_S4x2048x1_0_1 A1))
    (broadcastInDim S4x2048x407 ![0, 1, 2] bcast_S1x1x407_S4x2048x407_0_1_2 (broadcastInDim S1x1x407 ![2] bcast_S407_S1x1x407_2 (iotaInDim S407 32 0)))

/-- The largest feature of each node's points. -/
def maximaOf (M : Vec Ideal S4x2048x407 .i1) (H : FVec Ideal S4x2048x256 .f32) : FVec Ideal S4x407x256 .f32 :=
  Host.reduce FloatOps.maximumf (select
      (broadcastInDim S4x2048x407x256 ![0, 1, 2, 3] bcast_S4x2048x407x1_S4x2048x407x256_0_1_2_3 (broadcastInDim S4x2048x407x1 ![0, 1, 2] bcast_S4x2048x407_S4x2048x407x1_0_1_2 M))
      (broadcastInDim S4x2048x407x256 ![0, 1, 2, 3] bcast_S4x2048x1x256_S4x2048x407x256_0_1_2_3 (broadcastInDim S4x2048x1x256 ![0, 1, 3] bcast_S4x2048x256_S4x2048x1x256_0_1_3 H))
      (broadcastInDim S4x2048x407x256 ![] bcast_S_S4x2048x407x256 (constant S_ .f32 0xFF800000#32)))
    (constant S_ .f32 0xFF800000#32) reducesTo_S4x2048x407x256_S4x407x256_d1 h_S_

/-- The pooled features: those, zero for a node without points. -/
def pooledOf (M : Vec Ideal S4x2048x407 .i1) (X : FVec Ideal S4x407x256 .f32) : FVec Ideal S4x407x256 .f32 :=
  select (broadcastInDim S4x407x256 ![0, 1, 2] bcast_S4x407x1_S4x407x256_0_1_2 (cmpf (F := Ideal) .ogt
      (broadcastInDim S4x407x1 ![0, 1] bcast_S4x407_S4x407x1_0_1 (Host.reduceAdd (uitofp .f32 M) (constant S_ .f32 0x00000000#32) reducesTo_S4x2048x407_S4x407_d1 h_S_))
      (broadcastInDim S4x407x1 ![] bcast_S_S4x407x1 (constant S_ .f32 0x00000000#32)))) X
    (broadcastInDim S4x407x256 ![] bcast_S_S4x407x256 (constant S_ .f32 0x00000000#32))

/-- The node features. -/
def nodesOf (X : FVec Ideal S4x407x256 .f32) : FVec Ideal S4x407x262 .f32 :=
  concatenate S4x407x262 2 [⟨S4x407x256, X⟩, ⟨S4x407x6, A2⟩] concatenates_S4x407x256_S4x407x6_S4x407x262_d2

/-- A point's features are its three layers. -/
theorem features_at (b : Fin 4) (n : Fin 2048) (c : Fin 256) : featuresOf A0 A4 A5 A6 (ix3 b n c)
    = layers (fun k => A0 (ix3 b n ⟨k.val, by omega⟩)) (fun k b => A4 (ix2 k b)) (fun b a => A5 (ix2 b a)) (fun a c => A6 (ix2 a c)) c := by
  pointwise [featuresOf]
  rfl

/-- The mask is set where the point names the node. -/
theorem member_at (b : Fin 4) (n : Fin 2048) (p : Fin 407) : memberOf A1 (ix3 b n p) = if (A1 (ix2 b n) : BitVec 32).toNat = p.val then 1#1 else 0#1 := by
  pointwise [memberOf]
  have hp := p.isLt
  by_cases h : (A1 (ix2 b n) : BitVec 32).toNat = p.val
  · have e : (A1 (ix2 b n) : BitVec 32) = BitVec.ofNat 32 p.val := by rw [← h, BitVec.ofNat_toNat, BitVec.setWidth_eq]
    rw [if_pos h, e]
    simp [IntOp.cmpi]
  · have e : (A1 (ix2 b n) : BitVec 32) ≠ BitVec.ofNat 32 p.val := by
      intro e
      rw [e, BitVec.toNat_ofNat] at h
      omega
    rw [if_neg h]
    exact congrArg BitVec.ofBool (beq_eq_false_iff_ne.mpr e)

/-- The maxima are over the points the mask keeps. -/
theorem maxima_at (M : Vec Ideal S4x2048x407 .i1) (H : FVec Ideal S4x2048x256 .f32) (b : Fin 4) (p : Fin 407) (c : Fin 256) : maximaOf M H (ix3 b p c)
    = Finset.fold max ⊥ (fun i => Scalar.select (M (ix3 b i p)) (H (ix3 b i c)) ⊥) Finset.univ := by
  pointwise [maximaOf]
  have e : Ideal.ofBits .f32 0xFF800000#32 = ⊥ := by simp [Ideal.ofBits, Ideal.ieee]
  rw [e]

/-- The pooled features are the specification's. -/
theorem pooled_at (b : Fin 4) (p : Fin 407) (c : Fin 256) :
    pooledOf (memberOf A1) (maximaOf (memberOf A1) (featuresOf A0 A4 A5 A6)) (ix3 b p c)
    = pool (fun b i k => A0 (ix3 b i k)) (fun b i => (A1 (ix2 b i) : BitVec 32).toNat) (fun k b => A4 (ix2 k b)) (fun b a => A5 (ix2 b a)) (fun a c => A6 (ix2 a c)) b p c := by
  refine Eq.trans ?_ (pooled_of_count _ _ _)
  pointwise [pooledOf]
  have hs : ∀ i : Fin 2048, FloatOps.uitofp (F := Ideal) FTy.f32 (memberOf A1 (ix3 b i p))
      = if (A1 (ix2 b i) : BitVec 32).toNat = p.val then (1 : EReal) else 0 := by
    intro i
    rw [member_at]
    split_ifs
    · show (((1#1 : BitVec 1).toNat : ℝ) : EReal) = 1
      simp
    · show (((0#1 : BitVec 1).toNat : ℝ) : EReal) = 0
      simp
  have hm : maximaOf (memberOf A1) (featuresOf A0 A4 A5 A6) (ix3 b p c) = Finset.fold max ⊥ (fun i => if (A1 (ix2 b i) : BitVec 32).toNat = p.val then
      layers (fun k => A0 (ix3 b i ⟨k.val, by omega⟩)) (fun k b => A4 (ix2 k b)) (fun b a => A5 (ix2 b a)) (fun a c => A6 (ix2 a c)) c else ⊥) Finset.univ := by
    rw [maxima_at]
    congr 1
    funext i
    rw [member_at, features_at]
    split_ifs <;> simp [Scalar.select]
  simp only [hs]
  rw [hm]

/-- The node features are the pooled ones, then the given ones. -/
theorem nodes_at (X : FVec Ideal S4x407x256 .f32) (b : Fin 4) (p : Fin 407) (k : Fin 262) : nodesOf A2 X (ix3 b p k)
    = feat (fun p c => X (ix3 b p c)) (fun p c => A2 (ix3 b p c)) p k := by
  pointwise [nodesOf]
  rfl

end Entry

variable (W : Valuation τ sig (Elt Ideal))

/-- The first layer before its maximum with zero. -/
theorem first_product : after hostOps0 W (Proc.devRef .tc main_v1) = (Host.dotGeneral (φ₁ := .f32) (φ₂ := .f32) dot_S4x2048x12_S12x64_S4x2048x64_2_0_01_1_n_n none
    (extractStridedSlice S4x2048x12 ![0, 0, 0] (W (Proc.devRef .tc main_arg0)) slices_S4x2048x13_S4x2048x12_0_0_0 : FVec Ideal S4x2048x12 .f32)
    (W (Proc.devRef .tc main_arg4) : FVec Ideal S12x64 .f32) : FVec Ideal S4x2048x64 .f32) := by
  after_reads_simp

/-- The first layer. -/
theorem first_layer : after hostOps0_1 W (Proc.devRef .tc main_v2) = (maximumf (W (Proc.devRef .tc main_v1))
    (broadcastInDim S4x2048x64 ![] bcast_S_S4x2048x64 (constant S_ .f32 0x00000000#32)) : FVec Ideal S4x2048x64 .f32) := by
  after_reads_simp
  rfl

/-- The second layer before its maximum with zero. -/
theorem second_product : after hostOps0_2 W (Proc.devRef .tc main_v3) = (Host.dotGeneral (φ₁ := .f32) (φ₂ := .f32) dot_S4x2048x64_S64x128_S4x2048x128_2_0_01_1_n_n none
    (W (Proc.devRef .tc main_v2) : FVec Ideal S4x2048x64 .f32) (W (Proc.devRef .tc main_arg5) : FVec Ideal S64x128 .f32) : FVec Ideal S4x2048x128 .f32) := by
  after_reads_simp

/-- The second layer. -/
theorem second_layer : after hostOps0_3 W (Proc.devRef .tc main_v4) = (maximumf (W (Proc.devRef .tc main_v3))
    (broadcastInDim S4x2048x128 ![] bcast_S_S4x2048x128 (constant S_ .f32 0x00000000#32)) : FVec Ideal S4x2048x128 .f32) := by
  after_reads_simp
  rfl

/-- The third layer, an axis for the nodes added. -/
theorem third_product : after hostOps0_4 W (Proc.devRef .tc main_v13) = broadcastInDim S4x2048x1x256 ![0, 1, 3] bcast_S4x2048x256_S4x2048x1x256_0_1_3
    (Host.dotGeneral (φ₁ := .f32) (φ₂ := .f32) dot_S4x2048x128_S128x256_S4x2048x256_2_0_01_1_n_n none (W (Proc.devRef .tc main_v4) : FVec Ideal S4x2048x128 .f32)
        (W (Proc.devRef .tc main_arg6) : FVec Ideal S128x256 .f32) : FVec Ideal S4x2048x256 .f32) := by
  after_reads_simp

/-- The mask of points and nodes. -/
theorem members : after hostOps0_4 W (Proc.devRef .tc main_v11) = memberOf (W (Proc.devRef .tc main_arg1)) := by
  after_reads_simp
  rfl

/-- The mask, an axis for the features added. -/
theorem members_wide : after hostOps0_4 W (Proc.devRef .tc main_v12)
    = broadcastInDim S4x2048x407x1 ![0, 1, 2] bcast_S4x2048x407_S4x2048x407x1_0_1_2 (memberOf (W (Proc.devRef .tc main_arg1))) := by
  after_reads_simp
  rfl

/-- The features where the mask is set, minus infinity elsewhere. -/
theorem masked : after hostOps0_5 W (Proc.devRef .tc main_v14) = select
      (broadcastInDim S4x2048x407x256 ![0, 1, 2, 3] bcast_S4x2048x407x1_S4x2048x407x256_0_1_2_3 (W (Proc.devRef .tc main_v12)))
      (broadcastInDim S4x2048x407x256 ![0, 1, 2, 3] bcast_S4x2048x1x256_S4x2048x407x256_0_1_2_3 (W (Proc.devRef .tc main_v13)))
      (broadcastInDim S4x2048x407x256 ![] bcast_S_S4x2048x407x256 (W (Proc.devRef .tc main_cst))) := by
  after_reads_simp
  rfl

/-- The maxima where a node has points, zero elsewhere. -/
theorem filled : after hostOps0_7 W (Proc.devRef .tc main_v21) = select
      (broadcastInDim S4x407x256 ![0, 1, 2] bcast_S4x407x1_S4x407x256_0_1_2 (W (Proc.devRef .tc main_v20))) (W (Proc.devRef .tc main_v15))
      (broadcastInDim S4x407x256 ![] bcast_S_S4x407x256 (W (Proc.devRef .tc main_cst_3))) := by
  after_reads_simp
  rfl

/-- The maxima over the points. -/
theorem maxima : after hostOps0_6 W (Proc.devRef .tc main_v15) = Host.reduce (FloatOps.maximumf (F := Ideal)) (W (Proc.devRef .tc main_v14) : FVec Ideal S4x2048x407x256 .f32)
    (constant S_ .f32 0xFF800000#32) reducesTo_S4x2048x407x256_S4x407x256_d1 h_S_ := by
  after_reads_simp

/-- Which nodes have points. -/
theorem occupied : after hostOps0_6 W (Proc.devRef .tc main_v20) = (cmpf (F := Ideal) .ogt
      (broadcastInDim S4x407x1 ![0, 1] bcast_S4x407_S4x407x1_0_1 (Host.reduceAdd (uitofp .f32 (W (Proc.devRef .tc main_v11) : Vec Ideal S4x2048x407 .i1))
        (constant S_ .f32 0x00000000#32) reducesTo_S4x2048x407_S4x407_d1 h_S_))
      (broadcastInDim S4x407x1 ![] bcast_S_S4x407x1 (constant S_ .f32 0x00000000#32))) := by
  after_reads_simp

/-- The pooled features as the first stretches leave them. -/
theorem entry_pooled : after hostOps0_7 (after hostOps0_6 (after hostOps0_5 (after hostOps0_4 (after hostOps0_3 (after hostOps0_2 (after hostOps0_1 (after hostOps0 W)))))))
      (Proc.devRef .tc main_v21)
    = pooledOf (memberOf (W (Proc.devRef .tc main_arg1))) (maximaOf (memberOf (W (Proc.devRef .tc main_arg1)))
        (featuresOf (W (Proc.devRef .tc main_arg0)) (W (Proc.devRef .tc main_arg4)) (W (Proc.devRef .tc main_arg5)) (W (Proc.devRef .tc main_arg6)))) := by
  have h1 : ∀ W : Valuation τ sig (Elt Ideal), after hostOps0_3 (after hostOps0_2 (after hostOps0_1 (after hostOps0 W))) (Proc.devRef .tc main_arg1)
      = W (Proc.devRef .tc main_arg1) := fun W => by after_reads_simp
  have h6 : ∀ W : Valuation τ sig (Elt Ideal), after hostOps0_3 (after hostOps0_2 (after hostOps0_1 (after hostOps0 W))) (Proc.devRef .tc main_arg6)
      = W (Proc.devRef .tc main_arg6) := fun W => by after_reads_simp
  have h5 : ∀ W : Valuation τ sig (Elt Ideal), after hostOps0_1 (after hostOps0 W) (Proc.devRef .tc main_arg5)
      = W (Proc.devRef .tc main_arg5) := fun W => by after_reads_simp
  have h11 : ∀ W : Valuation τ sig (Elt Ideal), after hostOps0_5 W (Proc.devRef .tc main_v11) = W (Proc.devRef .tc main_v11) := fun W => by after_reads_simp
  have hc : ∀ W : Valuation τ sig (Elt Ideal), after hostOps0_4 W (Proc.devRef .tc main_cst) = (constant S_ .f32 0xFF800000#32 : FVec Ideal S_ .f32) :=
    fun W => by after_reads_simp
  have hz : ∀ W : Valuation τ sig (Elt Ideal), after hostOps0_6 W (Proc.devRef .tc main_cst_3) = (constant S_ .f32 0x00000000#32 : FVec Ideal S_ .f32) :=
    fun W => by after_reads_simp
  rw [filled, occupied, hz, h11, members, h1, maxima, masked, members_wide, hc, third_product, second_layer, second_product, first_layer, first_product,
    h1, h5, h6]
  rfl

variable (m : (ℓ : Loc nD τ sig) → Buf (Elt Ideal) ℓ) (d : Dev nD)

/-- A buffer of the device at the launch. -/
abbrev at0 (r : Ref sig .tc) : Buf (Elt Ideal) ((d.tc : Thread nD τ).loc r) := m ((d.tc : Thread nD τ).loc r)

/-- The node features that enter the loop. -/
theorem entry_nodes (b : Fin 4) (p : Fin 407) (k : Fin 262) : entryContents preI m d (Proc.devRef .tc main_v22) (ix3 b p k)
    = feat (pool (fun b i k => at0 m d main_arg0 (ix3 b i k)) (fun b i => (at0 m d main_arg1 (ix2 b i) : BitVec 32).toNat) (fun k b => at0 m d main_arg4 (ix2 k b))
        (fun b a => at0 m d main_arg5 (ix2 b a)) (fun a c => at0 m d main_arg6 (ix2 a c)) b) (fun p c => at0 m d main_arg2 (ix3 b p c)) p k := by
  have e : ∀ W : Valuation τ sig (Elt Ideal), after hostOps0_10 (after hostOps0_9 (after hostOps0_8 W)) (Proc.devRef .tc main_v22)
      = nodesOf (W (Proc.devRef .tc main_arg2)) (W (Proc.devRef .tc main_v21)) := fun W => by
    after_reads_simp
    rfl
  have h2 : ∀ W : Valuation τ sig (Elt Ideal), after hostOps0_7 (after hostOps0_6 (after hostOps0_5 (after hostOps0_4 (after hostOps0_3 (after hostOps0_2
      (after hostOps0_1 (after hostOps0 W))))))) (Proc.devRef .tc main_arg2) = W (Proc.devRef .tc main_arg2) := fun W => by after_reads_simp
  simp only [entryContents, afterL_cons, afterL_nil]
  rw [e, h2, entry_pooled]
  refine (nodes_at _ _ b p k).trans ?_
  simp only [pooled_at]

/-- The inward edges that enter the loop. -/
theorem entry_in (b : Fin 4) (p q : Fin 407) : entryContents preI m d (Proc.devRef .tc main_v26_1) (ix3 b p q)
    = at0 m d main_arg3 (ix3 b p ⟨q.val, by omega⟩) := by
  have e : entryContents preI m d (Proc.devRef .tc main_v26_1)
      = extractStridedSlice S4x407x407 ![0, 0, 0] (at0 m d main_arg3) slices_S4x407x814_S4x407x407_0_0_0 := by
    simp only [entryContents, afterL_cons, afterL_nil]
    after_reads_simp
    rfl
  rw [e]
  pointwise

/-- The outward edges that enter the loop. -/
theorem entry_out (b : Fin 4) (p q : Fin 407) : entryContents preI m d (Proc.devRef .tc main_v26_3) (ix3 b p q)
    = at0 m d main_arg3 (ix3 b p ⟨407 + q.val, by omega⟩) := by
  have e : entryContents preI m d (Proc.devRef .tc main_v26_3)
      = extractStridedSlice S4x407x407 ![0, 0, 407] (at0 m d main_arg3) slices_S4x407x814_S4x407x407_0_0_407 := by
    simp only [entryContents, afterL_cons, afterL_nil]
    after_reads_simp
    rfl
  rw [e]
  pointwise

/-- The states that enter the loop are the padded node features. -/
theorem last_state (W : Valuation τ sig (Elt Ideal)) : after hostOps0_10 (after hostOps0_9 (after hostOps0_8 W)) (Proc.devRef .tc main_v26_8)
    = pad S4x407x512 ![0, 0, 0] ![0, 0, 250] ![0, 0, 0] (after hostOps0_8 W (Proc.devRef .tc main_v22) : FVec Ideal S4x407x262 .f32) (sitofp (F := Ideal) .f32 (constantI S_ 32 0#32))
      pads_S4x407x262_S4x407x512_000_000_02500 h_S_ := by
  after_reads_simp
  rfl

/-- The last stretches before the loop keep the node features. -/
theorem last_nodes (W : Valuation τ sig (Elt Ideal)) : after hostOps0_10 (after hostOps0_9 W) (Proc.devRef .tc main_v22)
    = W (Proc.devRef .tc main_v22) := by
  after_reads_simp

/-- Padding with zeros starts the states. -/
theorem pad_at (X : FVec Ideal S4x407x262 .f32) (b : Fin 4) (p : Fin 407) (c : Fin 512) :
    pad S4x407x512 ![0, 0, 0] ![0, 0, 250] ![0, 0, 0] X (sitofp (F := Ideal) .f32 (constantI S_ 32 0#32))
      pads_S4x407x262_S4x407x512_000_000_02500 h_S_ (ix3 b p c) = start (fun p k => X (ix3 b p k)) p c := by
  have hz : (FloatOps.sitofp (F := Ideal) FTy.f32 0#32 : EReal) = 0 := by
    show (((0#32 : BitVec 32).toInt : ℝ) : EReal) = 0
    simp
  pointwise
  rw [hz]

  rfl

/-- The states that enter the loop. -/
theorem entry_state (b : Fin 4) (p : Fin 407) (c : Fin 512) : entryContents preI m d (Proc.devRef .tc main_v26_8) (ix3 b p c)
    = start (fun p k => entryContents preI m d (Proc.devRef .tc main_v22) (ix3 b p k)) p c := by
  simp only [entryContents, afterL_cons, afterL_nil]
  rw [last_state, last_nodes, pad_at]

/-- The weight of the inward edges enters the loop as launched. -/
theorem entry_w0 : entryContents preI m d (Proc.devRef .tc main_v26_0) = at0 m d main_arg7 := by
  simp only [entryContents, afterL_cons, afterL_nil]
  after_reads_simp
  rfl

/-- The weight of the outward edges enters the loop as launched. -/
theorem entry_w2 : entryContents preI m d (Proc.devRef .tc main_v26_2) = at0 m d main_arg8 := by
  simp only [entryContents, afterL_cons, afterL_nil]
  after_reads_simp
  rfl

/-- The weight of the update gate enters the loop as launched. -/
theorem entry_w4 : entryContents preI m d (Proc.devRef .tc main_v26_4) = at0 m d main_arg9 := by
  simp only [entryContents, afterL_cons, afterL_nil]
  after_reads_simp
  rfl

/-- The weight of the reset gate enters the loop as launched. -/
theorem entry_w5 : entryContents preI m d (Proc.devRef .tc main_v26_5) = at0 m d main_arg10 := by
  simp only [entryContents, afterL_cons, afterL_nil]
  after_reads_simp
  rfl

/-- The weight of the candidates enters the loop as launched. -/
theorem entry_w6 : entryContents preI m d (Proc.devRef .tc main_v26_6) = at0 m d main_arg11 := by
  simp only [entryContents, afterL_cons, afterL_nil]
  after_reads_simp
  rfl

/-! ## The loop -/

/-- What a trip's test leaves of a carried array. -/
theorem kept (k : ℕ) (r : Ref sig .tc) (hc : r ∉ condOps_W) : after condOps (atK m k d) (Proc.devRef .tc r) = atK m k d (Proc.devRef .tc r) :=
  after_of_writes_sub condOps _ condOps_writes hc

/-- The pooled features of the launch. -/
abbrev poolAt (b : Fin 4) : Fin 407 → Fin 256 → EReal :=
  pool (fun b i k => at0 m d main_arg0 (ix3 b i k)) (fun b i => (at0 m d main_arg1 (ix2 b i) : BitVec 32).toNat) (fun k b => at0 m d main_arg4 (ix2 k b))
    (fun b a => at0 m d main_arg5 (ix2 b a)) (fun a c => at0 m d main_arg6 (ix2 a c)) b

/-- The node features of the launch. -/
abbrev featAt (b : Fin 4) : Fin 407 → Fin 262 → EReal := feat (poolAt m d b) (fun p c => at0 m d main_arg2 (ix3 b p c))

/-- After `k` trips the states of a batch are `k` steps on. -/
theorem state_at (b : Fin 4) : ∀ k, (fun p c => atK m k d (Proc.devRef .tc main_v26_8) (ix3 b p c))
    = (step (fun p q => at0 m d main_arg3 (ix3 b p ⟨q.val, by omega⟩)) (fun p q => at0 m d main_arg3 (ix3 b p ⟨407 + q.val, by omega⟩))
        (fun k c => at0 m d main_arg7 (ix2 k c)) (fun k c => at0 m d main_arg8 (ix2 k c)) (fun k c => at0 m d main_arg9 (ix2 k c))
        (fun k c => at0 m d main_arg10 (ix2 k c)) (fun k c => at0 m d main_arg11 (ix2 k c)))^[k] (start (featAt m d b))
  | 0 => by
    funext p c
    refine (entry_state m d b p c).trans ?_
    exact congrFun (congrFun (congrArg start (funext fun p => funext fun k => entry_nodes m d b p k)) p) c
  | k + 1 => by
    rw [Function.iterate_succ_apply', ← state_at b k]
    funext p c
    refine (trip_at (after condOps (atK m k d)) b p c).trans ?_
    have w0 := (kept m d k main_v26_0 (by decide +kernel)).trans ((trip_keep m d main_v26_0 (by decide +kernel) (by decide +kernel) k).trans (entry_w0 m d))
    have w2 := (kept m d k main_v26_2 (by decide +kernel)).trans ((trip_keep m d main_v26_2 (by decide +kernel) (by decide +kernel) k).trans (entry_w2 m d))
    have w4 := (kept m d k main_v26_4 (by decide +kernel)).trans ((trip_keep m d main_v26_4 (by decide +kernel) (by decide +kernel) k).trans (entry_w4 m d))
    have w5 := (kept m d k main_v26_5 (by decide +kernel)).trans ((trip_keep m d main_v26_5 (by decide +kernel) (by decide +kernel) k).trans (entry_w5 m d))
    have w6 := (kept m d k main_v26_6 (by decide +kernel)).trans ((trip_keep m d main_v26_6 (by decide +kernel) (by decide +kernel) k).trans (entry_w6 m d))
    have w1 := (kept m d k main_v26_1 (by decide +kernel)).trans (trip_keep m d main_v26_1 (by decide +kernel) (by decide +kernel) k)
    have w3 := (kept m d k main_v26_3 (by decide +kernel)).trans (trip_keep m d main_v26_3 (by decide +kernel) (by decide +kernel) k)
    have w8 := kept m d k main_v26_8 (by decide +kernel)
    unfold now
    have hi : (fun p q => entryContents preI m d (Proc.devRef .tc main_v26_1) (ix3 b p q)) = _ := funext fun p => funext fun q => entry_in m d b p q
    have ho : (fun p q => entryContents preI m d (Proc.devRef .tc main_v26_3) (ix3 b p q)) = _ := funext fun p => funext fun q => entry_out m d b p q
    rw [w0, w1, w2, w3, w4, w5, w6, w8, hi, ho]

/-! ## After the loop -/

section Last

variable (S : FVec Ideal S4x407x512 .f32) (X : FVec Ideal S4x407x262 .f32) (Wo : FVec Ideal S774x512 .f32) (Wg : FVec Ideal S512x1024 .f32)

/-- The fused features. -/
def fusedOf : FVec Ideal S4x407x512 .f32 :=
  Host.tanh (Host.dotGeneral (φ₁ := .f32) (φ₂ := .f32) dot_S4x407x774_S774x512_S4x407x512_2_0_01_1_n_n none
    (concatenate S4x407x774 2 [⟨S4x407x512, S⟩, ⟨S4x407x262, X⟩] concatenates_S4x407x512_S4x407x262_S4x407x774_d2) Wo)

/-- The global features. -/
def largestOf (U : FVec Ideal S4x407x512 .f32) : FVec Ideal S4x1024 .f32 :=
  Host.reduce FloatOps.maximumf (Host.dotGeneral (φ₁ := .f32) (φ₂ := .f32) dot_S4x407x512_S512x1024_S4x407x1024_2_0_01_1_n_n none U Wg)
    (constant S_ .f32 0xFF800000#32) reducesTo_S4x407x1024_S4x1024_d1 h_S_

/-- The global features for every node. -/
def spreadOf (L : FVec Ideal S4x1024 .f32) : FVec Ideal S4x1024x407 .f32 :=
  shapeCast S4x1024x407 (broadcastInDim S4x1024x1x407 ![0, 1, 2] bcast_S4x1024x1_S4x1024x1x407_0_1_2
    (broadcastInDim S4x1024x1 ![0, 1] bcast_S4x1024_S4x1024x1_0_1 L)) shapeCasts_S4x1024x1x407_S4x1024x407

/-- The three beside each other. -/
def joined (L : FVec Ideal S4x1024x407 .f32) (U : FVec Ideal S4x407x512 .f32) : FVec Ideal S4x1792x407 .f32 :=
  concatenate S4x1792x407 1 [⟨S4x1024x407, L⟩, ⟨S4x512x407, transpose S4x512x407 [0, 2, 1] U transposes_S4x407x512_S4x512x407_0_2_1⟩,
    ⟨S4x256x407, transpose S4x256x407 [0, 2, 1] (extractStridedSlice S4x407x256 ![0, 0, 0] X slices_S4x407x262_S4x407x256_0_0_0) transposes_S4x407x256_S4x256x407_0_2_1⟩]
    concatenates_S4x1024x407_S4x512x407_S4x256x407_S4x1792x407_d1

/-- The fused features are the specification's. -/
theorem fused_at (b : Fin 4) (p : Fin 407) (c : Fin 512) : fusedOf S X Wo (ix3 b p c)
    = fused (fun p c => S (ix3 b p c)) (fun p k => X (ix3 b p k)) (fun k c => Wo (ix2 k c)) p c := by
  pointwise [fusedOf]
  unfold fused
  rw [Fin.sum_univ_add (a := 512) (b := 262)
    (fun k => (if h : k.val < 512 then S (ix3 b p ⟨k.val, h⟩) else X (ix3 b p ⟨k.val - 512, by omega⟩)) * Wo (ix2 k c))]
  congr 2

/-- The global features are the specification's. -/
theorem largest_at (U : FVec Ideal S4x407x512 .f32) (b : Fin 4) (c : Fin 1024) : largestOf Wg U (ix2 b c)
    = largest (fun p k => U (ix3 b p k)) (fun k c => Wg (ix2 k c)) c := by
  pointwise [largestOf]
  have e : Ideal.ofBits .f32 0xFF800000#32 = ⊥ := by simp [Ideal.ofBits, Ideal.ieee]
  rw [e]
  rfl

/-- Every node has the same global features. -/
theorem spread_at (L : FVec Ideal S4x1024 .f32) (b : Fin 4) (c : Fin 1024) (p : Fin 407) : spreadOf L (ix3 b c p) = L (ix2 b c) := by
  pointwise [spreadOf]

/-- The three parts of the result, by the row. -/
theorem joined_at (L : FVec Ideal S4x1024x407 .f32) (U : FVec Ideal S4x407x512 .f32) (b : Fin 4) (r : Fin 1792) (p : Fin 407) :
    joined X L U (ix3 b r p) = if h : r.val < 1024 then L (ix3 b ⟨r.val, h⟩ p) else if h : r.val < 1536 then U (ix3 b p ⟨r.val - 1024, by omega⟩)
      else X (ix3 b p ⟨r.val - 1536, by omega⟩) := by
  pointwise [joined]
  by_cases h : r.val < 1024
  · rw [dif_pos h, dif_pos h]
  · rw [dif_neg h, dif_neg h]
    by_cases g : r.val < 1536
    · rw [dif_pos (by omega), dif_pos g]
    · rw [dif_neg (by omega), dif_neg g]
      exact congrArg (fun q => X (ix3 b p q)) (Fin.ext (show r.val - 1024 - 512 = r.val - 1536 by omega))

end Last

/-- The result after the loop. -/
theorem last_joined (W : Valuation τ sig (Elt Ideal)) : after hostOps0_11 W (Proc.devRef .tc main_v38)
    = joined (W (Proc.devRef .tc main_v22)) (spreadOf (largestOf (W (Proc.devRef .tc main_arg13))
        (fusedOf (W (Proc.devRef .tc main_v26_8)) (W (Proc.devRef .tc main_v22)) (W (Proc.devRef .tc main_arg12)))))
        (fusedOf (W (Proc.devRef .tc main_v26_8)) (W (Proc.devRef .tc main_v22)) (W (Proc.devRef .tc main_arg12))) := by
  have e34 : upto hostOps0_11 W 12 (Proc.devRef .tc main_v34) = spreadOf (largestOf (W (Proc.devRef .tc main_arg13))
        (fusedOf (W (Proc.devRef .tc main_v26_8)) (W (Proc.devRef .tc main_v22)) (W (Proc.devRef .tc main_arg12)))) := by
    after_reads_simp
    rfl
  have e35 : upto hostOps0_11 W 12 (Proc.devRef .tc main_v35) = transpose S4x512x407 [0, 2, 1]
        (fusedOf (W (Proc.devRef .tc main_v26_8)) (W (Proc.devRef .tc main_v22)) (W (Proc.devRef .tc main_arg12))) transposes_S4x407x512_S4x512x407_0_2_1 := by
    after_reads_simp
    rfl
  have e37 : upto hostOps0_11 W 12 (Proc.devRef .tc main_v37) = transpose S4x256x407 [0, 2, 1]
        (extractStridedSlice S4x407x256 ![0, 0, 0] (W (Proc.devRef .tc main_v22)) slices_S4x407x262_S4x407x256_0_0_0) transposes_S4x407x256_S4x256x407_0_2_1 := by
    after_reads_simp
  after_reads_simp
  show concatenate S4x1792x407 1 [⟨S4x1024x407, upto hostOps0_11 W 12 (Proc.devRef .tc main_v34)⟩,
        ⟨S4x512x407, upto hostOps0_11 W 12 (Proc.devRef .tc main_v35)⟩,
        ⟨S4x256x407, upto hostOps0_11 W 12 (Proc.devRef .tc main_v37)⟩] concatenates_S4x1024x407_S4x512x407_S4x256x407_S4x1792x407_d1 = _
  rw [e34, e35, e37]
  rfl

/-- The reference's result is the answer on the launch's arguments. -/
theorem result_at (b : Fin 4) (r : Fin 1792) (p : Fin 407) : finalContents condOps preI bodyI postI 10 m d (Proc.devRef .tc main_v38) (ix3 b r p)
    = answer (fun b i k => at0 m d main_arg0 (ix3 b i k)) (fun b i => (at0 m d main_arg1 (ix2 b i) : BitVec 32).toNat)
        (fun b p k => at0 m d main_arg2 (ix3 b p k)) (fun b p q => at0 m d main_arg3 (ix3 b p q)) (fun k b => at0 m d main_arg4 (ix2 k b))
        (fun b a => at0 m d main_arg5 (ix2 b a)) (fun a c => at0 m d main_arg6 (ix2 a c)) (fun k c => at0 m d main_arg7 (ix2 k c))
        (fun k c => at0 m d main_arg8 (ix2 k c)) (fun k c => at0 m d main_arg9 (ix2 k c)) (fun k c => at0 m d main_arg10 (ix2 k c))
        (fun k c => at0 m d main_arg11 (ix2 k c)) (fun k c => at0 m d main_arg12 (ix2 k c)) (fun k c => at0 m d main_arg13 (ix2 k c)) b r p := by
  have w22 := (kept m d 10 main_v22 (by decide +kernel)).trans (trip_keep m d main_v22 (by decide +kernel) (by decide +kernel) 10)
  have w12 := (kept m d 10 main_arg12 (by decide +kernel)).trans ((trip_keep m d main_arg12 (by decide +kernel) (by decide +kernel) 10).trans
    (entry_keep m d main_arg12 (by decide +kernel)))
  have w13 := (kept m d 10 main_arg13 (by decide +kernel)).trans ((trip_keep m d main_arg13 (by decide +kernel) (by decide +kernel) 10).trans
    (entry_keep m d main_arg13 (by decide +kernel)))
  have w8 := kept m d 10 main_v26_8 (by decide +kernel)
  refine (congrFun (last_joined (after condOps (atK m 10 d))) (ix3 b r p)).trans ?_
  rw [w22, w12, w13, w8]
  have hn : (fun p k => entryContents preI m d (Proc.devRef .tc main_v22) (ix3 b p k)) = featAt m d b :=
    funext fun p => funext fun k => entry_nodes m d b p k
  have hu : ∀ p c, fusedOf (atK m 10 d (Proc.devRef .tc main_v26_8)) (entryContents preI m d (Proc.devRef .tc main_v22)) (at0 m d main_arg12) (ix3 b p c) = _ :=
    fun p c => (fused_at _ _ _ b p c).trans (by rw [state_at, hn])
  refine (joined_at _ _ _ b r p).trans ?_
  simp only [spread_at, largest_at, hu]
  unfold answer result
  by_cases h : r.val < 1024
  · rw [dif_pos h, dif_pos h]
    rfl
  · rw [dif_neg h, dif_neg h]
    by_cases g : r.val < 1536
    · rw [dif_pos g, dif_pos g]
      rfl
    · rw [dif_neg g, dif_neg g]
      refine (entry_nodes m d b p _).trans ?_
      unfold feat
      rw [dif_pos (show r.val - 1536 < 256 by omega)]

end Cert.Proof.ReferenceValue

end
-- ==== Proof.Algebraic.lean ====
/-
  The value claim: on finite points the idealized kernel and the reference end with the same result.
-/
module

public import proofs.«01_k».proof.Proof.KernelValue
public import proofs.«01_k».proof.Proof.ReferenceValue

@[expose] public section

set_option maxRecDepth 16384

noncomputable section

namespace Cert.Proof

open Idealize.ShloMosaic Idealize.ShloMosaic.TcCoe Idealize.SL.Sem

/-- Where the arguments agree and the points and their weights are finite, the two results are equal element by element. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (f0 : ∀ (b : Fin 4) (n : Fin 2048) (k : Fin 12), IsReal (KernelValue.at0 m c Cert.KernelIdeal.main_arg0 (ix3 b n ⟨k.val, by omega⟩))) (f4 : ∀ i, IsReal (KernelValue.at0 m c Cert.KernelIdeal.main_arg4 i))
    (f5 : ∀ i, IsReal (KernelValue.at0 m c Cert.KernelIdeal.main_arg5 i)) (f6 : ∀ i, IsReal (KernelValue.at0 m c Cert.KernelIdeal.main_arg6 i))
    (e0 : ReferenceValue.at0 m' c Cert.ReferenceIdeal.main_arg0 = KernelValue.at0 m c Cert.KernelIdeal.main_arg0)
    (e1 : ReferenceValue.at0 m' c Cert.ReferenceIdeal.main_arg1 = KernelValue.at0 m c Cert.KernelIdeal.main_arg1)
    (e2 : ReferenceValue.at0 m' c Cert.ReferenceIdeal.main_arg2 = KernelValue.at0 m c Cert.KernelIdeal.main_arg2)
    (e3 : ReferenceValue.at0 m' c Cert.ReferenceIdeal.main_arg3 = KernelValue.at0 m c Cert.KernelIdeal.main_arg3)
    (e4 : ReferenceValue.at0 m' c Cert.ReferenceIdeal.main_arg4 = KernelValue.at0 m c Cert.KernelIdeal.main_arg4)
    (e5 : ReferenceValue.at0 m' c Cert.ReferenceIdeal.main_arg5 = KernelValue.at0 m c Cert.KernelIdeal.main_arg5)
    (e6 : ReferenceValue.at0 m' c Cert.ReferenceIdeal.main_arg6 = KernelValue.at0 m c Cert.KernelIdeal.main_arg6)
    (e7 : ReferenceValue.at0 m' c Cert.ReferenceIdeal.main_arg7 = KernelValue.at0 m c Cert.KernelIdeal.main_arg7)
    (e8 : ReferenceValue.at0 m' c Cert.ReferenceIdeal.main_arg8 = KernelValue.at0 m c Cert.KernelIdeal.main_arg8)
    (e9 : ReferenceValue.at0 m' c Cert.ReferenceIdeal.main_arg9 = KernelValue.at0 m c Cert.KernelIdeal.main_arg9)
    (e10 : ReferenceValue.at0 m' c Cert.ReferenceIdeal.main_arg10 = KernelValue.at0 m c Cert.KernelIdeal.main_arg10)
    (e11 : ReferenceValue.at0 m' c Cert.ReferenceIdeal.main_arg11 = KernelValue.at0 m c Cert.KernelIdeal.main_arg11)
    (e12 : ReferenceValue.at0 m' c Cert.ReferenceIdeal.main_arg12 = KernelValue.at0 m c Cert.KernelIdeal.main_arg12)
    (e13 : ReferenceValue.at0 m' c Cert.ReferenceIdeal.main_arg13 = KernelValue.at0 m c Cert.KernelIdeal.main_arg13) :
    StableHlo.finalContents Cert.ReferenceIdeal.Value.condOps Cert.ReferenceIdeal.Value.preI Cert.ReferenceIdeal.Value.bodyI Cert.ReferenceIdeal.Value.postI 10 m' c
        (Proc.devRef .tc Cert.ReferenceIdeal.main_v38)
      = Launch.V6 m c (Proc.devRef .tc Cert.KernelIdeal.main_v28) := by
  funext j
  idx_vars j
  refine (ReferenceValue.result_at m' c _ _ _).trans (Eq.trans ?_ (KernelValue.result_at m c f0 f4 f5 f6 _ _ _).symm)
  rw [e0, e1, e2, e3, e4, e5, e6, e7, e8, e9, e10, e11, e12, e13]

/-- On finite points the idealized kernel and the reference both run to their ends, with equal results and the arguments as launched. -/
theorem algebraic : Cert.algebraic_KernelIdeal_ReferenceIdeal_pre_finite_points := by
  intro m g m' g' hpre hargs
  refine ⟨fun c => Launch.V6 m c (Proc.devRef .tc Cert.KernelIdeal.main_v28), ?_, ?_⟩
  · refine (θ_run _ _ _).mono (fun r h c => ?_) (run_args (F := Ideal) m g fun d i => (finite_points_reads (hpre d)).1 i)
    have k := fun b hb => arg_kept m r.2.mem h.1 c b (args_ok b hb)
    exact ⟨h.1 c _ (by decide +kernel), k _ (by decide), k _ (by decide), k _ (by decide), k _ (by decide), k _ (by decide), k _ (by decide),
      k _ (by decide), k _ (by decide), k _ (by decide), k _ (by decide), k _ (by decide), k _ (by decide), k _ (by decide), k _ (by decide)⟩
  · refine (θ_run _ _ _).mono (fun r h c => ?_) (Cert.ReferenceIdeal.Value.run_fold m' g')
    obtain ⟨_, f0, f4, f5, f6⟩ := finite_points_reads (hpre c)
    obtain ⟨e0, e1, e2, e3, e4, e5, e6, e7, e8, e9, e10, e11, e12, e13⟩ := hargs c
    have k : ∀ b : Ref Cert.ReferenceIdeal.sig .tc, b ∉ Reference.Wref ∧ (Proc.devRef .tc b : DevRef Cert.ReferenceIdeal.τ Cert.ReferenceIdeal.sig).isScoped = false →
        r.2.mem ((c.tc : Thread Cert.ReferenceIdeal.nD Cert.ReferenceIdeal.τ).loc b) = m' ((c.tc : Thread Cert.ReferenceIdeal.nD Cert.ReferenceIdeal.τ).loc b) :=
      fun b e => (h c b e.2).trans (Reference.final_keep m' c b e.1)
    exact ⟨(h c _ (by decide +kernel)).trans (results_equal m m' c f0 f4 f5 f6 e0 e1 e2 e3 e4 e5 e6 e7 e8 e9 e10 e11 e12 e13),
      k _ (by decide +kernel), k _ (by decide +kernel), k _ (by decide +kernel), k _ (by decide +kernel), k _ (by decide +kernel), k _ (by decide +kernel),
      k _ (by decide +kernel), k _ (by decide +kernel), k _ (by decide +kernel), k _ (by decide +kernel), k _ (by decide +kernel), k _ (by decide +kernel),
      k _ (by decide +kernel), k _ (by decide +kernel)⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.FrameKernel
public import proofs.«01_k».proof.Proof.ReferenceFrame
public import proofs.«01_k».proof.Proof.Finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The named constants are minus infinity. -/
theorem preserves : Cert.preserves_Kernel_KernelIdeal :=
  ⟨IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts, superpointsFacts, finitePointsFacts,
  frame_kernel, frame_ideal, frame_ideal_finite, frame_reference, frame_reference_finite, preserves, algebraic⟩

end Cert.Proof

end
